-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_KernelIdeal [hPre_finite_queries_KernelIdeal : Cert.Pre_finite_queries_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_ReferenceIdeal [hPre_finite_queries_ReferenceIdeal : Cert.Pre_finite_queries_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_KernelIdeal [hKernelIdeal : Cert.KernelIdeal.Facts] [hPre_finite_queries_KernelIdeal : Cert.Pre_finite_queries_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_ReferenceIdeal [hReferenceIdeal : Cert.ReferenceIdeal.Facts] [hPre_finite_queries_ReferenceIdeal : Cert.Pre_finite_queries_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log_base" .f32 0xBE935D8E#32 ((-((1 / 32) * (Real.log 10000)) : ℝ) : EReal)
  ∧ IdealRules.named_const.Statement Cert.KernelIdeal.κ "score_scale" .f32 0x3A810204#32 ((1 / 1016 : ℝ) : EReal)
  ∧ IdealRules.named_const.Statement Cert.KernelIdeal.κ "value_scale" .f32 0x3C010204#32 ((1 / 127 : ℝ) : EReal)

def algebraic_KernelIdeal_ReferenceIdeal_pre_finite_queries_KernelIdeal [hKernelIdeal : Cert.KernelIdeal.Facts] [hReferenceIdeal : Cert.ReferenceIdeal.Facts] [hPre_finite_queries_KernelIdeal : Cert.Pre_finite_queries_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 4096, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 4096, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v118) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_queries_KernelIdeal : Cert.Pre_finite_queries_KernelIdeal.Facts) (hPre_finite_queries_ReferenceIdeal : Cert.Pre_finite_queries_ReferenceIdeal.Facts),
    quiescent_Kernel (hKernel := hKernel)
    ∧ quiescent_KernelIdeal (hKernelIdeal := hKernelIdeal)
    ∧ quiescent_KernelIdeal_pre_finite_queries_KernelIdeal (hKernelIdeal := hKernelIdeal) (hPre_finite_queries_KernelIdeal := hPre_finite_queries_KernelIdeal)
    ∧ quiescent_ReferenceIdeal (hReferenceIdeal := hReferenceIdeal)
    ∧ quiescent_ReferenceIdeal_pre_finite_queries_ReferenceIdeal (hReferenceIdeal := hReferenceIdeal) (hPre_finite_queries_ReferenceIdeal := hPre_finite_queries_ReferenceIdeal)
    ∧ preserves_Kernel_KernelIdeal
    ∧ algebraic_KernelIdeal_ReferenceIdeal_pre_finite_queries_KernelIdeal (hKernelIdeal := hKernelIdeal) (hReferenceIdeal := hReferenceIdeal) (hPre_finite_queries_KernelIdeal := hPre_finite_queries_KernelIdeal)
-- ==== Pre_finite_queries_KernelIdeal.lean ====
abbrev S2x128x512 : Shape := ⟨3, ![2, 128, 512]⟩
abbrev S512x256 : Shape := ⟨2, ![512, 256]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x128x512 .f32) (main_arg1 : FVec F S512x256 .f32) (main_arg2 : FVec F S512x256 .f32) (main_arg3 : FVec F S512x256 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Pre_finite_queries_ReferenceIdeal.lean ====
abbrev S2x4096x512 : Shape := ⟨3, ![2, 4096, 512]⟩
abbrev S512x256 : Shape := ⟨2, ![512, 256]⟩
abbrev S256x512 : Shape := ⟨2, ![256, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x4096x512 .f32) (main_arg1 : FVec F S512x256 .f32) (main_arg2 : FVec F S512x256 .f32) (main_arg3 : FVec F S512x256 .f32) (main_arg4 : FVec F S256x512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S2x128x512 : Shape := ⟨3, ![2, 128, 512]⟩
abbrev S512x256 : Shape := ⟨2, ![512, 256]⟩
abbrev S256x512 : Shape := ⟨2, ![256, 512]⟩
abbrev S2x4096x512 : Shape := ⟨3, ![2, 4096, 512]⟩
abbrev S32x128 : Shape := ⟨2, ![32, 128]⟩
abbrev S32 : Shape := ⟨1, ![32]⟩
abbrev S_ : Shape := ⟨0, ![]⟩
abbrev S256x256 : Shape := ⟨2, ![256, 256]⟩
abbrev S256x255 : Shape := ⟨2, ![256, 255]⟩
abbrev S256x1 : Shape := ⟨2, ![256, 1]⟩
abbrev S1x256x256 : Shape := ⟨3, ![1, 256, 256]⟩
abbrev S1 : Shape := ⟨1, ![1]⟩
abbrev S1x1x1 : Shape := ⟨3, ![1, 1, 1]⟩
abbrev S2x128x256 : Shape := ⟨3, ![2, 128, 256]⟩
abbrev S1x128 : Shape := ⟨2, ![1, 128]⟩
abbrev S128x64 : Shape := ⟨2, ![128, 64]⟩
abbrev S128x1 : Shape := ⟨2, ![128, 1]⟩
abbrev S1x1 : Shape := ⟨2, ![1, 1]⟩
abbrev S1x1024x64 : Shape := ⟨3, ![1, 1024, 64]⟩
abbrev S1024x64 : Shape := ⟨2, ![1024, 64]⟩
abbrev S128x1024 : Shape := ⟨2, ![128, 1024]⟩
abbrev S128x128 : Shape := ⟨2, ![128, 128]⟩
abbrev S128 : Shape := ⟨1, ![128]⟩
abbrev S128x256 : Shape := ⟨2, ![128, 256]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x512, .f32⟩
  | .local _ .vmem, ⟨5, _⟩ => ⟨S2x128x512, .f32⟩
  | .local _ .vmem, ⟨6, _⟩ => ⟨S2x4096x512, .i8⟩
  | .local _ .vmem, ⟨7, _⟩ => ⟨S32x128, .f32⟩
  | _, _ => ⟨S2x128x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_175 : BitVec 32 := 1#32
  let v288 : BitVec 32 := Scalar.addi v2 c1_i32_175
  let c32_i32_176 : BitVec 32 := 32#32
  let v289 : BitVec 32 := Scalar.remsi v288 c32_i32_176
  let c1_i32_179 : BitVec 32 := 1#32
  let v290 : BitVec 32 := Scalar.muli v289 c1_i32_179
  let v291 : BitVec 32 := Scalar.addi c0_i32_180 v290
  v291.toNat
def k0_dev33 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_186 : BitVec 32 := 1#32
  let v298 : BitVec 32 := Scalar.addi v2 c1_i32_186
  let c32_i32_187 : BitVec 32 := 32#32
  let v299 : BitVec 32 := Scalar.remsi v298 c32_i32_187
  let c1_i32_190 : BitVec 32 := 1#32
  let v300 : BitVec 32 := Scalar.muli v299 c1_i32_190
  let v301 : BitVec 32 := Scalar.addi c0_i32_191 v300
  v301.toNat
def k0_dev34 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_196 : BitVec 32 := 2#32
  let v308 : BitVec 32 := Scalar.addi v2 c2_i32_196
  let c32_i32_197 : BitVec 32 := 32#32
  let v309 : BitVec 32 := Scalar.remsi v308 c32_i32_197
  let c1_i32_200 : BitVec 32 := 1#32
  let v310 : BitVec 32 := Scalar.muli v309 c1_i32_200
  let v311 : BitVec 32 := Scalar.addi c0_i32_201 v310
  v311.toNat
def k0_dev35 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_207 : BitVec 32 := 2#32
  let v318 : BitVec 32 := Scalar.addi v2 c2_i32_207
  let c32_i32_208 : BitVec 32 := 32#32
  let v319 : BitVec 32 := Scalar.remsi v318 c32_i32_208
  let c1_i32_211 : BitVec 32 := 1#32
  let v320 : BitVec 32 := Scalar.muli v319 c1_i32_211
  let v321 : BitVec 32 := Scalar.addi c0_i32_212 v320
  v321.toNat
def k0_dev36 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_217 : BitVec 32 := 3#32
  let v328 : BitVec 32 := Scalar.addi v2 c3_i32_217
  let c32_i32_218 : BitVec 32 := 32#32
  let v329 : BitVec 32 := Scalar.remsi v328 c32_i32_218
  let c1_i32_221 : BitVec 32 := 1#32
  let v330 : BitVec 32 := Scalar.muli v329 c1_i32_221
  let v331 : BitVec 32 := Scalar.addi c0_i32_222 v330
  v331.toNat
def k0_dev37 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_228 : BitVec 32 := 3#32
  let v338 : BitVec 32 := Scalar.addi v2 c3_i32_228
  let c32_i32_229 : BitVec 32 := 32#32
  let v339 : BitVec 32 := Scalar.remsi v338 c32_i32_229
  let c1_i32_232 : BitVec 32 := 1#32
  let v340 : BitVec 32 := Scalar.muli v339 c1_i32_232
  let v341 : BitVec 32 := Scalar.addi c0_i32_233 v340
  v341.toNat
def k0_dev38 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_238 : BitVec 32 := 4#32
  let v348 : BitVec 32 := Scalar.addi v2 c4_i32_238
  let c32_i32_239 : BitVec 32 := 32#32
  let v349 : BitVec 32 := Scalar.remsi v348 c32_i32_239
  let c1_i32_242 : BitVec 32 := 1#32
  let v350 : BitVec 32 := Scalar.muli v349 c1_i32_242
  let v351 : BitVec 32 := Scalar.addi c0_i32_243 v350
  v351.toNat
def k0_dev39 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_249 : BitVec 32 := 4#32
  let v358 : BitVec 32 := Scalar.addi v2 c4_i32_249
  let c32_i32_250 : BitVec 32 := 32#32
  let v359 : BitVec 32 := Scalar.remsi v358 c32_i32_250
  let c1_i32_253 : BitVec 32 := 1#32
  let v360 : BitVec 32 := Scalar.muli v359 c1_i32_253
  let v361 : BitVec 32 := Scalar.addi c0_i32_254 v360
  v361.toNat
def k0_dev40 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_259 : BitVec 32 := 5#32
  let v368 : BitVec 32 := Scalar.addi v2 c5_i32_259
  let c32_i32_260 : BitVec 32 := 32#32
  let v369 : BitVec 32 := Scalar.remsi v368 c32_i32_260
  let c1_i32_263 : BitVec 32 := 1#32
  let v370 : BitVec 32 := Scalar.muli v369 c1_i32_263
  let v371 : BitVec 32 := Scalar.addi c0_i32_264 v370
  v371.toNat
def k0_dev41 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_270 : BitVec 32 := 5#32
  let v378 : BitVec 32 := Scalar.addi v2 c5_i32_270
  let c32_i32_271 : BitVec 32 := 32#32
  let v379 : BitVec 32 := Scalar.remsi v378 c32_i32_271
  let c1_i32_274 : BitVec 32 := 1#32
  let v380 : BitVec 32 := Scalar.muli v379 c1_i32_274
  let v381 : BitVec 32 := Scalar.addi c0_i32_275 v380
  v381.toNat
def k0_dev42 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_280 : BitVec 32 := 6#32
  let v388 : BitVec 32 := Scalar.addi v2 c6_i32_280
  let c32_i32_281 : BitVec 32 := 32#32
  let v389 : BitVec 32 := Scalar.remsi v388 c32_i32_281
  let c1_i32_284 : BitVec 32 := 1#32
  let v390 : BitVec 32 := Scalar.muli v389 c1_i32_284
  let v391 : BitVec 32 := Scalar.addi c0_i32_285 v390
  v391.toNat
def k0_dev43 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_291 : BitVec 32 := 6#32
  let v398 : BitVec 32 := Scalar.addi v2 c6_i32_291
  let c32_i32_292 : BitVec 32 := 32#32
  let v399 : BitVec 32 := Scalar.remsi v398 c32_i32_292
  let c1_i32_295 : BitVec 32 := 1#32
  let v400 : BitVec 32 := Scalar.muli v399 c1_i32_295
  let v401 : BitVec 32 := Scalar.addi c0_i32_296 v400
  v401.toNat
def k0_dev44 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_301 : BitVec 32 := 7#32
  let v408 : BitVec 32 := Scalar.addi v2 c7_i32_301
  let c32_i32_302 : BitVec 32 := 32#32
  let v409 : BitVec 32 := Scalar.remsi v408 c32_i32_302
  let c1_i32_305 : BitVec 32 := 1#32
  let v410 : BitVec 32 := Scalar.muli v409 c1_i32_305
  let v411 : BitVec 32 := Scalar.addi c0_i32_306 v410
  v411.toNat
def k0_dev45 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_312 : BitVec 32 := 7#32
  let v418 : BitVec 32 := Scalar.addi v2 c7_i32_312
  let c32_i32_313 : BitVec 32 := 32#32
  let v419 : BitVec 32 := Scalar.remsi v418 c32_i32_313
  let c1_i32_316 : BitVec 32 := 1#32
  let v420 : BitVec 32 := Scalar.muli v419 c1_i32_316
  let v421 : BitVec 32 := Scalar.addi c0_i32_317 v420
  v421.toNat
def k0_dev46 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_322 : BitVec 32 := 8#32
  let v428 : BitVec 32 := Scalar.addi v2 c8_i32_322
  let c32_i32_323 : BitVec 32 := 32#32
  let v429 : BitVec 32 := Scalar.remsi v428 c32_i32_323
  let c1_i32_326 : BitVec 32 := 1#32
  let v430 : BitVec 32 := Scalar.muli v429 c1_i32_326
  let v431 : BitVec 32 := Scalar.addi c0_i32_327 v430
  v431.toNat
def k0_dev47 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_333 : BitVec 32 := 8#32
  let v438 : BitVec 32 := Scalar.addi v2 c8_i32_333
  let c32_i32_334 : BitVec 32 := 32#32
  let v439 : BitVec 32 := Scalar.remsi v438 c32_i32_334
  let c1_i32_337 : BitVec 32 := 1#32
  let v440 : BitVec 32 := Scalar.muli v439 c1_i32_337
  let v441 : BitVec 32 := Scalar.addi c0_i32_338 v440
  v441.toNat
def k0_dev48 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_343 : BitVec 32 := 9#32
  let v448 : BitVec 32 := Scalar.addi v2 c9_i32_343
  let c32_i32_344 : BitVec 32 := 32#32
  let v449 : BitVec 32 := Scalar.remsi v448 c32_i32_344
  let c1_i32_347 : BitVec 32 := 1#32
  let v450 : BitVec 32 := Scalar.muli v449 c1_i32_347
  let v451 : BitVec 32 := Scalar.addi c0_i32_348 v450
  v451.toNat
def k0_dev49 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_354 : BitVec 32 := 9#32
  let v458 : BitVec 32 := Scalar.addi v2 c9_i32_354
  let c32_i32_355 : BitVec 32 := 32#32
  let v459 : BitVec 32 := Scalar.remsi v458 c32_i32_355
  let c1_i32_358 : BitVec 32 := 1#32
  let v460 : BitVec 32 := Scalar.muli v459 c1_i32_358
  let v461 : BitVec 32 := Scalar.addi c0_i32_359 v460
  v461.toNat
def k0_dev50 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_364 : BitVec 32 := 10#32
  let v468 : BitVec 32 := Scalar.addi v2 c10_i32_364
  let c32_i32_365 : BitVec 32 := 32#32
  let v469 : BitVec 32 := Scalar.remsi v468 c32_i32_365
  let c1_i32_368 : BitVec 32 := 1#32
  let v470 : BitVec 32 := Scalar.muli v469 c1_i32_368
  let v471 : BitVec 32 := Scalar.addi c0_i32_369 v470
  v471.toNat
def k0_dev51 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_375 : BitVec 32 := 10#32
  let v478 : BitVec 32 := Scalar.addi v2 c10_i32_375
  let c32_i32_376 : BitVec 32 := 32#32
  let v479 : BitVec 32 := Scalar.remsi v478 c32_i32_376
  let c1_i32_379 : BitVec 32 := 1#32
  let v480 : BitVec 32 := Scalar.muli v479 c1_i32_379
  let v481 : BitVec 32 := Scalar.addi c0_i32_380 v480
  v481.toNat
def k0_dev52 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_385 : BitVec 32 := 11#32
  let v488 : BitVec 32 := Scalar.addi v2 c11_i32_385
  let c32_i32_386 : BitVec 32 := 32#32
  let v489 : BitVec 32 := Scalar.remsi v488 c32_i32_386
  let c1_i32_389 : BitVec 32 := 1#32
  let v490 : BitVec 32 := Scalar.muli v489 c1_i32_389
  let v491 : BitVec 32 := Scalar.addi c0_i32_390 v490
  v491.toNat
def k0_dev53 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_396 : BitVec 32 := 11#32
  let v498 : BitVec 32 := Scalar.addi v2 c11_i32_396
  let c32_i32_397 : BitVec 32 := 32#32
  let v499 : BitVec 32 := Scalar.remsi v498 c32_i32_397
  let c1_i32_400 : BitVec 32 := 1#32
  let v500 : BitVec 32 := Scalar.muli v499 c1_i32_400
  let v501 : BitVec 32 := Scalar.addi c0_i32_401 v500
  v501.toNat
def k0_dev54 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_406 : BitVec 32 := 12#32
  let v508 : BitVec 32 := Scalar.addi v2 c12_i32_406
  let c32_i32_407 : BitVec 32 := 32#32
  let v509 : BitVec 32 := Scalar.remsi v508 c32_i32_407
  let c1_i32_410 : BitVec 32 := 1#32
  let v510 : BitVec 32 := Scalar.muli v509 c1_i32_410
  let v511 : BitVec 32 := Scalar.addi c0_i32_411 v510
  v511.toNat
def k0_dev55 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_417 : BitVec 32 := 12#32
  let v518 : BitVec 32 := Scalar.addi v2 c12_i32_417
  let c32_i32_418 : BitVec 32 := 32#32
  let v519 : BitVec 32 := Scalar.remsi v518 c32_i32_418
  let c1_i32_421 : BitVec 32 := 1#32
  let v520 : BitVec 32 := Scalar.muli v519 c1_i32_421
  let v521 : BitVec 32 := Scalar.addi c0_i32_422 v520
  v521.toNat
def k0_dev56 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_427 : BitVec 32 := 13#32
  let v528 : BitVec 32 := Scalar.addi v2 c13_i32_427
  let c32_i32_428 : BitVec 32 := 32#32
  let v529 : BitVec 32 := Scalar.remsi v528 c32_i32_428
  let c1_i32_431 : BitVec 32 := 1#32
  let v530 : BitVec 32 := Scalar.muli v529 c1_i32_431
  let v531 : BitVec 32 := Scalar.addi c0_i32_432 v530
  v531.toNat
def k0_dev57 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_438 : BitVec 32 := 13#32
  let v538 : BitVec 32 := Scalar.addi v2 c13_i32_438
  let c32_i32_439 : BitVec 32 := 32#32
  let v539 : BitVec 32 := Scalar.remsi v538 c32_i32_439
  let c1_i32_442 : BitVec 32 := 1#32
  let v540 : BitVec 32 := Scalar.muli v539 c1_i32_442
  let v541 : BitVec 32 := Scalar.addi c0_i32_443 v540
  v541.toNat
def k0_dev58 (d0 : Dev nD) : Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_448 : BitVec 32 := 14#32
  let v548 : BitVec 32 := Scalar.addi v2 c14_i32_448
  let c32_i32_449 : BitVec 32 := 32#32
  let v549 : BitVec 32 := Scalar.remsi v548 c32_i32_449
  let c1_i32_452 : BitVec 32 := 1#32
  let v550 : BitVec 32 := Scalar.muli v549 c1_i32_452
  let v551 : BitVec 32 := Scalar.addi c0_i32_453 v550
  v551.toNat
def k0_dev59 (d0 : Dev nD) : Nat :=
  let c0_i32_464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_459 : BitVec 32 := 14#32
  let v558 : BitVec 32 := Scalar.addi v2 c14_i32_459
  let c32_i32_460 : BitVec 32 := 32#32
  let v559 : BitVec 32 := Scalar.remsi v558 c32_i32_460
  let c1_i32_463 : BitVec 32 := 1#32
  let v560 : BitVec 32 := Scalar.muli v559 c1_i32_463
  let v561 : BitVec 32 := Scalar.addi c0_i32_464 v560
  v561.toNat
def k0_dev60 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_469 : BitVec 32 := 15#32
  let v568 : BitVec 32 := Scalar.addi v2 c15_i32_469
  let c32_i32_470 : BitVec 32 := 32#32
  let v569 : BitVec 32 := Scalar.remsi v568 c32_i32_470
  let c1_i32_473 : BitVec 32 := 1#32
  let v570 : BitVec 32 := Scalar.muli v569 c1_i32_473
  let v571 : BitVec 32 := Scalar.addi c0_i32_474 v570
  v571.toNat
def k0_dev61 (d0 : Dev nD) : Nat :=
  let c0_i32_485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_480 : BitVec 32 := 15#32
  let v578 : BitVec 32 := Scalar.addi v2 c15_i32_480
  let c32_i32_481 : BitVec 32 := 32#32
  let v579 : BitVec 32 := Scalar.remsi v578 c32_i32_481
  let c1_i32_484 : BitVec 32 := 1#32
  let v580 : BitVec 32 := Scalar.muli v579 c1_i32_484
  let v581 : BitVec 32 := Scalar.addi c0_i32_485 v580
  v581.toNat
def k0_dev62 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_490 : BitVec 32 := 16#32
  let v588 : BitVec 32 := Scalar.addi v2 c16_i32_490
  let c32_i32_491 : BitVec 32 := 32#32
  let v589 : BitVec 32 := Scalar.remsi v588 c32_i32_491
  let c1_i32_494 : BitVec 32 := 1#32
  let v590 : BitVec 32 := Scalar.muli v589 c1_i32_494
  let v591 : BitVec 32 := Scalar.addi c0_i32_495 v590
  v591.toNat
def k0_dev63 (d0 : Dev nD) : Nat :=
  let c0_i32_506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_501 : BitVec 32 := 16#32
  let v598 : BitVec 32 := Scalar.addi v2 c16_i32_501
  let c32_i32_502 : BitVec 32 := 32#32
  let v599 : BitVec 32 := Scalar.remsi v598 c32_i32_502
  let c1_i32_505 : BitVec 32 := 1#32
  let v600 : BitVec 32 := Scalar.muli v599 c1_i32_505
  let v601 : BitVec 32 := Scalar.addi c0_i32_506 v600
  v601.toNat
def k0_dev64 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_511 : BitVec 32 := 17#32
  let v608 : BitVec 32 := Scalar.addi v2 c17_i32_511
  let c32_i32_512 : BitVec 32 := 32#32
  let v609 : BitVec 32 := Scalar.remsi v608 c32_i32_512
  let c1_i32_515 : BitVec 32 := 1#32
  let v610 : BitVec 32 := Scalar.muli v609 c1_i32_515
  let v611 : BitVec 32 := Scalar.addi c0_i32_516 v610
  v611.toNat
def k0_dev65 (d0 : Dev nD) : Nat :=
  let c0_i32_527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_522 : BitVec 32 := 17#32
  let v618 : BitVec 32 := Scalar.addi v2 c17_i32_522
  let c32_i32_523 : BitVec 32 := 32#32
  let v619 : BitVec 32 := Scalar.remsi v618 c32_i32_523
  let c1_i32_526 : BitVec 32 := 1#32
  let v620 : BitVec 32 := Scalar.muli v619 c1_i32_526
  let v621 : BitVec 32 := Scalar.addi c0_i32_527 v620
  v621.toNat
def k0_dev66 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_532 : BitVec 32 := 18#32
  let v628 : BitVec 32 := Scalar.addi v2 c18_i32_532
  let c32_i32_533 : BitVec 32 := 32#32
  let v629 : BitVec 32 := Scalar.remsi v628 c32_i32_533
  let c1_i32_536 : BitVec 32 := 1#32
  let v630 : BitVec 32 := Scalar.muli v629 c1_i32_536
  let v631 : BitVec 32 := Scalar.addi c0_i32_537 v630
  v631.toNat
def k0_dev67 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_543 : BitVec 32 := 18#32
  let v638 : BitVec 32 := Scalar.addi v2 c18_i32_543
  let c32_i32_544 : BitVec 32 := 32#32
  let v639 : BitVec 32 := Scalar.remsi v638 c32_i32_544
  let c1_i32_547 : BitVec 32 := 1#32
  let v640 : BitVec 32 := Scalar.muli v639 c1_i32_547
  let v641 : BitVec 32 := Scalar.addi c0_i32_548 v640
  v641.toNat
def k0_dev68 (d0 : Dev nD) : Nat :=
  let c0_i32_558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_553 : BitVec 32 := 19#32
  let v648 : BitVec 32 := Scalar.addi v2 c19_i32_553
  let c32_i32_554 : BitVec 32 := 32#32
  let v649 : BitVec 32 := Scalar.remsi v648 c32_i32_554
  let c1_i32_557 : BitVec 32 := 1#32
  let v650 : BitVec 32 := Scalar.muli v649 c1_i32_557
  let v651 : BitVec 32 := Scalar.addi c0_i32_558 v650
  v651.toNat
def k0_dev69 (d0 : Dev nD) : Nat :=
  let c0_i32_569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_564 : BitVec 32 := 19#32
  let v658 : BitVec 32 := Scalar.addi v2 c19_i32_564
  let c32_i32_565 : BitVec 32 := 32#32
  let v659 : BitVec 32 := Scalar.remsi v658 c32_i32_565
  let c1_i32_568 : BitVec 32 := 1#32
  let v660 : BitVec 32 := Scalar.muli v659 c1_i32_568
  let v661 : BitVec 32 := Scalar.addi c0_i32_569 v660
  v661.toNat
def k0_dev70 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_574 : BitVec 32 := 20#32
  let v668 : BitVec 32 := Scalar.addi v2 c20_i32_574
  let c32_i32_575 : BitVec 32 := 32#32
  let v669 : BitVec 32 := Scalar.remsi v668 c32_i32_575
  let c1_i32_578 : BitVec 32 := 1#32
  let v670 : BitVec 32 := Scalar.muli v669 c1_i32_578
  let v671 : BitVec 32 := Scalar.addi c0_i32_579 v670
  v671.toNat
def k0_dev71 (d0 : Dev nD) : Nat :=
  let c0_i32_590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_585 : BitVec 32 := 20#32
  let v678 : BitVec 32 := Scalar.addi v2 c20_i32_585
  let c32_i32_586 : BitVec 32 := 32#32
  let v679 : BitVec 32 := Scalar.remsi v678 c32_i32_586
  let c1_i32_589 : BitVec 32 := 1#32
  let v680 : BitVec 32 := Scalar.muli v679 c1_i32_589
  let v681 : BitVec 32 := Scalar.addi c0_i32_590 v680
  v681.toNat
def k0_dev72 (d0 : Dev nD) : Nat :=
  let c0_i32_600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_595 : BitVec 32 := 21#32
  let v688 : BitVec 32 := Scalar.addi v2 c21_i32_595
  let c32_i32_596 : BitVec 32 := 32#32
  let v689 : BitVec 32 := Scalar.remsi v688 c32_i32_596
  let c1_i32_599 : BitVec 32 := 1#32
  let v690 : BitVec 32 := Scalar.muli v689 c1_i32_599
  let v691 : BitVec 32 := Scalar.addi c0_i32_600 v690
  v691.toNat
def k0_dev73 (d0 : Dev nD) : Nat :=
  let c0_i32_611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_606 : BitVec 32 := 21#32
  let v698 : BitVec 32 := Scalar.addi v2 c21_i32_606
  let c32_i32_607 : BitVec 32 := 32#32
  let v699 : BitVec 32 := Scalar.remsi v698 c32_i32_607
  let c1_i32_610 : BitVec 32 := 1#32
  let v700 : BitVec 32 := Scalar.muli v699 c1_i32_610
  let v701 : BitVec 32 := Scalar.addi c0_i32_611 v700
  v701.toNat
def k0_dev74 (d0 : Dev nD) : Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_616 : BitVec 32 := 22#32
  let v708 : BitVec 32 := Scalar.addi v2 c22_i32_616
  let c32_i32_617 : BitVec 32 := 32#32
  let v709 : BitVec 32 := Scalar.remsi v708 c32_i32_617
  let c1_i32_620 : BitVec 32 := 1#32
  let v710 : BitVec 32 := Scalar.muli v709 c1_i32_620
  let v711 : BitVec 32 := Scalar.addi c0_i32_621 v710
  v711.toNat
def k0_dev75 (d0 : Dev nD) : Nat :=
  let c0_i32_632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_627 : BitVec 32 := 22#32
  let v718 : BitVec 32 := Scalar.addi v2 c22_i32_627
  let c32_i32_628 : BitVec 32 := 32#32
  let v719 : BitVec 32 := Scalar.remsi v718 c32_i32_628
  let c1_i32_631 : BitVec 32 := 1#32
  let v720 : BitVec 32 := Scalar.muli v719 c1_i32_631
  let v721 : BitVec 32 := Scalar.addi c0_i32_632 v720
  v721.toNat
def k0_dev76 (d0 : Dev nD) : Nat :=
  let c0_i32_642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_637 : BitVec 32 := 23#32
  let v728 : BitVec 32 := Scalar.addi v2 c23_i32_637
  let c32_i32_638 : BitVec 32 := 32#32
  let v729 : BitVec 32 := Scalar.remsi v728 c32_i32_638
  let c1_i32_641 : BitVec 32 := 1#32
  let v730 : BitVec 32 := Scalar.muli v729 c1_i32_641
  let v731 : BitVec 32 := Scalar.addi c0_i32_642 v730
  v731.toNat
def k0_dev77 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_648 : BitVec 32 := 23#32
  let v738 : BitVec 32 := Scalar.addi v2 c23_i32_648
  let c32_i32_649 : BitVec 32 := 32#32
  let v739 : BitVec 32 := Scalar.remsi v738 c32_i32_649
  let c1_i32_652 : BitVec 32 := 1#32
  let v740 : BitVec 32 := Scalar.muli v739 c1_i32_652
  let v741 : BitVec 32 := Scalar.addi c0_i32_653 v740
  v741.toNat
def k0_dev78 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_658 : BitVec 32 := 24#32
  let v748 : BitVec 32 := Scalar.addi v2 c24_i32_658
  let c32_i32_659 : BitVec 32 := 32#32
  let v749 : BitVec 32 := Scalar.remsi v748 c32_i32_659
  let c1_i32_662 : BitVec 32 := 1#32
  let v750 : BitVec 32 := Scalar.muli v749 c1_i32_662
  let v751 : BitVec 32 := Scalar.addi c0_i32_663 v750
  v751.toNat
def k0_dev79 (d0 : Dev nD) : Nat :=
  let c0_i32_674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_669 : BitVec 32 := 24#32
  let v758 : BitVec 32 := Scalar.addi v2 c24_i32_669
  let c32_i32_670 : BitVec 32 := 32#32
  let v759 : BitVec 32 := Scalar.remsi v758 c32_i32_670
  let c1_i32_673 : BitVec 32 := 1#32
  let v760 : BitVec 32 := Scalar.muli v759 c1_i32_673
  let v761 : BitVec 32 := Scalar.addi c0_i32_674 v760
  v761.toNat
def k0_dev80 (d0 : Dev nD) : Nat :=
  let c0_i32_684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_679 : BitVec 32 := 25#32
  let v768 : BitVec 32 := Scalar.addi v2 c25_i32_679
  let c32_i32_680 : BitVec 32 := 32#32
  let v769 : BitVec 32 := Scalar.remsi v768 c32_i32_680
  let c1_i32_683 : BitVec 32 := 1#32
  let v770 : BitVec 32 := Scalar.muli v769 c1_i32_683
  let v771 : BitVec 32 := Scalar.addi c0_i32_684 v770
  v771.toNat
def k0_dev81 (d0 : Dev nD) : Nat :=
  let c0_i32_695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_690 : BitVec 32 := 25#32
  let v778 : BitVec 32 := Scalar.addi v2 c25_i32_690
  let c32_i32_691 : BitVec 32 := 32#32
  let v779 : BitVec 32 := Scalar.remsi v778 c32_i32_691
  let c1_i32_694 : BitVec 32 := 1#32
  let v780 : BitVec 32 := Scalar.muli v779 c1_i32_694
  let v781 : BitVec 32 := Scalar.addi c0_i32_695 v780
  v781.toNat
def k0_dev82 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_700 : BitVec 32 := 26#32
  let v788 : BitVec 32 := Scalar.addi v2 c26_i32_700
  let c32_i32_701 : BitVec 32 := 32#32
  let v789 : BitVec 32 := Scalar.remsi v788 c32_i32_701
  let c1_i32_704 : BitVec 32 := 1#32
  let v790 : BitVec 32 := Scalar.muli v789 c1_i32_704
  let v791 : BitVec 32 := Scalar.addi c0_i32_705 v790
  v791.toNat
def k0_dev83 (d0 : Dev nD) : Nat :=
  let c0_i32_716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_711 : BitVec 32 := 26#32
  let v798 : BitVec 32 := Scalar.addi v2 c26_i32_711
  let c32_i32_712 : BitVec 32 := 32#32
  let v799 : BitVec 32 := Scalar.remsi v798 c32_i32_712
  let c1_i32_715 : BitVec 32 := 1#32
  let v800 : BitVec 32 := Scalar.muli v799 c1_i32_715
  let v801 : BitVec 32 := Scalar.addi c0_i32_716 v800
  v801.toNat
def k0_dev84 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_721 : BitVec 32 := 27#32
  let v808 : BitVec 32 := Scalar.addi v2 c27_i32_721
  let c32_i32_722 : BitVec 32 := 32#32
  let v809 : BitVec 32 := Scalar.remsi v808 c32_i32_722
  let c1_i32_725 : BitVec 32 := 1#32
  let v810 : BitVec 32 := Scalar.muli v809 c1_i32_725
  let v811 : BitVec 32 := Scalar.addi c0_i32_726 v810
  v811.toNat
def k0_dev85 (d0 : Dev nD) : Nat :=
  let c0_i32_737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_732 : BitVec 32 := 27#32
  let v818 : BitVec 32 := Scalar.addi v2 c27_i32_732
  let c32_i32_733 : BitVec 32 := 32#32
  let v819 : BitVec 32 := Scalar.remsi v818 c32_i32_733
  let c1_i32_736 : BitVec 32 := 1#32
  let v820 : BitVec 32 := Scalar.muli v819 c1_i32_736
  let v821 : BitVec 32 := Scalar.addi c0_i32_737 v820
  v821.toNat
def k0_dev86 (d0 : Dev nD) : Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_742 : BitVec 32 := 28#32
  let v828 : BitVec 32 := Scalar.addi v2 c28_i32_742
  let c32_i32_743 : BitVec 32 := 32#32
  let v829 : BitVec 32 := Scalar.remsi v828 c32_i32_743
  let c1_i32_746 : BitVec 32 := 1#32
  let v830 : BitVec 32 := Scalar.muli v829 c1_i32_746
  let v831 : BitVec 32 := Scalar.addi c0_i32_747 v830
  v831.toNat
def k0_dev87 (d0 : Dev nD) : Nat :=
  let c0_i32_758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_753 : BitVec 32 := 28#32
  let v838 : BitVec 32 := Scalar.addi v2 c28_i32_753
  let c32_i32_754 : BitVec 32 := 32#32
  let v839 : BitVec 32 := Scalar.remsi v838 c32_i32_754
  let c1_i32_757 : BitVec 32 := 1#32
  let v840 : BitVec 32 := Scalar.muli v839 c1_i32_757
  let v841 : BitVec 32 := Scalar.addi c0_i32_758 v840
  v841.toNat
def k0_dev88 (d0 : Dev nD) : Nat :=
  let c0_i32_768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_763 : BitVec 32 := 29#32
  let v848 : BitVec 32 := Scalar.addi v2 c29_i32_763
  let c32_i32_764 : BitVec 32 := 32#32
  let v849 : BitVec 32 := Scalar.remsi v848 c32_i32_764
  let c1_i32_767 : BitVec 32 := 1#32
  let v850 : BitVec 32 := Scalar.muli v849 c1_i32_767
  let v851 : BitVec 32 := Scalar.addi c0_i32_768 v850
  v851.toNat
def k0_dev89 (d0 : Dev nD) : Nat :=
  let c0_i32_779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_774 : BitVec 32 := 29#32
  let v858 : BitVec 32 := Scalar.addi v2 c29_i32_774
  let c32_i32_775 : BitVec 32 := 32#32
  let v859 : BitVec 32 := Scalar.remsi v858 c32_i32_775
  let c1_i32_778 : BitVec 32 := 1#32
  let v860 : BitVec 32 := Scalar.muli v859 c1_i32_778
  let v861 : BitVec 32 := Scalar.addi c0_i32_779 v860
  v861.toNat
def k0_dev90 (d0 : Dev nD) : Nat :=
  let c0_i32_789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_784 : BitVec 32 := 30#32
  let v868 : BitVec 32 := Scalar.addi v2 c30_i32_784
  let c32_i32_785 : BitVec 32 := 32#32
  let v869 : BitVec 32 := Scalar.remsi v868 c32_i32_785
  let c1_i32_788 : BitVec 32 := 1#32
  let v870 : BitVec 32 := Scalar.muli v869 c1_i32_788
  let v871 : BitVec 32 := Scalar.addi c0_i32_789 v870
  v871.toNat
def k0_dev91 (d0 : Dev nD) : Nat :=
  let c0_i32_800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_795 : BitVec 32 := 30#32
  let v878 : BitVec 32 := Scalar.addi v2 c30_i32_795
  let c32_i32_796 : BitVec 32 := 32#32
  let v879 : BitVec 32 := Scalar.remsi v878 c32_i32_796
  let c1_i32_799 : BitVec 32 := 1#32
  let v880 : BitVec 32 := Scalar.muli v879 c1_i32_799
  let v881 : BitVec 32 := Scalar.addi c0_i32_800 v880
  v881.toNat
def k0_dev92 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_805 : BitVec 32 := 31#32
  let v888 : BitVec 32 := Scalar.addi v2 c31_i32_805
  let c32_i32_806 : BitVec 32 := 32#32
  let v889 : BitVec 32 := Scalar.remsi v888 c32_i32_806
  let c1_i32_809 : BitVec 32 := 1#32
  let v890 : BitVec 32 := Scalar.muli v889 c1_i32_809
  let v891 : BitVec 32 := Scalar.addi c0_i32_810 v890
  v891.toNat
def k0_dev93 (d0 : Dev nD) : Nat :=
  let c0_i32_822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_817 : BitVec 32 := 31#32
  let v898 : BitVec 32 := Scalar.addi v2 c31_i32_817
  let c32_i32_818 : BitVec 32 := 32#32
  let v899 : BitVec 32 := Scalar.remsi v898 c32_i32_818
  let c1_i32_821 : BitVec 32 := 1#32
  let v900 : BitVec 32 := Scalar.muli v899 c1_i32_821
  let v901 : BitVec 32 := Scalar.addi c0_i32_822 v900
  v901.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "log_base" => some ((-((1 / 32) * (Real.log 10000)) : ℝ) : EReal)
  | "score_scale" => some ((1 / 1016 : ℝ) : EReal)
  | "value_scale" => some ((1 / 127 : ℝ) : EReal)
  | _ => none
-- ==== ReferenceIdeal.lean ====
abbrev S2x4096x512 : Shape := ⟨3, ![2, 4096, 512]⟩
abbrev S512x256 : Shape := ⟨2, ![512, 256]⟩
abbrev S256x512 : Shape := ⟨2, ![256, 512]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x32x2 : Shape := ⟨3, ![4096, 32, 2]⟩
abbrev S4096x64 : Shape := ⟨2, ![4096, 64]⟩
abbrev S2x4096x256 : Shape := ⟨3, ![2, 4096, 256]⟩
abbrev S2x4096x4x64 : Shape := ⟨4, ![2, 4096, 4, 64]⟩
abbrev S2x4096x4x32x2 : Shape := ⟨5, ![2, 4096, 4, 32, 2]⟩
abbrev S2x4096x4x32x1 : Shape := ⟨5, ![2, 4096, 4, 32, 1]⟩
abbrev S2x4096x4x32 : Shape := ⟨4, ![2, 4096, 4, 32]⟩
abbrev S1x4096x1x64 : Shape := ⟨4, ![1, 4096, 1, 64]⟩
abbrev S2x32x128x256 : Shape := ⟨4, ![2, 32, 128, 256]⟩
abbrev S1x32x1x1 : Shape := ⟨4, ![1, 32, 1, 1]⟩
abbrev S2x4x4096x4096 : Shape := ⟨4, ![2, 4, 4096, 4096]⟩
abbrev S2x4x4096 : Shape := ⟨3, ![2, 4, 4096]⟩
abbrev S2x4x4096x1 : Shape := ⟨4, ![2, 4, 4096, 1]⟩
abbrev S2x4x64x4096 : Shape := ⟨4, ![2, 4, 64, 4096]⟩

abbrev nBuf : Space → Nat
  | .hbm => 138
  | .vmem => 0
  | .smem => 0
  | _ => 0

abbrev hbmTy0_0 (i : Nat) : BufTy := match i % 128 with
  | 0 => ⟨S2x4096x512, .f32⟩
  | 1 => ⟨S512x256, .f32⟩
  | 2 => ⟨S512x256, .f32⟩
  | 3 => ⟨S512x256, .f32⟩
  | 4 => ⟨S256x512, .f32⟩
  | 5 => ⟨S32, .i32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S4096, .i32⟩
  | 23 => ⟨S4096x1, .i32⟩
  | 24 => ⟨S1x32, .f32⟩
  | 25 => ⟨S4096x1, .f32⟩
  | 26 => ⟨S4096x32, .f32⟩
  | 27 => ⟨S4096x32, .f32⟩
  | 28 => ⟨S4096x32, .f32⟩
  | 29 => ⟨S4096x32, .f32⟩
  | 30 => ⟨S4096x32x2, .f32⟩
  | 31 => ⟨S4096x64, .f32⟩
  | 32 => ⟨S4096x32, .f32⟩
  | 33 => ⟨S4096x32x2, .f32⟩
  | 34 => ⟨S4096x64, .f32⟩
  | 35 => ⟨S2x4096x256, .f32⟩
  | 36 => ⟨S2x4096x4x64, .f32⟩
  | 37 => ⟨S2x4096x4x32x2, .f32⟩
  | 38 => ⟨S2x4096x4x32x1, .f32⟩
  | 39 => ⟨S2x4096x4x32, .f32⟩
  | 40 => ⟨S2x4096x4x32, .f32⟩
  | 41 => ⟨S2x4096x4x32x1, .f32⟩
  | 42 => ⟨S2x4096x4x32, .f32⟩
  | 43 => ⟨S2x4096x4x32x1, .f32⟩
  | 44 => ⟨S2x4096x4x32x1, .f32⟩
  | 45 => ⟨S2x4096x4x32x2, .f32⟩
  | 46 => ⟨S2x4096x4x64, .f32⟩
  | 47 => ⟨S1x4096x1x64, .f32⟩
  | 48 => ⟨S2x4096x4x64, .f32⟩
  | 49 => ⟨S2x4096x4x64, .f32⟩
  | 50 => ⟨S1x4096x1x64, .f32⟩
  | 51 => ⟨S2x4096x4x64, .f32⟩
  | 52 => ⟨S2x4096x4x64, .f32⟩
  | 53 => ⟨S2x4096x4x64, .f32⟩
  | 54 => ⟨S2x4096x256, .f32⟩
  | 55 => ⟨S2x4096x4x64, .f32⟩
  | 56 => ⟨S2x4096x4x32x2, .f32⟩
  | 57 => ⟨S2x4096x4x32x1, .f32⟩
  | 58 => ⟨S2x4096x4x32, .f32⟩
  | 59 => ⟨S2x4096x4x32, .f32⟩
  | 60 => ⟨S2x4096x4x32x1, .f32⟩
  | 61 => ⟨S2x4096x4x32, .f32⟩
  | 62 => ⟨S2x4096x4x32x1, .f32⟩
  | 63 => ⟨S2x4096x4x32x1, .f32⟩
  | 64 => ⟨S2x4096x4x32x2, .f32⟩
  | 65 => ⟨S2x4096x4x64, .f32⟩
  | 66 => ⟨S1x4096x1x64, .f32⟩
  | 67 => ⟨S2x4096x4x64, .f32⟩
  | 68 => ⟨S2x4096x4x64, .f32⟩
  | 69 => ⟨S1x4096x1x64, .f32⟩
  | 70 => ⟨S2x4096x4x64, .f32⟩
  | 71 => ⟨S2x4096x4x64, .f32⟩
  | 72 => ⟨S2x4096x4x64, .f32⟩
  | 73 => ⟨S2x4096x256, .f32⟩
  | 74 => ⟨S2x32x128x256, .f32⟩
  | 75 => ⟨S2x32x128x256, .f32⟩
  | 76 => ⟨S_, .f32⟩
  | 77 => ⟨S32, .f32⟩
  | 78 => ⟨S1x32x1x1, .f32⟩
  | 79 => ⟨S_, .f32⟩
  | 80 => ⟨S1x32x1x1, .f32⟩
  | 81 => ⟨S1x32x1x1, .f32⟩
  | 82 => ⟨S2x32x128x256, .f32⟩
  | 83 => ⟨S2x32x128x256, .f32⟩
  | 84 => ⟨S2x32x128x256, .f32⟩
  | 85 => ⟨S2x32x128x256, .i32⟩
  | 86 => ⟨S2x32x128x256, .i8⟩
  | 87 => ⟨S2x32x128x256, .i32⟩
  | 88 => ⟨S2x32x128x256, .f32⟩
  | 89 => ⟨S_, .f32⟩
  | 90 => ⟨S1x32x1x1, .f32⟩
  | 91 => ⟨S1x32x1x1, .f32⟩
  | 92 => ⟨S2x32x128x256, .f32⟩
  | 93 => ⟨S2x32x128x256, .f32⟩
  | 94 => ⟨S2x4096x256, .f32⟩
  | 95 => ⟨S2x4096x4x64, .f32⟩
  | 96 => ⟨S2x4096x256, .f32⟩
  | 97 => ⟨S2x32x128x256, .f32⟩
  | 98 => ⟨S2x32x128x256, .f32⟩
  | 99 => ⟨S_, .f32⟩
  | 100 => ⟨S32, .f32⟩
  | 101 => ⟨S1x32x1x1, .f32⟩
  | 102 => ⟨S_, .f32⟩
  | 103 => ⟨S1x32x1x1, .f32⟩
  | 104 => ⟨S1x32x1x1, .f32⟩
  | 105 => ⟨S2x32x128x256, .f32⟩
  | 106 => ⟨S2x32x128x256, .f32⟩
  | 107 => ⟨S2x32x128x256, .f32⟩
  | 108 => ⟨S2x32x128x256, .i32⟩
  | 109 => ⟨S2x32x128x256, .i8⟩
  | 110 => ⟨S2x32x128x256, .i32⟩
  | 111 => ⟨S2x32x128x256, .f32⟩
  | 112 => ⟨S_, .f32⟩
  | 113 => ⟨S1x32x1x1, .f32⟩
  | 114 => ⟨S1x32x1x1, .f32⟩
  | 115 => ⟨S2x32x128x256, .f32⟩
  | 116 => ⟨S2x32x128x256, .f32⟩
  | 117 => ⟨S2x4096x256, .f32⟩
  | 118 => ⟨S2x4096x4x64, .f32⟩
  | 119 => ⟨S2x4x4096x4096, .f32⟩
  | 120 => ⟨S_, .f32⟩
  | 121 => ⟨S2x4x4096x4096, .f32⟩
  | 122 => ⟨S2x4x4096x4096, .f32⟩
  | 123 => ⟨S_, .f32⟩
  | 124 => ⟨S2x4x4096, .f32⟩
  | 125 => ⟨S2x4x4096x1, .f32⟩
  | 126 => ⟨S2x4x4096x4096, .f32⟩
  | 127 => ⟨S2x4x4096x4096, .f32⟩
  | _ => ⟨S2x4096x512, .f32⟩

abbrev hbmTy0_1 (i : Nat) : BufTy := match i % 128 with
  | 0 => ⟨S2x4x4096x4096, .f32⟩
  | 1 => ⟨S_, .f32⟩
  | 2 => ⟨S2x4x4096, .f32⟩
  | 3 => ⟨S2x4x4096x1, .f32⟩
  | 4 => ⟨S2x4x4096x4096, .f32⟩
  | 5 => ⟨S2x4x4096x4096, .f32⟩
  | 6 => ⟨S2x4x64x4096, .f32⟩
  | 7 => ⟨S2x4096x4x64, .f32⟩
  | 8 => ⟨S2x4096x256, .f32⟩
  | 9 => ⟨S2x4096x512, .f32⟩
  | _ => ⟨S2x4096x512, .f32⟩

abbrev hbmTy (i : Nat) : BufTy := match i / 128 with
  | 0 => hbmTy0_0 i
  | 1 => hbmTy0_1 i
  | _ => ⟨S2x4096x512, .f32⟩

abbrev bufTy : (tb : Table) → Fin (tcTables nBuf tb) → BufTy
  | .hbm, ⟨i, _⟩ => hbmTy i
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_cst_5 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_6 : Ref sig .tc := ⟨.hbm, 99, rfl⟩
abbrev main_v86 : Ref sig .tc := ⟨.hbm, 100, rfl⟩
abbrev main_v87 : Ref sig .tc := ⟨.hbm, 101, rfl⟩
abbrev main_cst_7 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_cst_8 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_9 : Ref sig .tc := ⟨.hbm, 120, rfl⟩
abbrev main_v104 : Ref sig .tc := ⟨.hbm, 121, rfl⟩
abbrev main_v105 : Ref sig .tc := ⟨.hbm, 122, rfl⟩
abbrev main_cst_10 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_11 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩

abbrev nD : Nat := 1
abbrev τ : Topo := Topo.v7x

variable {F : FTy → Type} [FloatOps F]
-- ==== Proof.Ideal.Cells.lean ====
/-
The all-gather's geometry and semaphores, by OFFSET.

Device `c` keeps in its gather buffer one slot per offset `i : Fin 32`: slot `i` ends holding the codes of device
`c + i` (addition around the ring of 32), slot `0` its own. Its transfer number `o ≠ 0` goes to device `c + o`, into
that device's slot `-o`. The row buffer of scales is laid out likewise, one row per offset.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Pointwise.Index
public import Idealize.ShloMosaic.Lib.Tactic
public import Mathlib.Algebra.Group.Fin.Basic

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Offsets -/

/-- Going `o` up the ring and `-o` again is staying. -/
theorem up_down (c o : Fin 32) : c + o + -o = c := by rw [add_assoc, add_neg_cancel, add_zero]

/-- The exchange of a pair (device, offset) with the pair (peer, the offset back): it is its own inverse. -/
def mirror : Fin 32 × Fin 32 ≃ Fin 32 × Fin 32 where
  toFun p := (p.1 + p.2, -p.2)
  invFun p := (p.1 + p.2, -p.2)
  left_inv p := by simp only [up_down, neg_neg]
  right_inv p := by simp only [up_down, neg_neg]

/-- The offset `n + 1`, for `n` below 31. -/
abbrev off (n : ℕ) (h : n < 31) : Fin 32 := ⟨n + 1, by omega⟩

theorem off_ne (n : ℕ) (h : n < 31) : off n h ≠ 0 := fun e => by
  have := congrArg Fin.val e; simp at this

theorem neg_off (n : ℕ) (h : n < 31) : (-(off n h)).val = 31 - n := by
  rw [Fin.neg_def]; show (32 - (n + 1)) % 32 = 31 - n; omega

theorem neg_ne {o : Fin 32} (h : o ≠ 0) : -o ≠ 0 := neg_ne_zero.mpr h

/-- The offsets still to be served after the first `n`: `n + 1 … 31`. -/
def todo (n : ℕ) : Finset (Fin 32) := Finset.univ.filter fun i => n < i.val
/-- The offsets served: `1 … n`. -/
def done (n : ℕ) : Finset (Fin 32) := Finset.univ.filter fun i => 0 < i.val ∧ i.val ≤ n

theorem todo_step (n : ℕ) (h : n < 31) : todo n = insert (off n h) (todo (n + 1)) := by
  ext i; simp only [todo, Finset.mem_filter, Finset.mem_univ, true_and, Finset.mem_insert, Fin.ext_iff]; omega
theorem off_notMem_todo (n : ℕ) (h : n < 31) : off n h ∉ todo (n + 1) := by
  simp only [todo, Finset.mem_filter, Finset.mem_univ, true_and, not_lt, le_refl]
theorem done_step (n : ℕ) (h : n < 31) : done (n + 1) = insert (off n h) (done n) := by
  ext i; simp only [done, Finset.mem_filter, Finset.mem_univ, true_and, Finset.mem_insert, Fin.ext_iff]; omega
theorem off_notMem_done (n : ℕ) (h : n < 31) : off n h ∉ done n := by
  simp only [done, Finset.mem_filter, Finset.mem_univ, true_and]; omega
theorem done_zero : done 0 = ∅ := by decide
theorem todo_last : todo 31 = ∅ := by decide
theorem todo_zero : todo 0 = Finset.univ.erase 0 := by decide
theorem done_last : done 31 = Finset.univ.erase 0 := by decide

section
variable {M : Type} [URA M]
/-- Taking the next offset off what is still to be served. -/
theorem bigSep_todo (n : ℕ) (h : n < 31) (Φ : Fin 32 → sProp M) :
    bigSep (todo n) Φ = iprop(Φ (off n h) ∗ bigSep (todo (n + 1)) Φ) := by
  rw [todo_step n h, bigSep_insert (off_notMem_todo n h)]; rfl
/-- Putting an offset to those served. -/
theorem bigSep_done (n : ℕ) (h : n < 31) (Φ : Fin 32 → sProp M) :
    bigSep (done (n + 1)) Φ = iprop(Φ (off n h) ∗ bigSep (done n) Φ) := by
  rw [done_step n h, bigSep_insert (off_notMem_done n h)]; rfl
end

/-! ## The memrefs -/

abbrev kvM : Memref sig .tc .vmem S2x4096x512 .i8 := Memref.whole cc0_scratch0
abbrev sgM : Memref sig .tc .vmem S32x128 .f32 := Memref.whole cc0_scratch1

theorem kv_inb (i : Fin 32) : ∀ a, (![0, 128 * i.val, 0] : Fin 3 → ℕ) a + S2x128x512.size a ≤ S2x4096x512.size a := by
  intro a; have := i.isLt
  fin_cases a
  · exact le_refl _
  · show 128 * i.val + 128 ≤ 4096; omega
  · exact le_refl _
theorem sg_inb (i : Fin 32) : ∀ a, (![i.val, 0] : Fin 2 → ℕ) a + S1x128.size a ≤ S32x128.size a := by
  intro a; have := i.isLt
  fin_cases a
  · show i.val + 1 ≤ 32; omega
  · exact le_refl _

/-- Slot `i` of the gather buffer: rows `128 i … 128 i + 127` of both batches. -/
abbrev kvSlot (i : Fin 32) : Memref sig .tc .vmem S2x128x512 .i8 :=
  kvM.slice (Rect.unit (s := S2x4096x512) ![0, 128 * i.val, 0] S2x128x512.size (kv_inb i)) (fun _ => rfl)
/-- Row `i` of the scale buffer. -/
abbrev sgRow (i : Fin 32) : Memref sig .tc .vmem S1x128 .f32 :=
  sgM.slice (Rect.unit (s := S32x128) ![i.val, 0] S1x128.size (sg_inb i)) (fun _ => rfl)

theorem mem_kvSlot (i : Fin 32) (x : S2x4096x512.Idx) :
    x ∈ (kvSlot i).view.set ↔ 128 * i.val ≤ (x 1).val ∧ (x 1).val < 128 * i.val + 128 := by
  have h : (kvSlot i).view.set = (Rect.unit (s := S2x4096x512) ![0, 128 * i.val, 0] S2x128x512.size (kv_inb i)).set :=
    View.set_slice_whole _ _
  rw [h, Rect.mem_set_unit]
  constructor
  · intro h; exact h 1
  · intro h a
    fin_cases a
    · exact ⟨Nat.zero_le _, by have := (x 0).isLt; simpa using this⟩
    · exact h
    · exact ⟨Nat.zero_le _, by have := (x 2).isLt; simpa using this⟩

theorem mem_sgRow (i : Fin 32) (x : S32x128.Idx) : x ∈ (sgRow i).view.set ↔ (x 0).val = i.val := by
  have h : (sgRow i).view.set = (Rect.unit (s := S32x128) ![i.val, 0] S1x128.size (sg_inb i)).set :=
    View.set_slice_whole _ _
  rw [h, Rect.mem_set_unit]
  constructor
  · intro h
    have h0 := h 0
    have h1 : i.val ≤ (x 0).val ∧ (x 0).val < i.val + 1 := h0
    omega
  · intro h a
    fin_cases a
    · show i.val ≤ (x 0).val ∧ (x 0).val < i.val + 1; omega
    · exact ⟨Nat.zero_le _, by have := (x 1).isLt; simpa using this⟩

end Cert.KernelIdeal.Attn

end
-- ==== Proof.Ideal.Schedule.lean ====
/-
The all-gather's schedule: which semaphore cell is paid by whom, how much, and what a payment hands over.

Every cell has one round. Device `t`'s BARRIER cell is paid one unit by each other device `p = t + d` (duty `d`), which
hands over its own gather slot `-d` and scale row `-d`: exactly the slots `t`'s transfers to `p` will write. A RECEIVE
cell `i` is paid by device `t + i`'s transfer and hands `t` slot `i` holding that device's codes (row `i` its scales). A
SEND cell `o` gives back the read share of the own slot that transfer `o` borrowed.
-/
module

public import proofs.«01_k».proof.Proof.Ideal.Cells

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The rounds' resource algebra, a duty named by the offset of the device that pays it. -/
abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- The staged inputs of device `c`: its block of `x`, and the four weight arrays. -/
def stX (c : Dev nD) : Vec F S2x128x512 .f32 := (win0_0.blk (0 : Fin 1)).view.read (Elt F) (m ((c : Thread nD τ).loc main_arg0))
def stQ (c : Dev nD) : Vec F S512x256 .f32 := (win0_1.blk (0 : Fin 1)).view.read (Elt F) (m ((c : Thread nD τ).loc main_arg1))
def stK (c : Dev nD) : Vec F S512x256 .f32 := (win0_2.blk (0 : Fin 1)).view.read (Elt F) (m ((c : Thread nD τ).loc main_arg2))
def stV (c : Dev nD) : Vec F S512x256 .f32 := (win0_3.blk (0 : Fin 1)).view.read (Elt F) (m ((c : Thread nD τ).loc main_arg3))
def stO (c : Dev nD) : Vec F S256x512 .f32 := (win0_4.blk (0 : Fin 1)).view.read (Elt F) (m ((c : Thread nD τ).loc main_arg4))

/-- A device's own number, as the kernel computes it. -/
abbrev meWord (c : Dev nD) : BitVec 32 := Scalar.remsi (Scalar.divsi (Dev.word c) 1#32) 32#32
/-- The column number, the angles and the two signs of the rotation, from the printed pieces. -/
abbrev colI : IVec S256x256 32 := iota .tc S256x256 32 [1] iota_S256x256_d1_w32
abbrev posF (c : Dev nD) : FVec F S256x256 .f32 :=
  k0_pay8 (F := F) (meWord c) (Scalar.select (Scalar.cmpi .eq 128#32 0#32) 1#32 128#32) k0_pay5 k0_pay6 k0_pay7 0#32
abbrev cosF (c : Dev nD) : FVec F S256x256 .f32 := k0_pay15 (posF c) (k0_pay10 colI) (k0_pay11 colI) (k0_pay12 colI) k0_pay13
abbrev sinF (c : Dev nD) : FVec F S256x256 .f32 := k0_pay16 (posF c) (k0_pay10 colI) (k0_pay11 colI) (k0_pay12 colI) k0_pay13

/-- The projections of device `c`'s block. -/
abbrev prK (c : Dev nD) : FVec F S256x256 .f32 := k0_pay3 (stX m c) (stK m c)
abbrev prV (c : Dev nD) : FVec F S256x256 .f32 := k0_pay4 (stX m c) (stV m c)
/-- The rotated queries. -/
abbrev ropedQ (c : Dev nD) : FVec F S256x256 .f32 :=
  k0_pay18 (k0_pay2 (stX m c) (stQ m c)) colI (posF c) (k0_pay10 colI) (k0_pay11 colI) (k0_pay12 colI) k0_pay13

/-- The codes of the rotated keys, of the values, and the row of the two scales. -/
abbrev ownK (c : Dev nD) : IVec S2x128x256 8 :=
  k0_pay25 (prK m c) (cosF c) (sinF c) (k0_pay17 colI) (k0_pay19 (prK m c)) (k0_pay20 (prK m c)) (k0_pay21 (prK m c))
abbrev ownV (c : Dev nD) : IVec S2x128x256 8 := k0_pay26 (prV m c)
abbrev ownS (c : Dev nD) : FVec F S1x128 .f32 :=
  k0_pay27 (prK m c) (prV m c) (cosF c) (sinF c) (k0_pay17 colI) (k0_pay19 (prK m c)) (k0_pay20 (prK m c)) (k0_pay21 (prK m c))

theorem slot_lt (x : S2x4096x512.Idx) : (x 1).val / 128 < 32 := by
  have : (x 1).val < 4096 := (x 1).isLt
  omega

/-- The gather buffer of device `c` once everything has arrived: in slot `i` the codes of device `c + i`, the keys in
    the columns below 256, the values above. -/
def KV (c : Dev nD) : (cc0_scratch0 : Ref sig .tc).ty.Contents (Elt F) := fun x : S2x4096x512.Idx =>
  if h : (x 2).val < 256 then
    ownK m (c + (⟨(x 1).val / 128, slot_lt x⟩ : Fin 32)) (ix3 (x 0) (⟨(x 1).val % 128, Nat.mod_lt _ (by decide)⟩ : Fin 128) (⟨(x 2).val, h⟩ : Fin 256))
  else
    ownV m (c + (⟨(x 1).val / 128, slot_lt x⟩ : Fin 32))
      (ix3 (x 0) (⟨(x 1).val % 128, Nat.mod_lt _ (by decide)⟩ : Fin 128) (⟨(x 2).val - 256, by have : (x 2).val < 512 := (x 2).isLt; omega⟩ : Fin 256))

/-- The scale buffer: in row `i` the scales of device `c + i`. -/
def SG (c : Dev nD) : (cc0_scratch1 : Ref sig .tc).ty.Contents (Elt F) := fun x : S32x128.Idx =>
  ownS m (c + (⟨(x 0).val, (x 0).isLt⟩ : Fin 32)) (ix2 (0 : Fin 1) (x 1))

/-! ## Regions -/

/-- Slot `i` of device `c`'s gather buffer at share `q`, holding what `f` says there; row `i` of its scale buffer. -/
def kvPts (c : Dev nD) (i : Fin 32) (q : PosShare TreeShare) (f : (cc0_scratch0 : Ref sig .tc).ty.Contents (Elt F)) : sProp 𝕄 :=
  (kvSlot i).view.loc (c : Thread nD τ) ↦[(kvSlot i).view.set]{q} f
def sgPts (c : Dev nD) (i : Fin 32) (q : PosShare TreeShare) (f : (cc0_scratch1 : Ref sig .tc).ty.Contents (Elt F)) : sProp 𝕄 :=
  (sgRow i).view.loc (c : Thread nD τ) ↦[(sgRow i).view.set]{q} f

instance kvPts_storable (c : Dev nD) (i q f) : BI.Storable (upEmb : UEmb _ 𝕄) (kvPts (F := F) c i q f) := by unfold kvPts; infer_instance
instance sgPts_storable (c : Dev nD) (i q f) : BI.Storable (upEmb : UEmb _ 𝕄) (sgPts (F := F) c i q f) := by unfold sgPts; infer_instance

/-- The share of its own slot that transfer `o` borrows. -/
abbrev lentShare (o : Fin 32) : PosShare TreeShare := Transfers.shareTokN fullShare (o.val - 1)

/-! ## Cells -/

abbrev barS : Sem sig := (SemArray.scalar (sig.barrier 0 rfl) : Sems sig S_).sem
/-- Semaphore `i` of array `k`: 0 code sends, 1 scale sends, 2 code receipts, 3 scale receipts. -/
abbrev xsem (k : Fin 4) (i : Fin 32) : DmaSem sig := ⟨6 + 32 * k.val + i.val, by
  have := k.isLt; have := i.isLt; show 6 + 32 * k.val + i.val < 134; omega⟩

abbrev barCell (c : Dev nD) : GSem nD τ sig := ((c : Thread nD τ), .reg barS)
abbrev xcell (c : Dev nD) (k : Fin 4) (i : Fin 32) : GSem nD τ sig := ((c : Thread nD τ), .dma (xsem k i))

/-- A transfer's credit: of the codes, of the scales. -/
abbrev Nkv : ℕ := (kvSlot 0).view.dmaCredit
abbrev Nsg : ℕ := (sgRow 0).view.dmaCredit
def credit (k : ℕ) : ℕ := if k = 0 ∨ k = 2 then Nkv else Nsg
theorem credit_pos (k : ℕ) : 0 < credit k := by
  unfold credit; split
  · exact View.dmaCredit_pos _ (by decide)
  · exact View.dmaCredit_pos _ (by decide)

/-! ## The schedule -/

/-- What device `t + d`'s signal hands device `t`. -/
def barPay (t : Dev nD) (d : Fin 32) : sProp 𝕄 :=
  iprop((∃ f, kvPts (F := F) (t + d) (-d) fullShare f) ∗ (∃ f, sgPts (F := F) (t + d) (-d) fullShare f))

/-- What the cell `i` of array `k` hands its device. -/
def xPay (c : Dev nD) (k : ℕ) (i : Fin 32) : sProp 𝕄 :=
  if k = 0 then kvPts c 0 (lentShare i) (KV m c)
  else if k = 1 then sgPts c 0 (lentShare i) (SG m c)
  else if k = 2 then kvPts c i fullShare (KV m c)
  else sgPts c i fullShare (SG m c)

def dutiesOf (s : SemLoc sig) : Finset (Fin 32) :=
  match s with
  | .reg _ => Finset.univ.erase 0
  | .dma q => if q.val < 6 ∨ (q.val - 6) % 32 = 0 then ∅ else {0}
def amountOf' (s : SemLoc sig) : ℕ :=
  match s with
  | .reg _ => 1
  | .dma q => credit ((q.val - 6) / 32)
def payloadOf (c : Dev nD) (s : SemLoc sig) (d : Fin 32) : sProp 𝕄 :=
  match s with
  | .reg _ => barPay c d
  | .dma q => xPay m c ((q.val - 6) / 32) ⟨(q.val - 6) % 32, Nat.mod_lt _ (by decide)⟩

/-- One round, round 0. -/
def sched : Rounds.Schedule (GSem nD τ sig) (Fin 32) 𝕄 where
  duties g r := if r = 0 then dutiesOf g.2 else ∅
  unitless _ := False
  amount g _ _ := amountOf' g.2
  payload g _ d := payloadOf m g.1.1 g.2 d
  amount_pos g _ _ _ := by
    unfold amountOf'; split
    · exact Nat.one_pos
    · exact credit_pos _

instance sched_payload_storable (g : GSem nD τ sig) (r : ℕ) (d : Fin 32) :
    BI.Storable (upEmb : UEmb _ 𝕄) ((sched (F := F) m).payload g r d) := by
  show BI.Storable upEmb (payloadOf m g.1.1 g.2 d)
  unfold payloadOf
  split
  · unfold barPay; infer_instance
  · unfold xPay; (repeat' split) <;> infer_instance

section Sched
variable (c : Dev nD) (k : Fin 4) (i : Fin 32)

theorem xsem_div : ((xsem k i).val - 6) / 32 = k.val := by
  have := i.isLt; show (6 + 32 * k.val + i.val - 6) / 32 = k.val; omega
theorem xsem_mod : ((xsem k i).val - 6) % 32 = i.val := by
  have := i.isLt; show (6 + 32 * k.val + i.val - 6) % 32 = i.val; omega

theorem duties_bar : (sched (F := F) m).duties (barCell c) 0 = Finset.univ.erase 0 := by
  show (if (0 : ℕ) = 0 then dutiesOf (SemLoc.reg barS : SemLoc sig) else ∅) = _
  rw [if_pos rfl]; rfl
theorem duties_x (hi : i ≠ 0) : (sched (F := F) m).duties (xcell c k i) 0 = {0} := by
  show (if (0 : ℕ) = 0 then dutiesOf (SemLoc.dma (xsem k i) : SemLoc sig) else ∅) = {0}
  rw [if_pos rfl]; unfold dutiesOf
  refine if_neg (fun h => ?_)
  rcases h with h | h
  · have h' : 6 + 32 * k.val + i.val < 6 := h
    omega
  · rw [xsem_mod] at h; exact hi (Fin.ext h)
theorem duties_x_zero : (sched (F := F) m).duties (xcell c k 0) 0 = ∅ := by
  show (if (0 : ℕ) = 0 then dutiesOf (SemLoc.dma (xsem k 0) : SemLoc sig) else ∅) = ∅
  rw [if_pos rfl]; unfold dutiesOf
  exact if_pos (Or.inr (xsem_mod k 0))
theorem duties_later (g : GSem nD τ sig) : ∀ r, 1 ≤ r → (sched (F := F) m).duties g r = ∅ :=
  fun r hr => if_neg (by omega)
theorem duties_idle : ∀ r, 0 ≤ r → (sched (F := F) m).duties (xcell c k 0) r = ∅ := fun r _ => by
  by_cases h : r = 0
  · subst h; exact duties_x_zero m c k
  · exact if_neg h

theorem amount_bar (d : Fin 32) : (sched (F := F) m).amount (barCell c) 0 d = 1 := rfl
theorem amount_x (d : Fin 32) : (sched (F := F) m).amount (xcell c k i) 0 d = credit k.val := by
  show credit (((xsem k i).val - 6) / 32) = _; rw [xsem_div]

theorem expect_bar : (sched (F := F) m).expect (barCell c) 0 = 31 := by
  unfold Schedule.expect Schedule.amountOf
  rw [duties_bar, Finset.sum_congr rfl fun d _ => amount_bar m c d]; decide
theorem expect_x (hi : i ≠ 0) : (sched (F := F) m).expect (xcell c k i) 0 = credit k.val := by
  unfold Schedule.expect Schedule.amountOf; rw [duties_x m c k i hi, Finset.sum_singleton, amount_x]

theorem payload_bar (d : Fin 32) : (sched (F := F) m).payload (barCell c) 0 d = barPay c d := rfl
theorem payload_x (d : Fin 32) : (sched (F := F) m).payload (xcell c k i) 0 d = xPay m c k.val i := by
  show xPay m c (((xsem k i).val - 6) / 32) ⟨((xsem k i).val - 6) % 32, _⟩ = _
  congr 1
  · exact xsem_div k i
  · exact Fin.ext (xsem_mod k i)

theorem rest_bar : bigSep ((sched (F := F) m).duties (barCell c) 0 \ ∅) (fun d => (sched (F := F) m).payload (barCell c) 0 d)
    = bigSep (todo 0) fun d => barPay c d := by
  rw [Finset.sdiff_empty, duties_bar, todo_zero]; rfl
theorem rest_x (hi : i ≠ 0) : bigSep ((sched (F := F) m).duties (xcell c k i) 0 \ ∅) (fun d => (sched (F := F) m).payload (xcell c k i) 0 d)
    = xPay m c k.val i := by
  rw [Finset.sdiff_empty, duties_x m c k i hi, bigSep_singleton, payload_x]

end Sched

/-! ## Contents on arrival -/

theorem mem_view {κ : Kind} {sp : Space} {s : Shape} {e : EltTy} (v : View sig κ sp s e) {x : v.ty.Idx} (h : x ∈ v.set) :
    ∃ y, v.emb y = x := by
  obtain ⟨y, -, hy⟩ := Finset.mem_map.mp h
  exact ⟨y, hy⟩

/-- The element of the buffer under index `y` of slot `i`. -/
theorem kvSlot_emb (i : Fin 32) (y : S2x128x512.Idx) :
    (kvSlot i).view.emb y = ix3 (y 0) (⟨128 * i.val + (y 1).val, by have : (y 1).val < 128 := (y 1).isLt; have := i.isLt; omega⟩ : Fin 4096) (y 2) := by
  funext a; apply Fin.ext
  fin_cases a
  · exact (Nat.zero_add _).trans (Nat.one_mul _)
  · exact congrArg (128 * i.val + ·) (Nat.one_mul _)
  · exact (Nat.zero_add _).trans (Nat.one_mul _)

theorem sgRow_emb (i : Fin 32) (y : S1x128.Idx) :
    (sgRow i).view.emb y = ix2 i (y 1) := by
  funext a; apply Fin.ext
  fin_cases a
  · have h : (y 0).val < 1 := (y 0).isLt
    show i.val + 1 * (y 0).val = i.val; omega
  · exact (Nat.zero_add _).trans (Nat.one_mul _)

theorem KV_slot (c : Dev nD) (i : Fin 32) (a : Fin 2) (r : Fin 128) (k : Fin 512) (h : 128 * i.val + r.val < 4096) :
    KV m c (ix3 a (⟨128 * i.val + r.val, h⟩ : Fin 4096) k)
      = if h : k.val < 256 then ownK m (c + i) (ix3 a r (⟨k.val, h⟩ : Fin 256))
        else ownV m (c + i) (ix3 a r (⟨k.val - 256, by have := k.isLt; omega⟩ : Fin 256)) := by
  have e1 : (⟨(128 * i.val + r.val) / 128, by omega⟩ : Fin 32) = i := Fin.ext (by show (128 * i.val + r.val) / 128 = i.val; omega)
  have e2 : (⟨(128 * i.val + r.val) % 128, Nat.mod_lt _ (by decide)⟩ : Fin 128) = r :=
    Fin.ext (by show (128 * i.val + r.val) % 128 = r.val; omega)
  unfold KV
  show (if h : k.val < 256 then ownK m (c + (⟨(128 * i.val + r.val) / 128, _⟩ : Fin 32)) (ix3 a (⟨(128 * i.val + r.val) % 128, _⟩ : Fin 128) (⟨k.val, h⟩ : Fin 256))
    else ownV m (c + (⟨(128 * i.val + r.val) / 128, _⟩ : Fin 32)) (ix3 a (⟨(128 * i.val + r.val) % 128, _⟩ : Fin 128) (⟨k.val - 256, _⟩ : Fin 256))) = _
  simp only [e1, e2]

/-- What device `c`'s transfer `o` leaves in slot `-o` of device `c + o` is what that slot is to hold. -/
theorem kv_landed (c : Dev nD) (o : Fin 32) (fd : (cc0_scratch0 : Ref sig .tc).ty.Contents (Elt F)) (x : S2x4096x512.Idx)
    (hx : x ∈ (kvSlot (-o)).view.set) :
    (kvSlot (-o)).view.write (Elt F) fd ((kvSlot 0).view.read (Elt F) (KV m c)) Finset.univ x = KV m (c + o) x := by
  obtain ⟨y, hy⟩ := mem_view _ hx
  subst hy
  rw [View.write_emb_of_mem _ _ (Finset.mem_univ y), View.read_apply, kvSlot_emb, kvSlot_emb]
  show KV m c _ = KV m (c + o) _
  have h1 : 128 * (0 : Fin 32).val + (y 1).val < 4096 := by have : (y 1).val < 128 := (y 1).isLt; show 128 * 0 + _ < _; omega
  have h2 : 128 * (-o).val + (y 1).val < 4096 := by have : (y 1).val < 128 := (y 1).isLt; have := (-o).isLt; omega
  refine (KV_slot m c 0 (y 0) (y 1) (y 2) h1).trans (Eq.trans ?_ (KV_slot m (c + o) (-o) (y 0) (y 1) (y 2) h2).symm)
  rw [up_down, show c + (0 : Fin 32) = c from add_zero c]

theorem sg_landed (c : Dev nD) (o : Fin 32) (fd : (cc0_scratch1 : Ref sig .tc).ty.Contents (Elt F)) (x : S32x128.Idx)
    (hx : x ∈ (sgRow (-o)).view.set) :
    (sgRow (-o)).view.write (Elt F) fd ((sgRow 0).view.read (Elt F) (SG m c)) Finset.univ x = SG m (c + o) x := by
  obtain ⟨y, hy⟩ := mem_view _ hx
  subst hy
  rw [View.write_emb_of_mem _ _ (Finset.mem_univ y), View.read_apply, sgRow_emb, sgRow_emb]
  show ownS m (c + (0 : Fin 32)) _ = ownS m (c + o + -o) _
  rw [up_down, show c + (0 : Fin 32) = c from add_zero c]
  rfl

end Cert.KernelIdeal.Attn

end
-- ==== Proof.Ideal.Trace.lean ====
/-
What a straight-line program computes, as a function; and the triples that tie that function to the program logic.

`ev σ c p K o` runs the program `p` of device `c` as a plain function: a load returns what the buffers `σ` hold, a
store into the kernel's result buffer changes the result `o`, every other operation changes nothing, and `K` receives
`p`'s value and the result. `Tri Γ σ c A p R B` says that `p`, run from the assertion `A o` with the persistent facts `Γ`,
ends in `B o'` with a value satisfying `R`, where value and `o'` are the ones `ev` computes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Ideal.Schedule

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The kernel's result buffer's contents. -/
abbrev Out (F : FTy → Type) [FloatOps F] [Named F] : Type := (cc0_stg5_0 : Ref sig .tc).ty.Contents (Elt F)
/-- What every buffer of a device holds. -/
abbrev Bufs (F : FTy → Type) [FloatOps F] [Named F] : Type := (b : Ref sig .tc) → b.ty.Contents (Elt F)

/-- The result after a store through a view `v` of some buffer: changed if that buffer is the result buffer. -/
def outWrite {sp : Space} {s : Shape} {e : EltTy} (v : View sig .tc sp s e) (w : s.Idx → Elt F e) (M : Finset s.Idx) (o : Out F) : Out F :=
  if h : v.ref = cc0_stg5_0 then
    cast (congrArg (fun b : Ref sig .tc => b.ty.Contents (Elt F)) h)
      (v.write (Elt F) (cast (congrArg (fun b : Ref sig .tc => b.ty.Contents (Elt F)) h.symm) o) w M)
  else o

/-- One operation as a function. -/
def evEff (σ : Bufs F) (c : Dev nD) : {β : Type} → TpuEff nD τ sig (Elt F) Λ₀ .tc β → (β → Out F → Out F) → Out F → Out F
  | _, .deviceId, K, o => K c o
  | _, .load m r _, K, o => K (m.view.readAt (Elt F) r (σ m.view.ref)) o
  | _, .store m r w M _ _, K, o => K ⟨⟩ (outWrite (m.access r) w M o)
  | _, .semSignal _ _ _, K, o => K ⟨⟩ o
  | _, .semWait _ _, K, o => K ⟨⟩ o
  | _, .enqueueDmaAs .., K, o => K ⟨⟩ o
  | _, .waitDma .., K, o => K ⟨⟩ o
  | _, _, _, o => o

/-- A program as a function. -/
def ev (σ : Bufs F) (c : Dev nD) {α : Type} (p : Prog (TpuEff nD τ sig (Elt F) Λ₀ .tc) α) : (α → Out F → Out F) → Out F → Out F :=
  Prog.rec (motive := fun _ => (α → Out F → Out F) → Out F → Out F) (fun a K o => K a o)
    (fun e _ ih K o => evEff σ c e (fun v o' => ih v K o') o) p

theorem ev_ret (σ : Bufs F) (c : Dev nD) {α : Type} (a : α) (K : α → Out F → Out F) (o : Out F) :
    ev σ c (.ret a) K o = K a o := rfl
theorem ev_op (σ : Bufs F) (c : Dev nD) {α β : Type} (e : TpuEff nD τ sig (Elt F) Λ₀ .tc β) (k : β → Prog (TpuEff nD τ sig (Elt F) Λ₀ .tc) α)
    (K : α → Out F → Out F) (o : Out F) :
    ev σ c (.op e k) K o = evEff σ c e (fun v o' => ev σ c (k v) K o') o := rfl

/-- Running one program after another. -/
theorem ev_bind (σ : Bufs F) (c : Dev nD) {α β : Type} (p : Prog (TpuEff nD τ sig (Elt F) Λ₀ .tc) α)
    (f : α → Prog (TpuEff nD τ sig (Elt F) Λ₀ .tc) β) (K : β → Out F → Out F) (o : Out F) :
    ev σ c (p.bind f) K o = ev σ c p (fun a o' => ev σ c (f a) K o') o := by
  induction p generalizing o with
  | ret a => rfl
  | op e k ih =>
    show evEff σ c e (fun v o' => ev σ c ((k v).bind f) K o') o = evEff σ c e (fun v o' => ev σ c (k v) _ o') o
    congr 1
    funext v o'
    exact ih v o'

/-! ## Triples -/

abbrev 𝒱₀ : Variants := Variants.none

/-- `p` from `A o` ends in `B o'`, its value in `R`; `o'` and the value are what `ev` computes from `o`. -/
def Tri (Γ : sProp 𝕄) (σ : Bufs F) (c : Dev nD) {α : Type} (A : Out F → sProp 𝕄) (p : Prog (TpuEff nD τ sig (Elt F) Λ₀ .tc) α)
    (R : α → Prop) (B : Out F → sProp 𝕄) : Prop :=
  ∀ (Q : α → sProp 𝕄) (o : Out F) (Fr : sProp 𝕄),
    (∀ a o', R a → (∀ K, ev σ c p K o = K a o') → iprop(Fr ∗ B o') ⊢ Q a) →
    iprop(Γ ∗ Fr ∗ A o) ⊢ wp frame (wpE (defs₀ (F := F)) 𝒱₀ (c : Thread nD τ) none) Set.univ p Q

section
variable {Γ : sProp (MT nD τ sig Unit (Elt F) ℕ UU ℕ)} {σ : Bufs F} {c : Dev nD} {α β : Type}
  {A A' B B' C : Out F → sProp (MT nD τ sig Unit (Elt F) ℕ UU ℕ)} {R : α → Prop} {R' : β → Prop}
  [BI.Persistent Γ]

theorem Tri.ret (a : α) (ha : R a) : Tri Γ σ c A (.ret a) R A := by
  intro Q o Fr h
  rw [wp_ret]
  iintro ⟨-, HF, HA⟩
  imodintro
  iapply (h a o ha (fun _ => rfl))
  isplitl [HF] <;> iassumption

theorem Tri.pure (a : α) (ha : R a) : Tri Γ σ c A (Pure.pure a : Prog (TpuEff nD τ sig (Elt F) Λ₀ .tc) α) R A := Tri.ret a ha

theorem Tri.pure_any (a : α) : Tri Γ σ c A (Pure.pure a : Prog (TpuEff nD τ sig (Elt F) Λ₀ .tc) α) (fun _ => True) A :=
  Tri.ret (R := fun _ => True) a trivial

/-- Two programs one after the other. -/
theorem Tri.bind {p : Prog (TpuEff nD τ sig (Elt F) Λ₀ .tc) α} {f : α → Prog (TpuEff nD τ sig (Elt F) Λ₀ .tc) β}
    (h₁ : Tri Γ σ c A p R B) (h₂ : ∀ a, R a → Tri Γ σ c B (f a) R' C) : Tri Γ σ c A (Bind.bind p f) R' C := by
  intro Q o Fr h
  rw [wp_bind]
  iintro ⟨#HΓ, HF, HA⟩
  iapply (h₁ _ o iprop(Γ ∗ Fr) (fun a o' ha he => by
    iintro ⟨⟨#HΓ, HF⟩, HB⟩
    iapply (h₂ a ha Q o' Fr (fun b o'' hb he' => h b o'' hb (fun K => by
      show ev σ c (p.bind f) K o = _
      rw [ev_bind, he, he'])))
    isplitr; · iexact HΓ
    isplitl [HF] <;> iassumption))
  isplitr; · iexact HΓ
  isplitl [HF]
  · isplitr; · iexact HΓ
    iexact HF
  iexact HA

/-- Changing the assertions. -/
theorem Tri.pre {p : Prog (TpuEff nD τ sig (Elt F) Λ₀ .tc) α} (hA : ∀ o, iprop(Γ ∗ A o) ⊢ A' o) (h : Tri Γ σ c A' p R B) :
    Tri Γ σ c A p R B := by
  intro Q o Fr hq
  iintro ⟨#HΓ, HF, HA⟩
  iapply (h Q o Fr hq)
  isplitr; · iexact HΓ
  isplitl [HF]; · iexact HF
  iapply (hA o)
  isplitr; · iexact HΓ
  iexact HA

/-- One operation whose rule is `hop`: it takes `A o` to `A' o'` with the value `ev` computes. -/
theorem Tri.eff {e : TpuEff nD τ sig (Elt F) Λ₀ .tc β} {k : β → Prog (TpuEff nD τ sig (Elt F) Λ₀ .tc) α} (v : β) (g : Out F → Out F)
    (he : ∀ K o, evEff σ c e K o = K v (g o))
    (hop : ∀ (Q : α → sProp 𝕄) (o : Out F) (Fr : sProp 𝕄),
      (iprop(Γ ∗ Fr ∗ A' (g o)) ⊢ wp frame (wpE (defs₀ (F := F)) 𝒱₀ (c : Thread nD τ) none) Set.univ (k v) Q) →
      iprop(Γ ∗ Fr ∗ A o) ⊢ wp frame (wpE (defs₀ (F := F)) 𝒱₀ (c : Thread nD τ) none) Set.univ (.op e k) Q)
    (h : Tri Γ σ c A' (k v) R B) : Tri Γ σ c A (.op e k) R B := fun Q o Fr hq =>
  hop Q o Fr (h Q (g o) Fr (fun a o' ha hev => hq a o' ha (fun K => by rw [ev_op, he]; exact hev K)))

/-- A load from a region the assertion owns, holding what `σ` says. -/
theorem Tri.load {sp : CoreSpace} {s : Shape} {e : EltTy} {m : Memref sig .tc sp s e} {r : LoadRect s} {hl : m.view.LoadsAt r}
    {k : Vec F r.shape e → Prog (TpuEff nD τ sig (Elt F) Λ₀ .tc) α}
    (S : Finset m.view.ty.Idx) (q : PosShare TreeShare) (hS : m.view.setOn r.set ⊆ S)
    (hA : ∀ o, A o ⊢ iprop((m.view.loc (c : Thread nD τ) ↦[S]{q} σ m.view.ref)
      ∗ ((m.view.loc (c : Thread nD τ) ↦[S]{q} σ m.view.ref) -∗ A o)))
    (h : Tri Γ σ c A (k (m.view.readAt (Elt F) r (σ m.view.ref))) R B) : Tri Γ σ c A (.op (.load m r hl) k) R B :=
  Tri.eff (A' := A) (m.view.readAt (Elt F) r (σ m.view.ref)) (fun o => o) (fun _ _ => rfl)
    (fun Q o Fr hw => by
      iintro ⟨#HΓ, HF, HA⟩
      ihave H := (hA o) $$ HA
      icases H with ⟨Hp, Hb⟩
      iapply (wp_load 𝒱₀ (c : Thread nD τ) none Set.univ (m := m) hS) $$ Hp
      iintro Hp
      iapply hw
      isplitr; · iexact HΓ
      isplitl [HF]; · iexact HF
      iapply Hb; iexact Hp) h

/-- A load whose value is not used. -/
theorem Tri.load_dead {sp : CoreSpace} {s : Shape} {e : EltTy} {m : Memref sig .tc sp s e} {r : LoadRect s} {hl : m.view.LoadsAt r}
    {k : Vec F r.shape e → Prog (TpuEff nD τ sig (Elt F) Λ₀ .tc) α}
    (S : Finset m.view.ty.Idx) (q : PosShare TreeShare) (hS : m.view.setOn r.set ⊆ S)
    (hA : ∀ o, A o ⊢ iprop(∃ f, (m.view.loc (c : Thread nD τ) ↦[S]{q} f) ∗ ((m.view.loc (c : Thread nD τ) ↦[S]{q} f) -∗ A o)))
    (hk : ∀ v v', k v = k v')
    (h : ∀ v, Tri Γ σ c A (k v) R B) : Tri Γ σ c A (.op (.load m r hl) k) R B :=
  Tri.eff (A' := A) (m.view.readAt (Elt F) r (σ m.view.ref)) (fun o => o) (fun _ _ => rfl)
    (fun Q o Fr hw => by
      iintro ⟨#HΓ, HF, HA⟩
      ihave H := (hA o) $$ HA
      icases H with ⟨%f, Hp, Hb⟩
      iapply (wp_load 𝒱₀ (c : Thread nD τ) none Set.univ (m := m) hS) $$ Hp
      iintro Hp
      rw [hk _ (m.view.readAt (Elt F) r (σ m.view.ref))]
      iapply hw
      isplitr; · iexact HΓ
      isplitl [HF]; · iexact HF
      iapply Hb; iexact Hp) (h _)

/-- A store into a region the assertion owns. -/
theorem Tri.store {sp : CoreSpace} {s : Shape} {e : EltTy} {m : Memref sig .tc sp s e} {r : Rect s} {w : r.shape.Idx → Elt F e}
    {M : Finset r.shape.Idx} {hs : (m.access r).Stores M} {hm} {k : PUnit → Prog (TpuEff nD τ sig (Elt F) Λ₀ .tc) α}
    (S : Finset m.view.ty.Idx) (hS : (m.access r).setOn M ⊆ S)
    (hA : ∀ o, A o ⊢ iprop(∃ f, (m.view.loc (c : Thread nD τ) ↦[S]{fullShare} f)
      ∗ ((m.view.loc (c : Thread nD τ) ↦[S]{fullShare} (m.access r).write (Elt F) f w M) -∗ A' (outWrite (m.access r) w M o))))
    (h : Tri Γ σ c A' (k ⟨⟩) R B) : Tri Γ σ c A (.op (.store m r w M hs hm) k) R B :=
  Tri.eff (A' := A') ⟨⟩ (outWrite (m.access r) w M) (fun _ _ => rfl)
    (fun Q o Fr hw => by
      iintro ⟨#HΓ, HF, HA⟩
      ihave H := (hA o) $$ HA
      icases H with ⟨%f, Hp, Hb⟩
      iapply (wp_store 𝒱₀ (c : Thread nD τ) none Set.univ (m := m) hS) $$ Hp
      iintro Hp
      iapply hw
      isplitr; · iexact HΓ
      isplitl [HF]; · iexact HF
      iapply Hb; iexact Hp) h

/-- The device's own number. -/
theorem Tri.deviceId {k : Dev nD → Prog (TpuEff nD τ sig (Elt F) Λ₀ .tc) α}
    (h : Tri Γ σ c A (k c) R B) : Tri Γ σ c A (.op .deviceId k) R B :=
  Tri.eff (A' := A) c (fun o => o) (fun _ _ => rfl) (fun Q o Fr hw => by rw [wp_deviceId]; exact hw) h

theorem Tri.lift {e : TpuEff nD τ sig (Elt F) Λ₀ .tc β} {k : β → Prog (TpuEff nD τ sig (Elt F) Λ₀ .tc) α}
    (h : Tri Γ σ c A (.op e k) R B) : Tri Γ σ c A (Bind.bind (Prog.lift e) k) R B := h

end

end Cert.KernelIdeal.Attn

end
-- ==== Proof.Ideal.States.lean ====
/-
The states a device's body goes through, each a separating conjunction of blocks indexed by how many offsets are served.

`Sig n`: the first `n` barrier signals are out. `Own a b`: the barrier is passed and the peers' slots are this device's
to write; its own slot and row are in the states `a`, `b`. `Snd n k`: the first `n` code transfers and `k` scale transfers
are out. `Rcv n k`: slots `0 … n` and rows `0 … k` hold what they are to hold. `Fin n k`: the result is stored and the
first `n` code (`k` scale) transfers have given their share of the own slot back.
-/
module

public import proofs.«01_k».proof.Proof.Ideal.Trace

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## What the buffers hold -/

/-- What each buffer of device `c` holds when it is loaded: the staged inputs, the gathered codes and scales. -/
def bufs (c : Dev nD) : Bufs F := fun b =>
  if h : cc0_stg0_0 = b then cast (congrArg (fun b : Ref sig .tc => b.ty.Contents (Elt F)) h) (stX m c)
  else if h : cc0_stg1_0 = b then cast (congrArg (fun b : Ref sig .tc => b.ty.Contents (Elt F)) h) (stQ m c)
  else if h : cc0_stg2_0 = b then cast (congrArg (fun b : Ref sig .tc => b.ty.Contents (Elt F)) h) (stK m c)
  else if h : cc0_stg3_0 = b then cast (congrArg (fun b : Ref sig .tc => b.ty.Contents (Elt F)) h) (stV m c)
  else if h : cc0_stg4_0 = b then cast (congrArg (fun b : Ref sig .tc => b.ty.Contents (Elt F)) h) (stO m c)
  else if h : cc0_scratch0 = b then cast (congrArg (fun b : Ref sig .tc => b.ty.Contents (Elt F)) h) (KV m c)
  else if h : cc0_scratch1 = b then cast (congrArg (fun b : Ref sig .tc => b.ty.Contents (Elt F)) h) (SG m c)
  else m ((c : Thread nD τ).loc b)

theorem bufs_stg0 (c : Dev nD) : bufs m c cc0_stg0_0 = stX m c := dif_pos rfl
theorem bufs_stg1 (c : Dev nD) : bufs m c cc0_stg1_0 = stQ m c := by
  unfold bufs; rw [dif_neg (by decide)]; exact dif_pos rfl
theorem bufs_stg2 (c : Dev nD) : bufs m c cc0_stg2_0 = stK m c := by
  unfold bufs; rw [dif_neg (by decide), dif_neg (by decide)]; exact dif_pos rfl
theorem bufs_stg3 (c : Dev nD) : bufs m c cc0_stg3_0 = stV m c := by
  unfold bufs; rw [dif_neg (by decide), dif_neg (by decide), dif_neg (by decide)]; exact dif_pos rfl
theorem bufs_stg4 (c : Dev nD) : bufs m c cc0_stg4_0 = stO m c := by
  unfold bufs; rw [dif_neg (by decide), dif_neg (by decide), dif_neg (by decide), dif_neg (by decide)]; exact dif_pos rfl
theorem bufs_kv (c : Dev nD) : bufs m c cc0_scratch0 = KV m c := by
  unfold bufs; rw [dif_neg (by decide), dif_neg (by decide), dif_neg (by decide), dif_neg (by decide), dif_neg (by decide)]; exact dif_pos rfl
theorem bufs_sg (c : Dev nD) : bufs m c cc0_scratch1 = SG m c := by
  unfold bufs; rw [dif_neg (by decide), dif_neg (by decide), dif_neg (by decide), dif_neg (by decide), dif_neg (by decide), dif_neg (by decide)]; exact dif_pos rfl

/-! ## The persistent facts -/

/-- The cells of a device: its barrier (`none`), semaphore `i` of array `k`. -/
abbrev CI : Type := Option (Fin 4 × Fin 32)
def csem : CI → SemLoc sig
  | none => .reg barS
  | some (k, i) => .dma (xsem k i)
abbrev kcell (x : Dev nD × CI) : GSem nD τ sig := ((x.1 : Thread nD τ), csem x.2)

def L (g : GSem nD τ sig) : Finset Unit := if g.1.2 = .tc then {()} else ∅
/-- Barrier cells at 1, receive cells at 2, staging and send cells at 0. -/
def lv (g : GSem nD τ sig) (_ : Unit) : ℕ := match g.2 with
  | .reg _ => 1
  | .dma q => if 70 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- Every cell's invariant, under the names `K`, and that every cell has reached round 0. -/
def records (K : Dev nD × CI → ℕ) : sProp 𝕄 :=
  iprop((bigSep Finset.univ fun x : Dev nD × CI => cellInv ER (sched m) (K x) (kcell x))
    ∗ bigSep Finset.univ fun x : Dev nD × CI => reached ER (kcell x) 0)

instance records_persistent (K : Dev nD × CI → ℕ) : BI.Persistent (records m K) := by unfold records; infer_instance

def ctx (K : Dev nD × CI → ℕ) : sProp 𝕄 := iprop(records m K ∗ levAts L lv)
instance ctx_persistent (K : Dev nD × CI → ℕ) : BI.Persistent (ctx m K) := by unfold ctx; infer_instance

section
variable (K : Dev nD × CI → ℕ)
theorem inv_at (x : Dev nD × CI) : ctx m K ⊢ cellInv ER (sched m) (K x) (kcell x) := by
  unfold ctx records
  iintro ⟨⟨#HI, -⟩, -⟩
  have h : (bigSep Finset.univ fun x : Dev nD × CI => (cellInv ER (sched m) (K x) (kcell x) : sProp 𝕄)) ⊢ cellInv ER (sched m) (K x) (kcell x) :=
    bigSep_elim (Finset.mem_univ x)
  iapply h; iexact HI
theorem reached_at (x : Dev nD × CI) : ctx m K ⊢ reached ER (kcell x) 0 := by
  unfold ctx records
  iintro ⟨⟨-, #HR⟩, -⟩
  have h : (bigSep Finset.univ fun x : Dev nD × CI => (reached ER (kcell x) 0 : sProp 𝕄)) ⊢ reached ER (kcell x) 0 :=
    bigSep_elim (Finset.mem_univ x)
  iapply h; iexact HR
theorem inv_bar (c : Dev nD) : ctx m K ⊢ cellInv ER (sched m) (K (c, none)) (barCell c) := inv_at m K (c, none)
theorem inv_x (c : Dev nD) (k i) : ctx m K ⊢ cellInv ER (sched m) (K (c, some (k, i))) (xcell c k i) := inv_at m K (c, some (k, i))
theorem reached_bar (c : Dev nD) : ctx m K ⊢ reached ER (barCell c) 0 := reached_at m K (c, none)
theorem reached_x (c : Dev nD) (k i) : ctx m K ⊢ reached ER (xcell c k i) 0 := reached_at m K (c, some (k, i))
end

/-! ## What a device owes -/

/-- Of the barrier signals, the code transfers' credits, the scale transfers' credits: those not yet paid. -/
def Obar (c : Dev nD) (n : ℕ) : CellTallies nD τ sig Unit := ∑ o ∈ todo n, tallyAt (barCell (c + o)) () 1
def Okv (c : Dev nD) (n : ℕ) : CellTallies nD τ sig Unit := ∑ o ∈ todo n, tallyAt (xcell (c + o) 2 (-o)) () (credit 2)
def Osg (c : Dev nD) (n : ℕ) : CellTallies nD τ sig Unit := ∑ o ∈ todo n, tallyAt (xcell (c + o) 3 (-o)) () (credit 3)

theorem Obar_step (c : Dev nD) (n : ℕ) (h : n < 31) : Obar c n = Obar c (n + 1) + tallyAt (barCell (c + off n h)) () 1 := by
  unfold Obar; rw [todo_step n h, Finset.sum_insert (off_notMem_todo n h), add_comm]
theorem Okv_step (c : Dev nD) (n : ℕ) (h : n < 31) :
    Okv c n = Okv c (n + 1) + tallyAt (xcell (c + off n h) 2 (-(off n h))) () (credit 2) := by
  unfold Okv; rw [todo_step n h, Finset.sum_insert (off_notMem_todo n h), add_comm]
theorem Osg_step (c : Dev nD) (n : ℕ) (h : n < 31) :
    Osg c n = Osg c (n + 1) + tallyAt (xcell (c + off n h) 3 (-(off n h))) () (credit 3) := by
  unfold Osg; rw [todo_step n h, Finset.sum_insert (off_notMem_todo n h), add_comm]
theorem Obar_last (c : Dev nD) : Obar c 31 = 0 := by unfold Obar; rw [todo_last, Finset.sum_empty]
theorem Okv_last (c : Dev nD) : Okv c 31 = 0 := by unfold Okv; rw [todo_last, Finset.sum_empty]
theorem Osg_last (c : Dev nD) : Osg c 31 = 0 := by unfold Osg; rw [todo_last, Finset.sum_empty]

theorem sum_pos {s : Finset (Fin 32)} {f : Fin 32 → CellTallies nD τ sig Unit} {g : GSem nD τ sig} {u : Unit}
    (h : 0 < (∑ o ∈ s, f o) g u) : ∃ o ∈ s, 0 < f o g u := by
  rw [Finset.sum_apply, Finsupp.finset_sum_apply] at h
  obtain ⟨o, ho, hne⟩ := Finset.exists_ne_zero_of_sum_ne_zero (Nat.pos_iff_ne_zero.mp h)
  exact ⟨o, ho, Nat.pos_of_ne_zero hne⟩

theorem tally_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem Obar_pos {c : Dev nD} {n : ℕ} {g : GSem nD τ sig} {u : Unit} (h : 0 < Obar c n g u) : ∃ d, g = barCell d := by
  obtain ⟨o, -, ho⟩ := sum_pos h; exact ⟨_, tally_pos ho⟩
theorem Okv_pos {c : Dev nD} {n : ℕ} {g : GSem nD τ sig} {u : Unit} (h : 0 < Okv c n g u) : ∃ d i, g = xcell d 2 i := by
  obtain ⟨o, -, ho⟩ := sum_pos h; exact ⟨_, _, tally_pos ho⟩
theorem Osg_pos {c : Dev nD} {n : ℕ} {g : GSem nD τ sig} {u : Unit} (h : 0 < Osg c n g u) : ∃ d i, g = xcell d 3 i := by
  obtain ⟨o, -, ho⟩ := sum_pos h; exact ⟨_, _, tally_pos ho⟩

theorem add_pos_or {O O' : CellTallies nD τ sig Unit} {g : GSem nD τ sig} {u : Unit} (h : 0 < (O + O') g u) : 0 < O g u ∨ 0 < O' g u := by
  rw [Pi.add_apply, Finsupp.add_apply] at h; omega

theorem lv_bar (c : Dev nD) (u : Unit) : lv (barCell c) u = 1 := rfl
theorem lv_recv (c : Dev nD) (k : Fin 4) (i : Fin 32) (u : Unit) (h : 2 ≤ k.val) : lv (xcell c k i) u = 2 := by
  show (if 70 ≤ (xsem k i).val then 2 else 0) = 2
  refine if_pos ?_
  show 70 ≤ 6 + 32 * k.val + i.val; omega

/-- At launch a device may wait on a staging cell: all it owes lies above. -/
theorem mayWait_stage (c : Dev nD) (q : DmaSem sig) (hq : q.val < 6) (O : CellTallies nD τ sig Unit)
    (hO : O = Obar c 0 + (Okv c 0 + Osg c 0) ∨ O = 0) :
    (levAts L lv : sProp 𝕄) ⊢ MayWait (c : Thread nD τ) (.dma q) () O := by
  rcases hO with rfl | rfl
  · have hlv : ∀ u, lv ((c : Thread nD τ), .dma q) u = 0 := fun u => if_neg (by omega)
    refine MayOwe.of_cut (L := L) (lev := lv) 0 (fun p hp => by rw [Finset.mem_singleton.mp hp, L_tc]; exact Finset.mem_singleton_self _)
      (fun g u hg => ?_) (fun p hp => by rw [Finset.mem_singleton.mp hp]; exact le_of_eq (hlv _)) (fun g u hg => ?_)
    · rcases add_pos_or hg with h | h
      · obtain ⟨d, rfl⟩ := Obar_pos h; exact Finset.mem_singleton_self _
      · rcases add_pos_or h with h | h
        · obtain ⟨d, i, rfl⟩ := Okv_pos h; exact Finset.mem_singleton_self _
        · obtain ⟨d, i, rfl⟩ := Osg_pos h; exact Finset.mem_singleton_self _
    · rcases add_pos_or hg with h | h
      · obtain ⟨d, rfl⟩ := Obar_pos h; exact Nat.one_pos
      · rcases add_pos_or h with h | h
        · obtain ⟨d, i, rfl⟩ := Okv_pos h; rw [lv_recv _ _ _ _ (by decide)]; decide
        · obtain ⟨d, i, rfl⟩ := Osg_pos h; rw [lv_recv _ _ _ _ (by decide)]; decide
  · rw [MayWait_zero]; iintro -; iempintro

/-- At its barrier wait a device owes receive credits only: receive cells, above its barrier cell. -/
theorem mayWait_bar (c : Dev nD) :
    (levAts L lv : sProp 𝕄) ⊢ MayWait (c : Thread nD τ) (.reg barS) () (Okv c 0 + Osg c 0) := by
  refine MayOwe.of_cut (L := L) (lev := lv) 1 (fun p hp => by rw [Finset.mem_singleton.mp hp, L_tc]; exact Finset.mem_singleton_self _)
    (fun g u hg => ?_) (fun p hp => by rw [Finset.mem_singleton.mp hp]; exact le_refl 1) (fun g u hg => ?_)
  · rcases add_pos_or hg with h | h
    · obtain ⟨d, i, rfl⟩ := Okv_pos h; exact Finset.mem_singleton_self _
    · obtain ⟨d, i, rfl⟩ := Osg_pos h; exact Finset.mem_singleton_self _
  · rcases add_pos_or hg with h | h
    · obtain ⟨d, i, rfl⟩ := Okv_pos h; rw [lv_recv _ _ _ _ (by decide)]; decide
    · obtain ⟨d, i, rfl⟩ := Osg_pos h; rw [lv_recv _ _ _ _ (by decide)]; decide

/-! ## The blocks -/

variable (c : Dev nD)

def owesW (c : Dev nD) (O : CellTallies nD τ sig Unit) : sProp 𝕄 := iprop(∃ W, owes (c : Thread nD τ) O W)

abbrev stgPts (c : Dev nD) (b : Ref sig .tc) (f : b.ty.Contents (Elt F)) : sProp 𝕄 := ((c : Thread nD τ).loc b) ↦{fullShare} f
/-- The staged inputs. -/
def Stg : sProp 𝕄 :=
  iprop(stgPts c cc0_stg0_0 (bufs m c cc0_stg0_0) ∗ stgPts c cc0_stg1_0 (bufs m c cc0_stg1_0) ∗ stgPts c cc0_stg2_0 (bufs m c cc0_stg2_0)
    ∗ stgPts c cc0_stg3_0 (bufs m c cc0_stg3_0) ∗ stgPts c cc0_stg4_0 (bufs m c cc0_stg4_0))
/-- The result buffer, holding anything. -/
def Res : sProp 𝕄 := iprop(∃ f, stgPts (F := F) c cc0_stg5_0 f)
/-- The four semaphores of index 0, never used. -/
def Idle : sProp 𝕄 := bigSep Finset.univ fun k : Fin 4 => atPos ER (xcell c k 0) 0 ∅ 0
/-- The positions in array `k` after `n` of its cells are waited for. -/
def AtK (k : Fin 4) (n : ℕ) : sProp 𝕄 :=
  iprop((bigSep (todo n) fun i => atPos ER (xcell c k i) 0 ∅ 0) ∗ bigSep (done n) fun i => atPos ER (xcell c k i) 1 ∅ 0)
/-- The credits of the cells of array `k` not waited for. -/
def Cr (k : Fin 4) (n : ℕ) : sProp 𝕄 := bigSep (todo n) fun i => cred (tallyAt (xcell c k i) () (credit k.val))
/-- The credits of the transfers sent. -/
def Crd (k : Fin 4) (n : ℕ) : sProp 𝕄 := bigSep (done n) fun i => cred (tallyAt (xcell c k i) () (credit k.val))
/-- The duties of the transfers not sent: its own send cell's and the peer's receive cell's. -/
def Tok (k : Fin 4) (k' : Fin 4) (n : ℕ) : sProp 𝕄 :=
  bigSep (todo n) fun o => iprop(dutyTok ER (xcell c k o) 0 0 ∗ dutyTok ER (xcell (c + o) k' (-o)) 0 0)
/-- The peers' slots (rows) not yet written. -/
def TgtKv (n : ℕ) : sProp 𝕄 := bigSep (todo n) fun o => iprop(∃ f, kvPts (F := F) (c + o) (-o) fullShare f)
def TgtSg (n : ℕ) : sProp 𝕄 := bigSep (todo n) fun o => iprop(∃ f, sgPts (F := F) (c + o) (-o) fullShare f)

/-- The share of every filled slot that is read. -/
abbrev qread : PosShare TreeShare := Transfers.shareDrop fullShare 31

/-- The buffer's elements in slots `0 … n`; the rows `0 … n`. -/
def kvUpTo (n : ℕ) : Finset S2x4096x512.Idx := Finset.univ.filter fun x => (x 1).val < 128 * (n + 1)
def sgUpTo (n : ℕ) : Finset S32x128.Idx := Finset.univ.filter fun x => (x 0).val < n + 1

/-- Slots `0 … n` filled, for reading, with the rest of the shares of slots `1 … n`. -/
def KvUp (n : ℕ) : sProp 𝕄 :=
  iprop((kvM.view.loc (c : Thread nD τ) ↦[kvUpTo n]{qread} bufs m c cc0_scratch0)
    ∗ bigSep (done n) fun i => bigSep (Finset.range 31) fun j => kvPts c i (Transfers.shareTokN fullShare j) (KV m c))
def SgUp (n : ℕ) : sProp 𝕄 :=
  iprop((sgM.view.loc (c : Thread nD τ) ↦[sgUpTo n]{qread} bufs m c cc0_scratch1)
    ∗ bigSep (done n) fun i => bigSep (Finset.range 31) fun j => sgPts c i (Transfers.shareTokN fullShare j) (SG m c))

/-! ## The states -/

def Rest1 : sProp 𝕄 :=
  iprop(Stg m c ∗ Res c ∗ Idle c ∗ (AtK c 0 0 ∗ AtK c 1 0 ∗ AtK c 2 0 ∗ AtK c 3 0) ∗ (Cr c 2 0 ∗ Cr c 3 0) ∗ (Tok c 0 2 0 ∗ Tok c 1 3 0))

def Sig (n : ℕ) (_ : Out F) : sProp 𝕄 :=
  iprop(owesW c (Obar c n + (Okv c 0 + Osg c 0))
    ∗ (bigSep (todo n) fun o => iprop(dutyTok ER (barCell (c + o)) 0 (-o) ∗ barPay (c + o) (-o)))
    ∗ ((∃ f, kvPts (F := F) c 0 fullShare f) ∗ (∃ f, sgPts (F := F) c 0 fullShare f))
    ∗ cred (tallyAt (barCell c) () 31) ∗ atPos ER (barCell c) 0 ∅ 0 ∗ Rest1 m c)

def Own (a b : sProp 𝕄) (_ : Out F) : sProp 𝕄 :=
  iprop((a ∗ b) ∗ owesW c (Okv c 0 + Osg c 0) ∗ (TgtKv c 0 ∗ TgtSg c 0) ∗ atPos ER (barCell c) 1 ∅ 0 ∗ Rest1 m c)

def Rest2 : sProp 𝕄 :=
  iprop(atPos ER (barCell c) 1 ∅ 0 ∗ Stg m c ∗ Res c ∗ Idle c ∗ (AtK c 0 0 ∗ AtK c 1 0 ∗ AtK c 2 0 ∗ AtK c 3 0) ∗ (Cr c 2 0 ∗ Cr c 3 0))

def Snd (n k : ℕ) (_ : Out F) : sProp 𝕄 :=
  iprop(owesW c (Okv c n + Osg c k) ∗ (TgtKv c n ∗ kvPts c 0 (Transfers.shareDrop fullShare n) (KV m c) ∗ Tok c 0 2 n ∗ Crd c 0 n)
    ∗ (TgtSg c k ∗ sgPts c 0 (Transfers.shareDrop fullShare k) (SG m c) ∗ Tok c 1 3 k ∗ Crd c 1 k) ∗ Rest2 m c)

def Rest3 : sProp 𝕄 :=
  iprop(Crd c 0 31 ∗ Crd c 1 31 ∗ AtK c 0 0 ∗ AtK c 1 0 ∗ atPos ER (barCell c) 1 ∅ 0 ∗ Idle c)

def Rcv (n k : ℕ) (_ : Out F) : sProp 𝕄 :=
  iprop(owesW c 0 ∗ (KvUp m c n ∗ AtK c 2 n ∗ Cr c 2 n) ∗ (SgUp m c k ∗ AtK c 3 k ∗ Cr c 3 k) ∗ Stg m c ∗ Res c ∗ Rest3 c)

def Rest4 : sProp 𝕄 :=
  iprop(KvUp m c 31 ∗ AtK c 2 31 ∗ SgUp m c 31 ∗ AtK c 3 31 ∗ Stg m c ∗ atPos ER (barCell c) 1 ∅ 0 ∗ Idle c)

def Fin' (n k : ℕ) (o : Out F) : sProp 𝕄 :=
  iprop(stgPts c cc0_stg5_0 o ∗ owesW c 0
    ∗ (AtK c 0 n ∗ Cr c 0 n ∗ bigSep (done n) fun o => kvPts c 0 (lentShare o) (KV m c))
    ∗ (AtK c 1 k ∗ Cr c 1 k ∗ bigSep (done k) fun o => sgPts c 0 (lentShare o) (SG m c)) ∗ Rest4 m c)

end Cert.KernelIdeal.Attn

end
-- ==== Proof.Ideal.Closing.lean ====
/-
The end of a device's body: every share of its two gather buffers is back, so it holds both whole, and every one of its
semaphore cells has run its rounds, so it holds each counter at zero.
-/
module

public import proofs.«01_k».proof.Proof.Ideal.States

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ) (c : Dev nD)

/-! ## The buffers, slot by slot -/

/-- The gather buffer is its 32 slots. -/
theorem kv_slots (q : PosShare TreeShare) (f : (cc0_scratch0 : Ref sig .tc).ty.Contents (Elt F)) :
    (((c : Thread nD τ).loc cc0_scratch0 ↦{q} f) : sProp 𝕄) = bigSep Finset.univ fun i => kvPts c i q f := by
  have h := pointsTo_biUnion (Ix := Unit) (Name := ℕ) (U := UU) (Lvl := ℕ) (ℓ := (c : Thread nD τ).loc cc0_scratch0) (q := q) (f := f)
    (Finset.univ : Finset (Fin 32)) (fun i : Fin 32 => (kvSlot i).view.set) (fun i _ j _ hij => by
      refine Finset.disjoint_left.mpr fun x hi hj => hij (Fin.ext ?_)
      have h1 := (mem_kvSlot i x).mp hi
      have h2 := (mem_kvSlot j x).mp hj
      omega)
  refine Eq.trans (congrArg (fun S => (((c : Thread nD τ).loc cc0_scratch0 ↦[S]{q} f) : sProp 𝕄)) ?_) h
  refine (Finset.eq_univ_iff_forall.mpr fun (x : S2x4096x512.Idx) => ?_).symm
  refine Finset.mem_biUnion.mpr ⟨⟨(x 1).val / 128, slot_lt x⟩, Finset.mem_univ _, (mem_kvSlot _ x).mpr ?_⟩
  show 128 * ((x 1).val / 128) ≤ (x 1).val ∧ (x 1).val < 128 * ((x 1).val / 128) + 128
  omega

/-- The scale buffer is its 32 rows. -/
theorem sg_rows (q : PosShare TreeShare) (f : (cc0_scratch1 : Ref sig .tc).ty.Contents (Elt F)) :
    (((c : Thread nD τ).loc cc0_scratch1 ↦{q} f) : sProp 𝕄) = bigSep Finset.univ fun i => sgPts c i q f := by
  have h := pointsTo_biUnion (Ix := Unit) (Name := ℕ) (U := UU) (Lvl := ℕ) (ℓ := (c : Thread nD τ).loc cc0_scratch1) (q := q) (f := f)
    (Finset.univ : Finset (Fin 32)) (fun i : Fin 32 => (sgRow i).view.set) (fun i _ j _ hij => by
      refine Finset.disjoint_left.mpr fun x hi hj => hij (Fin.ext ?_)
      have h1 := (mem_sgRow i x).mp hi
      have h2 := (mem_sgRow j x).mp hj
      omega)
  refine Eq.trans (congrArg (fun S => (((c : Thread nD τ).loc cc0_scratch1 ↦[S]{q} f) : sProp 𝕄)) ?_) h
  refine (Finset.eq_univ_iff_forall.mpr fun (x : S32x128.Idx) => ?_).symm
  exact Finset.mem_biUnion.mpr ⟨⟨(x 0).val, (x 0).isLt⟩, Finset.mem_univ _, (mem_sgRow _ x).mpr rfl⟩

theorem range_eq : Finset.range 31 = (done 31).image fun o : Fin 32 => o.val - 1 := by decide

/-- A family by the number of the share lent is that family by offset. -/
theorem bigSep_lent (Φ : ℕ → sProp 𝕄) : bigSep (Finset.range 31) Φ = bigSep (done 31) fun o => Φ (o.val - 1) := by
  rw [range_eq]
  refine bigSep_image_of_injOn (fun a ha b hb hab => Fin.ext ?_) Φ
  have h1 : 0 < a.val := (Finset.mem_filter.mp (Finset.mem_coe.mp ha)).2.1
  have h2 : 0 < b.val := (Finset.mem_filter.mp (Finset.mem_coe.mp hb)).2.1
  have h3 : a.val - 1 = b.val - 1 := hab
  omega

theorem kv_back : iprop(KvUp m c 31 ∗ bigSep (done 31) fun o => kvPts c 0 (lentShare o) (KV m c))
    ⊢ (((c : Thread nD τ).loc cc0_scratch0 ↦{fullShare} KV m c) : sProp 𝕄) := by
  have hu : kvUpTo 31 = Finset.univ := by
    refine Finset.filter_true_of_mem fun x _ => ?_
    have : (x 1).val < 4096 := (x 1).isLt
    omega
  have hw : (kvM.view.loc (c : Thread nD τ) ↦[kvUpTo 31]{qread} bufs m c cc0_scratch0 : sProp 𝕄)
      = bigSep Finset.univ fun i => kvPts c i qread (KV m c) := by
    rw [hu, bufs_kv]; exact kv_slots c qread (KV m c)
  have ht (i : Fin 32) : iprop(kvPts c i qread (KV m c) ∗ bigSep (Finset.range 31) fun j => kvPts c i (Transfers.shareTokN fullShare j) (KV m c))
      ⊢ kvPts c i fullShare (KV m c) := by
    unfold kvPts; exact (Transfers.pointsTo_toks_range fullShare 31).2
  unfold KvUp
  rw [hw, kv_slots, bigSep_univ_at _ 0, bigSep_univ_at (fun i => kvPts c i fullShare (KV m c)) 0, done_last]
  iintro ⟨⟨⟨H0, HR⟩, HT⟩, HL⟩
  isplitl [H0 HL]
  · iapply (ht 0)
    isplitl [H0]; · iexact H0
    rw [bigSep_lent, done_last]; iexact HL
  · iapply ((Entails.of_eq (bigSep_sep' (Finset.univ.erase 0) (fun i : Fin 32 => kvPts c i qread (KV m c)) _).symm).trans
      (bigSep_mono fun i _ => ht i))
    isplitl [HR]; · iexact HR
    iexact HT

theorem sg_back : iprop(SgUp m c 31 ∗ bigSep (done 31) fun o => sgPts c 0 (lentShare o) (SG m c))
    ⊢ (((c : Thread nD τ).loc cc0_scratch1 ↦{fullShare} SG m c) : sProp 𝕄) := by
  have hu : sgUpTo 31 = Finset.univ := by
    refine Finset.filter_true_of_mem fun x _ => ?_
    have : (x 0).val < 32 := (x 0).isLt
    omega
  have hw : (sgM.view.loc (c : Thread nD τ) ↦[sgUpTo 31]{qread} bufs m c cc0_scratch1 : sProp 𝕄)
      = bigSep Finset.univ fun i => sgPts c i qread (SG m c) := by
    rw [hu, bufs_sg]; exact sg_rows c qread (SG m c)
  have ht (i : Fin 32) : iprop(sgPts c i qread (SG m c) ∗ bigSep (Finset.range 31) fun j => sgPts c i (Transfers.shareTokN fullShare j) (SG m c))
      ⊢ sgPts c i fullShare (SG m c) := by
    unfold sgPts; exact (Transfers.pointsTo_toks_range fullShare 31).2
  unfold SgUp
  rw [hw, sg_rows, bigSep_univ_at _ 0, bigSep_univ_at (fun i => sgPts c i fullShare (SG m c)) 0, done_last]
  iintro ⟨⟨⟨H0, HR⟩, HT⟩, HL⟩
  isplitl [H0 HL]
  · iapply (ht 0)
    isplitl [H0]; · iexact H0
    rw [bigSep_lent, done_last]; iexact HL
  · iapply ((Entails.of_eq (bigSep_sep' (Finset.univ.erase 0) (fun i : Fin 32 => sgPts c i qread (SG m c)) _).symm).trans
      (bigSep_mono fun i _ => ht i))
    isplitl [HR]; · iexact HR
    iexact HT

/-! ## The cells -/

/-- A persistent fact is at hand for every member of a family. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine BIBase.Entails.trans ?_ (bigSep_mono h)
  rw [bigSep_sep']
  iintro ⟨HR, HΦ⟩
  isplitl [HR]
  · iapply (bigSep_of_persistent S R); iexact HR
  · iexact HΦ

theorem bar_zero : iprop(ctx m K ∗ atPos ER (barCell c) 1 ∅ 0) ⊢ (iprop(|={Set.univ}=> semVal (barCell c) 0) : sProp 𝕄) := by
  iintro ⟨#HΓ, Ha⟩
  iapply (Rounds.cell_close ER (sched m) (Set.mem_univ (K (c, none))) (fun h => h) (R := 1) (duties_later m _))
  isplitr [Ha]; · iapply (inv_bar m K c); iexact HΓ
  iexact Ha

theorem x_zero (k : Fin 4) (i : Fin 32) : iprop(ctx m K ∗ atPos ER (xcell c k i) 1 ∅ 0) ⊢ (iprop(|={Set.univ}=> semVal (xcell c k i) 0) : sProp 𝕄) := by
  iintro ⟨#HΓ, Ha⟩
  iapply (Rounds.cell_close ER (sched m) (Set.mem_univ (K (c, some (k, i)))) (fun h => h) (R := 1) (duties_later m _))
  isplitr [Ha]; · iapply (inv_x m K c k i); iexact HΓ
  iexact Ha

theorem idle_zero (k : Fin 4) : iprop(ctx m K ∗ atPos ER (xcell c k 0) 0 ∅ 0) ⊢ (iprop(|={Set.univ}=> semVal (xcell c k 0) 0) : sProp 𝕄) := by
  iintro ⟨#HΓ, Ha⟩
  iapply (Rounds.cell_close ER (sched m) (Set.mem_univ (K (c, some (k, 0)))) (fun h => h) (R := 0) (duties_idle m c k))
  isplitr [Ha]; · iapply (inv_x m K c k 0); iexact HΓ
  iexact Ha

/-- The 32 counters of array `k` at zero. -/
theorem array_zero (k : Fin 4) : iprop(ctx m K ∗ (atPos ER (xcell c k 0) 0 ∅ 0 ∗ AtK c k 31))
    ⊢ (iprop(|={Set.univ}=> bigSep Finset.univ fun i => semVal (xcell c k i) 0) : sProp 𝕄) := by
  unfold AtK
  rw [bigSep_univ_at _ 0, done_last]
  iintro ⟨#HΓ, H0, -, HD⟩
  imod (idle_zero m K c k) $$ [H0] with Hz
  · isplitr; · iexact HΓ
    iexact H0
  imod (((bigSep_with (R := ctx m K) (S := Finset.univ.erase 0) fun i _ => x_zero m K c k i).trans (bigSep_fupd _ _))) $$ [HD] with Hr
  · isplitr; · iexact HΓ
    iexact HD
  imodintro
  isplitl [Hz]; · iexact Hz
  iexact Hr

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What a device has when its body is over. -/
def Post (o : Out F) : sProp 𝕄 :=
  iprop(stgPts c cc0_stg5_0 o ∗ owesW c 0 ∗ Stg m c
    ∗ (((c : Thread nD τ).loc cc0_scratch0 ↦{fullShare} KV m c) ∗ ((c : Thread nD τ).loc cc0_scratch1 ↦{fullShare} SG m c))
    ∗ (bigSep Finset.univ fun k => bigSep Finset.univ fun i => semVal (xcell c k i) 0) ∗ semVal (barCell c) 0)

/-- From the last state to that. -/
theorem closing (o : Out F) : iprop(ctx m K ∗ Fin' m c 31 31 o) ⊢ (iprop(|={Set.univ}=> Post m c o) : sProp 𝕄) := by
  unfold Fin' Rest4 Post Idle
  rw [bigSep_fin4, bigSep_fin4]
  iintro ⟨#HΓ, Ho, HO, ⟨A0, -, L0⟩, ⟨A1, -, L1⟩, HK, A2, HS, A3, Hst, HB, I0, I1, I2, I3⟩
  imod (array_zero m K c 0) $$ [I0 A0] with Z0
  · isplitr; · iexact HΓ
    isplitl [I0] <;> iassumption
  imod (array_zero m K c 1) $$ [I1 A1] with Z1
  · isplitr; · iexact HΓ
    isplitl [I1] <;> iassumption
  imod (array_zero m K c 2) $$ [I2 A2] with Z2
  · isplitr; · iexact HΓ
    isplitl [I2] <;> iassumption
  imod (array_zero m K c 3) $$ [I3 A3] with Z3
  · isplitr; · iexact HΓ
    isplitl [I3] <;> iassumption
  imod (bar_zero m K c) $$ [HB] with ZB
  · isplitr; · iexact HΓ
    iexact HB
  imodintro
  isplitl [Ho]; · iexact Ho
  isplitl [HO]; · iexact HO
  isplitl [Hst]; · iexact Hst
  isplitl [HK L0 HS L1]
  · isplitl [HK L0]
    · iapply (kv_back m c); isplitl [HK] <;> iassumption
    · iapply (sg_back m c); isplitl [HS] <;> iassumption
  isplitr [ZB]
  · isplitl [Z0]; · iexact Z0
    isplitl [Z1]; · iexact Z1
    isplitl [Z2] <;> iassumption
  iexact ZB

end Cert.KernelIdeal.Attn

end
-- ==== Proof.Ideal.Mint.lean ====
/-
What the launch deals every device: the invariants of all cells, its positions in its own cells, and — carried around
the ring from the cells they belong to — the tokens of the duties it pays and the credits of the cells it waits for.
-/
module

public import proofs.«01_k».proof.Proof.Ideal.Closing

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## Carrying families around the ring -/

/-- A family over (device, offset) without its offset 0. -/
theorem drop_zero (Φ : Dev nD → Fin 32 → sProp 𝕄) :
    (bigSep Finset.univ fun c => bigSep Finset.univ fun o => Φ c o) ⊢ (bigSep Finset.univ fun c => bigSep (todo 0) fun o => Φ c o : sProp 𝕄) :=
  bigSep_mono fun _ _ => bigSep_subset (Finset.subset_univ _)

/-- A family over (device, offset back) dealt to the devices at the other end. -/
theorem around (Φ : Dev nD → Fin 32 → sProp 𝕄) :
    (bigSep Finset.univ fun c => bigSep Finset.univ fun d => Φ c d) ⊢ (bigSep Finset.univ fun c : Dev nD => bigSep (todo 0) fun o : Fin 32 => Φ (c + o) (-o) : sProp 𝕄) := by
  have h : (bigSep Finset.univ fun c => bigSep Finset.univ fun d => Φ c d : sProp 𝕄)
      = bigSep Finset.univ fun c : Dev nD => bigSep Finset.univ fun o : Fin 32 => Φ (c + o) (-o) := by
    rw [← bigSep_univ_prod (fun p : Dev nD × Fin 32 => Φ p.1 p.2), bigSep_univ_equiv mirror, bigSep_univ_prod]
    rfl
  rw [h]
  exact drop_zero fun c o => Φ (c + o) (-o)

theorem bigSep_opt {α : Type} [Fintype α] [DecidableEq α] (Φ : Option α → sProp 𝕄) :
    bigSep Finset.univ Φ = iprop(Φ none ∗ bigSep Finset.univ fun a => Φ (some a)) := by
  rw [bigSep_univ_at Φ none, show (Finset.univ.erase (none : Option α)) = Finset.univ.map Function.Embedding.some from by
    ext x; cases x <;> simp, bigSep_map]
  rfl

/-! ## The cells and the tokens -/

theorem xsem_inj {k k' : Fin 4} {i i' : Fin 32} (h : xsem k i = xsem k' i') : k = k' ∧ i = i' := by
  have := congrArg Fin.val h
  have h' : 6 + 32 * k.val + i.val = 6 + 32 * k'.val + i'.val := this
  have := i.isLt; have := i'.isLt
  exact ⟨Fin.ext (by omega), Fin.ext (by omega)⟩

theorem csem_injective : Function.Injective csem := by
  rintro (_ | ⟨k, i⟩) (_ | ⟨k', i'⟩) h
  · rfl
  · exact absurd h (by unfold csem; intro h; cases h)
  · exact absurd h (by unfold csem; intro h; cases h)
  · have h' : xsem k i = xsem k' i' := SemLoc.dma.inj h
    obtain ⟨rfl, rfl⟩ := xsem_inj h'; rfl

theorem kcell_injective : Function.Injective (kcell : Dev nD × CI → GSem nD τ sig) := by
  rintro ⟨c, x⟩ ⟨c', x'⟩ h
  have h1 : c = c' := congrArg (fun g : GSem nD τ sig => g.1.1) h
  have h2 : x = x' := csem_injective (congrArg Prod.snd h)
  subst h1 h2; rfl

def ringCells : Finset (GSem nD τ sig) := Finset.univ.map ⟨kcell, kcell_injective⟩

/-- A device's cells' tokens: of its barrier's duties by offset, of its other semaphores' one duty. -/
abbrev TI : Type := Fin 32 ⊕ (Fin 4 × Fin 32)
def tokOf (x : Dev nD × TI) : GSem nD τ sig × ℕ × Fin 32 :=
  match x.2 with
  | .inl d => (barCell x.1, 0, d)
  | .inr p => (xcell x.1 p.1 p.2, 0, 0)

theorem tokOf_injective : Function.Injective tokOf := by
  rintro ⟨c, x⟩ ⟨c', x'⟩ h
  have h1 : c = c' := by
    have h' := congrArg (fun g : GSem nD τ sig × ℕ × Fin 32 => g.1.1.1) h
    rcases x with d | ⟨k, i⟩ <;> rcases x' with d' | ⟨k', i'⟩ <;> exact h'
  subst h1
  have h2 := congrArg (fun g : GSem nD τ sig × ℕ × Fin 32 => (g.1.2, g.2.2)) h
  rcases x with d | ⟨k, i⟩ <;> rcases x' with d' | ⟨k', i'⟩
  · have : d = d' := congrArg Prod.snd h2
    subst this; rfl
  · exact absurd (congrArg Prod.fst h2) (fun h' => by cases h')
  · exact absurd (congrArg Prod.fst h2) (fun h' => by cases h')
  · obtain ⟨rfl, rfl⟩ := xsem_inj (SemLoc.dma.inj (congrArg Prod.fst h2)); rfl

def ringToks : Finset (GSem nD τ sig × ℕ × Fin 32) := Finset.univ.map ⟨tokOf, tokOf_injective⟩

/-- The tokens of device `c`'s own cells. -/
def toks (c : Dev nD) : sProp 𝕄 :=
  iprop((bigSep Finset.univ fun d => dutyTok ER (barCell c) 0 d)
    ∗ bigSep Finset.univ fun k => bigSep Finset.univ fun i => dutyTok ER (xcell c k i) 0 0)

/-- The tokens of the duties device `c` pays. -/
def payToks (c : Dev nD) : sProp 𝕄 :=
  iprop((bigSep (todo 0) fun o => dutyTok ER (barCell (c + o)) 0 (-o)) ∗ (Tok c 0 2 0 ∗ Tok c 1 3 0))

theorem toks_around : (bigSep Finset.univ fun c : Dev nD => (toks c : sProp 𝕄)) ⊢ bigSep Finset.univ fun c : Dev nD => payToks c := by
  unfold toks payToks Tok
  simp only [bigSep_fin4, bigSep_sep']
  iintro ⟨HB, H0, H1, H2, H3⟩
  isplitl [HB]; · iapply (around fun c d => dutyTok ER (barCell c) 0 d); iexact HB
  isplitl [H0 H2]
  · isplitl [H0]; · iapply (drop_zero fun c o => dutyTok ER (xcell c 0 o) 0 0); iexact H0
    iapply (around fun c d => dutyTok ER (xcell c 2 d) 0 0); iexact H2
  · isplitl [H1]; · iapply (drop_zero fun c o => dutyTok ER (xcell c 1 o) 0 0); iexact H1
    iapply (around fun c d => dutyTok ER (xcell c 3 d) 0 0); iexact H3

/-- The positions of device `c` at launch. -/
def ats (c : Dev nD) : sProp 𝕄 :=
  iprop(atPos ER (barCell c) 0 ∅ 0 ∗ Idle c ∗ (AtK c 0 0 ∗ AtK c 1 0 ∗ AtK c 2 0 ∗ AtK c 3 0))

theorem ats_intro (c : Dev nD) : (bigSep Finset.univ fun x : CI => (atPos ER (kcell (c, x)) 0 ∅ 0 : sProp 𝕄)) ⊢ ats c := by
  have h (k : Fin 4) : (bigSep Finset.univ fun i : Fin 32 => (atPos ER (xcell c k i) 0 ∅ 0 : sProp 𝕄))
      ⊢ iprop(atPos ER (xcell c k 0) 0 ∅ 0 ∗ AtK c k 0) := by
    unfold AtK
    rw [bigSep_univ_at _ 0, ← todo_zero, done_zero, bigSep_empty]
    iintro ⟨H0, HR⟩
    isplitl [H0]; · iexact H0
    isplitl [HR]; · iexact HR
    iempintro
  unfold ats Idle
  rw [bigSep_opt, bigSep_univ_prod, bigSep_fin4, bigSep_fin4]
  refine BIBase.Entails.trans (Q := iprop(atPos ER (barCell c) 0 ∅ 0 ∗ (bigSep Finset.univ fun i : Fin 32 => atPos ER (xcell c 0 i) 0 ∅ 0)
    ∗ (bigSep Finset.univ fun i : Fin 32 => atPos ER (xcell c 1 i) 0 ∅ 0) ∗ (bigSep Finset.univ fun i : Fin 32 => atPos ER (xcell c 2 i) 0 ∅ 0)
    ∗ (bigSep Finset.univ fun i : Fin 32 => atPos ER (xcell c 3 i) 0 ∅ 0))) (BI.Entails.refl _) ?_
  iintro ⟨HB, H0, H1, H2, H3⟩
  ihave H0 := (h 0) $$ H0
  ihave H1 := (h 1) $$ H1
  ihave H2 := (h 2) $$ H2
  ihave H3 := (h 3) $$ H3
  icases H0 with ⟨I0, A0⟩
  icases H1 with ⟨I1, A1⟩
  icases H2 with ⟨I2, A2⟩
  icases H3 with ⟨I3, A3⟩
  isplitl [HB]; · iexact HB
  isplitl [I0 I1 I2 I3]
  · isplitl [I0]; · iexact I0
    isplitl [I1]; · iexact I1
    isplitl [I2] <;> iassumption
  isplitl [A0]; · iexact A0
  isplitl [A1]; · iexact A1
  isplitl [A2] <;> iassumption

/-! ## Funding -/

def u₀ : UU :=
  (initOf (Pipeline.cells cfgs cellOf_inj) (Pipeline.launchToks cfgs cellOf_inj), initOf ringCells ringToks)

/-- What the launch element deals device `c`. -/
def G (c : Dev nD) : sProp 𝕄 :=
  iprop((bigSep Finset.univ fun x : CI => roundState ER (sched m) (kcell (c, x)) 0)
    ∗ (bigSep Finset.univ fun x : CI => iprop(atPos ER (kcell (c, x)) 0 ∅ 0 ∗ reached ER (kcell (c, x)) 0)) ∗ toks c)

/-- What the global step makes of it. -/
def G' (c : Dev nD) : sProp 𝕄 := iprop((∃ K, records m K) ∗ ats c ∗ payToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun x : CI => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores. -/
abbrev osem (p : Fin 4 × Fin 32) : SemLoc sig := .dma (xsem p.1 p.2)

theorem ownSemFacts : Pipeline.OwnSemFacts cfg0.spec osem where
  isScoped := by decide +kernel
  inj := fun p p' h => by
    obtain ⟨h1, h2⟩ := xsem_inj (SemLoc.dma.inj h)
    exact Prod.ext h1 h2
  disj := by decide +kernel

theorem ownSems0_eq (c : Dev nD) : (Pipeline.ownSems0 (Ix := Unit) (Name := ℕ) (U := UU) (Lvl := ℕ) (Val := Elt F) (τ := τ) osem c : sProp 𝕄)
    = bigSep Finset.univ fun k => bigSep Finset.univ fun i => semVal (xcell c k i) 0 := by
  unfold Pipeline.ownSems0; rw [bigSep_univ_prod]
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun x : CI => semVal (kcell (c, x)) 0 : sProp 𝕄) := by
  rw [ownSems0_eq, unscopedSems0_eq, bigSep_opt, bigSep_univ_prod]
  iintro ⟨HX, HB⟩
  isplitl [HB]; · iexact HB
  iexact HX

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CI => iprop(∃ κ : ℕ, cellInv ER (sched m) κ (kcell (c, x))))
          ∗ (bigSep Finset.univ fun x : CI => iprop(atPos ER (kcell (c, x)) 0 ∅ 0 ∗ reached ER (kcell (c, x)) 0)) ∗ toks c) := by
  have hal : iprop((bigSep Finset.univ fun x : CI => semVal (kcell (c, x)) 0) ∗ bigSep Finset.univ fun x : CI => roundState ER (sched m) (kcell (c, x)) 0)
      ⊢ (|={Set.univ}=> bigSep Finset.univ fun x : CI => iprop(∃ κ : ℕ, cellInv ER (sched m) κ (kcell (c, x))) : sProp 𝕄) := by
    rw [← bigSep_sep']
    exact (bigSep_mono fun x _ => (Rounds.body_intro ER (sched m) (kcell (c, x))).trans inv_alloc).trans (bigSep_fupd _ _)
  unfold G
  iintro ⟨Hos, Hus, Hst, Hat, Htok⟩
  ihave Hv := (sems0 (F := F) c) $$ [Hos Hus]
  · isplitl [Hos] <;> iassumption
  imod hal $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun x : CI => iprop(∃ κ : ℕ, cellInv ER (sched m) κ (kcell (c, x))))
          ∗ (bigSep Finset.univ fun x : CI => iprop(atPos ER (kcell (c, x)) 0 ∅ 0 ∗ reached ER (kcell (c, x)) 0)) ∗ toks c) : sProp 𝕄)
      ⊢ bigSep Finset.univ (G' m) := by
  rw [bigSep_sep', bigSep_sep', ← bigSep_univ_prod (fun x : Dev nD × CI => iprop(∃ κ : ℕ, cellInv ER (sched m) κ (kcell x))),
    bigSep_congr (s := Finset.univ) (fun (c : Dev nD) _ => bigSep_sep' Finset.univ (fun x : CI => (atPos ER (kcell (c, x)) 0 ∅ 0 : sProp 𝕄)) (fun x => reached ER (kcell (c, x)) 0)),
    bigSep_sep', ← bigSep_univ_prod (fun x : Dev nD × CI => (reached ER (kcell x) 0 : sProp 𝕄))]
  iintro ⟨HI, ⟨Hat, #HR⟩, Htok⟩
  ihave HK := (BI.bigSep_exists_pi Finset.univ (fun (x : Dev nD × CI) (κ : ℕ) => (cellInv ER (sched m) κ (kcell x) : sProp 𝕄))) $$ HI
  icases HK with ⟨%K, #HI⟩
  ihave Htk := (toks_around (F := F)) $$ Htok
  have hw : iprop(records m K ∗ bigSep Finset.univ fun c : Dev nD => iprop((bigSep Finset.univ fun x : CI => (atPos ER (kcell (c, x)) 0 ∅ 0 : sProp 𝕄)) ∗ payToks c))
      ⊢ bigSep Finset.univ (G' m) := by
    refine bigSep_with (R := records m K) fun c _ => ?_
    unfold G'
    iintro ⟨HR, HA, HT⟩
    isplitl [HR]; · iexists K; iexact HR
    isplitl [HA]; · iapply (ats_intro c); iexact HA
    iexact HT
  iapply hw
  isplitr
  · unfold records; isplitl; · iexact HI
    iexact HR
  rw [bigSep_sep']
  isplitl [Hat]; · iexact Hat
  iexact Htk

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What device `c` owes at launch. -/
def O₀ (c : Dev nD) : CellTallies nD τ sig Unit := Obar c 0 + (Okv c 0 + Osg c 0)

/-- What is owed to device `c`'s cells at launch. -/
def T₀ (c : Dev nD) : CellTallies nD τ sig Unit :=
  (∑ i ∈ todo 0, tallyAt (barCell c) () 1) + ((∑ i ∈ todo 0, tallyAt (xcell c 2 i) () (credit 2)) + ∑ i ∈ todo 0, tallyAt (xcell c 3 i) () (credit 3))

/-- A sum over the transfers by their sender is one by their receiver. -/
theorem sum_around (f : Dev nD → Fin 32 → CellTallies nD τ sig Unit) :
    (∑ c : Dev nD, ∑ o ∈ todo 0, f (c + o) (-o)) = ∑ c : Dev nD, ∑ i ∈ todo 0, f c i := by
  rw [← Finset.sum_product', ← Finset.sum_product']
  refine Finset.sum_nbij' (fun p => mirror p) (fun p => mirror p) ?_ ?_ ?_ ?_ ?_
  · intro p hp
    rw [Finset.mem_product, todo_zero, Finset.mem_erase] at hp ⊢
    exact ⟨Finset.mem_univ _, neg_ne hp.2.1, Finset.mem_univ _⟩
  · intro p hp
    rw [Finset.mem_product, todo_zero, Finset.mem_erase] at hp ⊢
    exact ⟨Finset.mem_univ _, neg_ne hp.2.1, Finset.mem_univ _⟩
  · intro p _; exact mirror.left_inv p
  · intro p _; exact mirror.left_inv p
  · intro p _; rfl

theorem sum_owed : (∑ c : Dev nD, O₀ c) = ∑ c : Dev nD, T₀ c := by
  unfold O₀ T₀ Obar Okv Osg
  rw [Finset.sum_add_distrib, Finset.sum_add_distrib, Finset.sum_add_distrib, Finset.sum_add_distrib,
    sum_around fun c _ => tallyAt (barCell c) () 1, sum_around fun c i => tallyAt (xcell c 2 i) () (credit 2),
    sum_around fun c i => tallyAt (xcell c 3 i) () (credit 3)]

theorem T₀_at (c : Dev nD) (g : GSem nD τ sig) (h : T₀ c g ≠ 0) : g.1 = (c.tc : Thread nD τ) := by
  obtain ⟨u, hu⟩ : ∃ u, T₀ c g u ≠ 0 := by
    by_contra hn
    exact h (Finsupp.ext fun u => by by_contra hu; exact hn ⟨u, hu⟩)
  rcases add_pos_or (Nat.pos_of_ne_zero hu) with h | h
  · obtain ⟨o, -, ho⟩ := sum_pos h; rw [tally_pos ho]
  · rcases add_pos_or h with h | h
    · obtain ⟨o, -, ho⟩ := sum_pos h; rw [tally_pos ho]
    · obtain ⟨o, -, ho⟩ := sum_pos h; rw [tally_pos ho]

theorem sum_ones (c : Dev nD) : (∑ i ∈ todo 0, tallyAt (barCell c) () 1 : CellTallies nD τ sig Unit) = tallyAt (barCell c) () 31 := by
  have h (n : ℕ) : n • (tallyAt (barCell c) () 1 : CellTallies nD τ sig Unit) = tallyAt (barCell c) () n := by
    induction n with
    | zero => rw [zero_nsmul, tallyAt_zero]
    | succ n ih => rw [succ_nsmul, ih, tallyAt_add]
  rw [Finset.sum_const, show (todo 0).card = 31 from by decide, h]

theorem creds (c : Dev nD) :
    (Pipeline.launchCred O₀ c : sProp 𝕄) ⊢ iprop(cred (tallyAt (barCell c) () 31) ∗ (Cr c 2 0 ∗ Cr c 3 0)) := by
  rw [Pipeline.launchCred_of_sum O₀ T₀ sum_owed T₀_at c]
  unfold T₀ Cr
  rw [sum_ones]
  iintro H
  ihave H := (cred_add _ _).1 $$ H
  icases H with ⟨HB, H⟩
  ihave H := (cred_add _ _).1 $$ H
  icases H with ⟨H2, H3⟩
  isplitl [HB]; · iexact HB
  isplitl [H2]
  · iapply (Entails.of_eq (Pipeline.cred_finsetSum (todo 0) fun i => tallyAt (xcell c 2 i) () (credit 2))); iexact H2
  · iapply (Entails.of_eq (Pipeline.cred_finsetSum (todo 0) fun i => tallyAt (xcell c 3 i) () (credit 3))); iexact H3

end Cert.KernelIdeal.Attn

end
-- ==== Proof.Ideal.Steps.lean ====
/-
One rule per operation of the protocol: barrier signal, barrier wait, transfer, receive wait, send wait. Each takes the
state with `n` offsets served to the state with `n + 1`.
-/
module

public import proofs.«01_k».proof.Proof.Ideal.States

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ) {c : Dev nD} {α : Type}
  {R : α → Prop} {B : Out F → sProp (MT nD τ sig Unit (Elt F) ℕ UU ℕ)}

/-- The `n+1`-st barrier signal, to device `c + (n + 1)`: its duty is this device's offset seen from there, and it hands
    over the slot and the row that device writes. -/
theorem signal_step (n : ℕ) (hn : n < 31) {d : Dev nD} (hd : d = c + off n hn) {z : Int} (hz : z = 1) {s : Sem sig} (hs : s = barS)
    {k : PUnit → Prog (TpuEff nD τ sig (Elt F) Λ₀ .tc) α}
    (h : Tri (ctx m K) (bufs m c) c (Sig m c (n + 1)) (k ⟨⟩) R B) :
    Tri (ctx m K) (bufs m c) c (Sig m c n) (.op (.semSignal ((d, .tc) : Thread nD τ) s z) k) R B := by
  subst hd hz hs
  refine Tri.eff (A' := Sig m c (n + 1)) ⟨⟩ (fun o => o) (fun _ _ => rfl) (fun Q o Fr hw => ?_) h
  unfold Sig at *
  rw [Obar_step c n hn, bigSep_todo n hn, add_right_comm]
  iintro ⟨#HΓ, HF, HO, ⟨⟨Ht, Hp⟩, Hts⟩, Hown, Hc, Ha, HR⟩
  unfold owesW at *
  icases HO with ⟨%W, HO⟩
  iapply (Rounds.wp_signal 𝒱₀ ER (sched m) (c : Thread nD τ) none (dst := (c + off n hn : Thread nD τ)) (κ := K (c + off n hn, none))
      (d := -(off n hn)) (by rw [duties_bar]; exact Finset.mem_erase.mpr ⟨neg_ne (off_ne n hn), Finset.mem_univ _⟩)
      ((amount_bar m (c + off n hn) (-(off n hn))).trans (by decide)) () (Obar c (n + 1) + (Okv c 0 + Osg c 0)) rfl) $$ [HO Ht Hp]
  · isplitr; · iapply (inv_bar m K (c + off n hn)); iexact HΓ
    isplitl [HO]; · iexact HO
    isplitl [Ht]; · iexact Ht
    isplitl [Hp]; · rw [payload_bar]; iexact Hp
    iapply (reached_bar m K (c + off n hn)); iexact HΓ
  iintro HO
  iapply hw
  isplitr; · iexact HΓ
  isplitl [HF]; · iexact HF
  isplitl [HO]; · iexists W; iexact HO
  isplitl [Hts]; · iexact Hts
  isplitl [Hown]; · iexact Hown
  isplitl [Hc]; · iexact Hc
  isplitl [Ha]; · iexact Ha
  iexact HR

abbrev anyKv (c : Dev nD) : sProp 𝕄 := iprop(∃ f, kvPts (F := F) c 0 fullShare f)
abbrev anySg (c : Dev nD) : sProp 𝕄 := iprop(∃ f, sgPts (F := F) c 0 fullShare f)

/-- The peers' payments, slots apart from rows. -/
theorem bar_split (c : Dev nD) : (bigSep (todo 0) fun d => barPay (F := F) c d) ⊢ iprop(TgtKv c 0 ∗ TgtSg c 0) := by
  unfold barPay TgtKv TgtSg; exact Entails.of_eq (bigSep_sep' _ _ _)

/-- The barrier wait: every peer has signalled, and its slot and row come with it. -/
theorem barrier_step {z : Int} (hz : z = 31) {s : Sem sig} (hs : s = barS) {k : PUnit → Prog (TpuEff nD τ sig (Elt F) Λ₀ .tc) α}
    (h : Tri (ctx m K) (bufs m c) c (Own m c (anyKv c) (anySg c)) (k ⟨⟩) R B) :
    Tri (ctx m K) (bufs m c) c (Sig m c 31) (.op (.semWait s z) k) R B := by
  subst hz hs
  refine Tri.eff (A' := Own m c (anyKv c) (anySg c)) ⟨⟩ (fun o => o) (fun _ _ => rfl) (fun Q o Fr hw => ?_) h
  unfold Sig
  unfold Own at hw
  rw [Obar_last, zero_add]
  iintro ⟨#HΓ, HF, HO, -, Hown, Hc, Ha, HR⟩
  unfold owesW at *
  icases HO with ⟨%W, HO⟩
  iapply (Rounds.wp_wait_rest_token 𝒱₀ ER (sched m) (c : Thread nD τ) none (κ := K (c, none))
      (wpE_semWait_eq 𝒱₀ (c : Thread nD τ) none Set.univ) (Set.mem_univ _) () (O := Okv c 0 + Osg c 0) (W := W) (R := 0) (m := 0) (T := ∅)
      (by rw [expect_bar])) $$ [Hc HO Ha]
  · isplitr; · iapply (inv_bar m K c); iexact HΓ
    isplitl [Hc]; · iexact Hc
    isplitl [HO]; · iexact HO
    isplitr
    · iapply (mayWait_bar (F := F) c)
      unfold ctx
      icases HΓ with ⟨-, #HL⟩
      iexact HL
    iexact Ha
  iintro ⟨HO, Ha, -, Hpay⟩
  ihave Hp := ((Entails.of_eq (rest_bar m c)).trans (bar_split c)) $$ Hpay
  icases Hp with ⟨Hkv, Hsg⟩
  iapply hw
  isplitr; · iexact HΓ
  isplitl [HF]; · iexact HF
  isplitl [Hown]; · iexact Hown
  isplitl [HO]; · iexists _; iexact HO
  isplitl [Hkv Hsg]
  · isplitl [Hkv] <;> iassumption
  isplitl [Ha]; · iexact Ha
  iexact HR

theorem half {ℓ : Loc nD τ sig} {S : Finset (Idx ℓ)} (f : Buf (Elt F) ℓ) (n : ℕ) :
    (ℓ ↦[S]{Transfers.shareDrop fullShare n} f : sProp 𝕄)
      ⊣⊢ iprop((ℓ ↦[S]{Transfers.shareDrop fullShare (n + 1)} f) ∗ ℓ ↦[S]{Transfers.shareTokN fullShare n} f) :=
  pointsTo_share (PosShare.mem_left_op_right _)

/-- The `n+1`-st transfer of codes, to slot `-(n + 1)` of device `c + (n + 1)`. -/
theorem sendKv_step (n j : ℕ) (hn : n < 31) {d : Dev nD} (hd : d = c + off n hn)
    {src : Memref sig .tc .vmem S2x128x512 .i8} (hsrc : src = kvSlot 0)
    {dst : Memref sig (Dev.tc d : Thread nD τ).2.kind .vmem S2x128x512 .i8} (hdst : dst = kvSlot (-(off n hn)))
    {ss rs : DmaSem sig} (hss : ss = xsem 0 (off n hn)) (hrs : rs = xsem 2 (-(off n hn)))
    {hsc : dst.view.ref.isScScratch = false} {h1 : src.view.WordExact} {h2 : dst.view.WordExact}
    {h3 : DmaTarget.Typed .vmem (.dma rs) (.remote (Dev.tc d : Thread nD τ) dst (.dma ss) hsc)}
    {k : PUnit → Prog (TpuEff nD τ sig (Elt F) Λ₀ .tc) α}
    (h : Tri (ctx m K) (bufs m c) c (Snd m c (n + 1) j) (k ⟨⟩) R B) :
    Tri (ctx m K) (bufs m c) c (Snd m c n j)
      (.op (.enqueueDma src (.remote (Dev.tc d : Thread nD τ) dst (.dma ss) hsc) (.dma rs) h1 h2 h3) k) R B := by
  subst hd; subst hsrc hdst hss hrs
  refine Tri.eff (A' := Snd m c (n + 1) j) ⟨⟩ (fun o => o) (fun _ _ => rfl) (fun Q o Fr hw => ?_) h
  unfold Snd TgtKv Tok at *
  rw [Okv_step c n hn, bigSep_todo n hn, bigSep_todo n hn, add_right_comm]
  unfold Crd at *
  rw [bigSep_done n hn] at hw
  iintro ⟨#HΓ, HF, HO, ⟨⟨⟨%fd, Ht⟩, Hts⟩, Hs, ⟨⟨Hd1, Hd2⟩, Hds⟩, Hcr⟩, Hsg, HR⟩
  unfold owesW at *
  icases HO with ⟨%W, HO⟩
  unfold kvPts at *
  ihave Hs := (half (KV m c) n).1 $$ Hs
  icases Hs with ⟨Hs, Hl⟩
  iapply (Rounds.wp_send_pointsTo 𝒱₀ ER (sched m) (c : Thread nD τ) none (κ₁ := K (c, some (0, off n hn)))
    (κ₂ := K (c + off n hn, some (2, -(off n hn)))) (r₁ := 0) (r₂ := 0) (d₁ := 0) (d₂ := 0) (fd := fd)
    (by rw [duties_x m c 0 _ (off_ne n hn)]; exact Finset.mem_singleton_self _)
    (by rw [duties_x m _ 2 _ (neg_ne (off_ne n hn))]; exact Finset.mem_singleton_self _)
    () () (credit 2) (by rfl) (amount_x m c 0 _ 0) (amount_x m _ 2 _ 0) (Okv c (n + 1) + Osg c j) rfl (W := W)
    (by rw [payload_x]; show _ ⊢ xPay m c 0 (off n hn); unfold xPay kvPts; rw [if_pos rfl])
    (by
      rw [payload_x]; show _ ⊢ xPay m (c + off n hn) 2 (-(off n hn)); unfold xPay kvPts
      rw [if_neg (by decide), if_neg (by decide), if_pos rfl]
      exact Entails.of_eq (pointsTo_congr fun x hx => kv_landed m c (off n hn) fd x hx))) $$ [Hl Ht HO Hd1 Hd2]
  · isplitr; · iapply (inv_x m K c 0 (off n hn)); iexact HΓ
    isplitr; · iapply (inv_x m K (c + off n hn) 2 (-(off n hn))); iexact HΓ
    isplitl [Hl]; · iexact Hl
    isplitl [Ht]; · iexact Ht
    isplitl [HO]; · iexact HO
    isplitl [Hd1]; · iexact Hd1
    isplitr; · iapply (reached_x m K c 0 (off n hn)); iexact HΓ
    isplitl [Hd2]; · iexact Hd2
    iapply (reached_x m K (c + off n hn) 2 (-(off n hn))); iexact HΓ
  iintro ⟨Hc, HO⟩
  iapply hw
  isplitr; · iexact HΓ
  isplitl [HF]; · iexact HF
  isplitl [HO]; · iexists W; iexact HO
  isplitl [Hts Hs Hds Hcr Hc]
  · isplitl [Hts]; · iexact Hts
    isplitl [Hs]; · iexact Hs
    isplitl [Hds]; · iexact Hds
    isplitl [Hc]; · iexact Hc
    iexact Hcr
  isplitl [Hsg]; · iexact Hsg
  iexact HR

/-- The `n+1`-st transfer of scales. -/
theorem sendSg_step (j n : ℕ) (hn : n < 31) {d : Dev nD} (hd : d = c + off n hn)
    {src : Memref sig .tc .vmem S1x128 .f32} (hsrc : src = sgRow 0)
    {dst : Memref sig (Dev.tc d : Thread nD τ).2.kind .vmem S1x128 .f32} (hdst : dst = sgRow (-(off n hn)))
    {ss rs : DmaSem sig} (hss : ss = xsem 1 (off n hn)) (hrs : rs = xsem 3 (-(off n hn)))
    {hsc : dst.view.ref.isScScratch = false} {h1 : src.view.WordExact} {h2 : dst.view.WordExact}
    {h3 : DmaTarget.Typed .vmem (.dma rs) (.remote (Dev.tc d : Thread nD τ) dst (.dma ss) hsc)}
    {k : PUnit → Prog (TpuEff nD τ sig (Elt F) Λ₀ .tc) α}
    (h : Tri (ctx m K) (bufs m c) c (Snd m c j (n + 1)) (k ⟨⟩) R B) :
    Tri (ctx m K) (bufs m c) c (Snd m c j n)
      (.op (.enqueueDma src (.remote (Dev.tc d : Thread nD τ) dst (.dma ss) hsc) (.dma rs) h1 h2 h3) k) R B := by
  subst hd; subst hsrc hdst hss hrs
  refine Tri.eff (A' := Snd m c j (n + 1)) ⟨⟩ (fun o => o) (fun _ _ => rfl) (fun Q o Fr hw => ?_) h
  unfold Snd TgtSg Tok at *
  rw [Osg_step c n hn, bigSep_todo n hn, bigSep_todo n hn, ← add_assoc]
  unfold Crd at *
  rw [bigSep_done n hn] at hw
  iintro ⟨#HΓ, HF, HO, Hkv, ⟨⟨⟨%fd, Ht⟩, Hts⟩, Hs, ⟨⟨Hd1, Hd2⟩, Hds⟩, Hcr⟩, HR⟩
  unfold owesW at *
  icases HO with ⟨%W, HO⟩
  unfold sgPts at *
  ihave Hs := (half (SG m c) n).1 $$ Hs
  icases Hs with ⟨Hs, Hl⟩
  iapply (Rounds.wp_send_pointsTo 𝒱₀ ER (sched m) (c : Thread nD τ) none (κ₁ := K (c, some (1, off n hn)))
    (κ₂ := K (c + off n hn, some (3, -(off n hn)))) (r₁ := 0) (r₂ := 0) (d₁ := 0) (d₂ := 0) (fd := fd)
    (by rw [duties_x m c 1 _ (off_ne n hn)]; exact Finset.mem_singleton_self _)
    (by rw [duties_x m _ 3 _ (neg_ne (off_ne n hn))]; exact Finset.mem_singleton_self _)
    () () (credit 3) (by rfl) (amount_x m c 1 _ 0) (amount_x m _ 3 _ 0) (Okv c j + Osg c (n + 1)) rfl (W := W)
    (by rw [payload_x]; show _ ⊢ xPay m c 1 (off n hn); unfold xPay sgPts; rw [if_neg (by decide), if_pos rfl])
    (by
      rw [payload_x]; show _ ⊢ xPay m (c + off n hn) 3 (-(off n hn)); unfold xPay sgPts
      rw [if_neg (by decide), if_neg (by decide), if_neg (by decide)]
      exact Entails.of_eq (pointsTo_congr fun x hx => sg_landed m c (off n hn) fd x hx))) $$ [Hl Ht HO Hd1 Hd2]
  · isplitr; · iapply (inv_x m K c 1 (off n hn)); iexact HΓ
    isplitr; · iapply (inv_x m K (c + off n hn) 3 (-(off n hn))); iexact HΓ
    isplitl [Hl]; · iexact Hl
    isplitl [Ht]; · iexact Ht
    isplitl [HO]; · iexact HO
    isplitl [Hd1]; · iexact Hd1
    isplitr; · iapply (reached_x m K c 1 (off n hn)); iexact HΓ
    isplitl [Hd2]; · iexact Hd2
    iapply (reached_x m K (c + off n hn) 3 (-(off n hn))); iexact HΓ
  iintro ⟨Hc, HO⟩
  iapply hw
  isplitr; · iexact HΓ
  isplitl [HF]; · iexact HF
  isplitl [HO]; · iexists W; iexact HO
  isplitl [Hkv]; · iexact Hkv
  isplitl [Hts Hs Hds Hcr Hc]
  · isplitl [Hts]; · iexact Hts
    isplitl [Hs]; · iexact Hs
    isplitl [Hds]; · iexact Hds
    isplitl [Hc]; · iexact Hc
    iexact Hcr
  iexact HR

/-! ## Receiving -/

theorem kvUpTo_succ (n : ℕ) (hn : n < 31) : kvUpTo (n + 1) = kvUpTo n ∪ (kvSlot (off n hn)).view.set := by
  ext x
  rw [Finset.mem_union, mem_kvSlot]
  unfold kvUpTo
  rw [Finset.mem_filter, Finset.mem_filter]
  show _ ∧ (x 1).val < 128 * (n + 1 + 1) ↔ (_ ∧ (x 1).val < 128 * (n + 1)) ∨ (128 * (n + 1) ≤ (x 1).val ∧ (x 1).val < 128 * (n + 1) + 128)
  have := Finset.mem_univ x
  constructor
  · rintro ⟨-, h⟩
    by_cases h' : (x 1).val < 128 * (n + 1)
    · exact Or.inl ⟨this, h'⟩
    · exact Or.inr ⟨by omega, by omega⟩
  · rintro (⟨-, h⟩ | ⟨h, h'⟩)
    · exact ⟨this, by omega⟩
    · exact ⟨this, by omega⟩
theorem kvUpTo_disj (n : ℕ) (hn : n < 31) : Disjoint (kvUpTo n) (kvSlot (off n hn)).view.set := by
  rw [Finset.disjoint_left]
  intro x hx hx'
  rw [mem_kvSlot] at hx'
  have h1 := (Finset.mem_filter.mp hx).2
  have h2 : 128 * (n + 1) ≤ (x 1).val := hx'.1
  omega
theorem kvUpTo_zero : kvUpTo 0 = (kvSlot 0).view.set := by
  ext x
  rw [mem_kvSlot]
  unfold kvUpTo
  rw [Finset.mem_filter]
  show _ ∧ (x 1).val < 128 * (0 + 1) ↔ 128 * 0 ≤ (x 1).val ∧ (x 1).val < 128 * 0 + 128
  have := Finset.mem_univ x
  exact ⟨fun h => ⟨by omega, by omega⟩, fun h => ⟨this, by omega⟩⟩

theorem sgUpTo_succ (n : ℕ) (hn : n < 31) : sgUpTo (n + 1) = sgUpTo n ∪ (sgRow (off n hn)).view.set := by
  ext x
  rw [Finset.mem_union, mem_sgRow]
  unfold sgUpTo
  rw [Finset.mem_filter, Finset.mem_filter]
  show _ ∧ (x 0).val < n + 1 + 1 ↔ (_ ∧ (x 0).val < n + 1) ∨ ((x 0).val = n + 1)
  have := Finset.mem_univ x
  constructor
  · rintro ⟨-, h⟩
    by_cases h' : (x 0).val < n + 1
    · exact Or.inl ⟨this, h'⟩
    · exact Or.inr (by omega)
  · rintro (⟨-, h⟩ | h)
    · exact ⟨this, by omega⟩
    · exact ⟨this, by omega⟩
theorem sgUpTo_disj (n : ℕ) (hn : n < 31) : Disjoint (sgUpTo n) (sgRow (off n hn)).view.set := by
  rw [Finset.disjoint_left]
  intro x hx hx'
  rw [mem_sgRow] at hx'
  have h1 := (Finset.mem_filter.mp hx).2
  have h2 : (x 0).val = n + 1 := hx'
  omega
theorem sgUpTo_zero : sgUpTo 0 = (sgRow 0).view.set := by
  ext x
  rw [mem_sgRow]
  unfold sgUpTo
  rw [Finset.mem_filter]
  show _ ∧ (x 0).val < 0 + 1 ↔ (x 0).val = 0
  have := Finset.mem_univ x
  exact ⟨fun h => by omega, fun h => ⟨this, by omega⟩⟩

theorem KvUp_step (n : ℕ) (hn : n < 31) : iprop(KvUp m c n ∗ kvPts c (off n hn) fullShare (KV m c)) ⊢ KvUp m c (n + 1) := by
  unfold KvUp
  rw [bigSep_done n hn, kvUpTo_succ n hn, bufs_kv]
  unfold kvPts
  iintro ⟨⟨Hr, Hx⟩, Hs⟩
  ihave Hs := (Transfers.pointsTo_toks_range (f := KV m c) fullShare 31).1 $$ Hs
  icases Hs with ⟨Hq, Ht⟩
  isplitl [Hr Hq]
  · iapply (pointsTo_union (f := KV m c) (kvUpTo_disj n hn)).2
    isplitl [Hr] <;> iassumption
  isplitl [Ht] <;> iassumption

theorem SgUp_step (n : ℕ) (hn : n < 31) : iprop(SgUp m c n ∗ sgPts c (off n hn) fullShare (SG m c)) ⊢ SgUp m c (n + 1) := by
  unfold SgUp
  rw [bigSep_done n hn, sgUpTo_succ n hn, bufs_sg]
  unfold sgPts
  iintro ⟨⟨Hr, Hx⟩, Hs⟩
  ihave Hs := (Transfers.pointsTo_toks_range (f := SG m c) fullShare 31).1 $$ Hs
  icases Hs with ⟨Hq, Ht⟩
  isplitl [Hr Hq]
  · iapply (pointsTo_union (f := SG m c) (sgUpTo_disj n hn)).2
    isplitl [Hr] <;> iassumption
  isplitl [Ht] <;> iassumption

/-- Everything sent: what is left of the own slot is what is read of it. -/
theorem Snd_Rcv (o : Out F) : Snd m c 31 31 o ⊢ Rcv m c 0 0 o := by
  unfold Snd Rcv Rest2 Rest3 KvUp SgUp
  rw [Okv_last, Osg_last, add_zero, kvUpTo_zero, sgUpTo_zero, bufs_kv, bufs_sg, done_zero, bigSep_empty, bigSep_empty]
  unfold kvPts sgPts
  iintro ⟨HO, ⟨-, Hkv, -, Hc0⟩, ⟨-, Hsg, -, Hc1⟩, Hb, HS, HR, HI, ⟨Ha0, Ha1, Ha2, Ha3⟩, Hc2, Hc3⟩
  isplitl [HO]; · iexact HO
  isplitl [Hkv Ha2 Hc2]
  · isplitl [Hkv]
    · isplitl [Hkv]; · iexact Hkv
      iempintro
    isplitl [Ha2] <;> iassumption
  isplitl [Hsg Ha3 Hc3]
  · isplitl [Hsg]
    · isplitl [Hsg]; · iexact Hsg
      iempintro
    isplitl [Ha3] <;> iassumption
  isplitl [HS]; · iexact HS
  isplitl [HR]; · iexact HR
  isplitl [Hc0]; · iexact Hc0
  isplitl [Hc1]; · iexact Hc1
  isplitl [Ha0]; · iexact Ha0
  isplitl [Ha1]; · iexact Ha1
  isplitl [Hb] <;> iassumption

/-- The wait on one transfer cell, as it moves that cell's position and credit; `X` is what the cell hands over. -/
theorem wait_x {k : Fin 4} (n : ℕ) (hn : n < 31) (X : sProp 𝕄) (hX : xPay m c k.val (off n hn) = X)
    {sp : Space} {s : Shape} {e : EltTy} {src dst : Memref sig .tc sp s e} {h1 : src.view.WordExact} {h2 : dst.view.WordExact} (hN : dst.view.dmaCredit = credit k.val)
    {kk : PUnit → Prog (TpuEff nD τ sig (Elt F) Λ₀ .tc) α} {Q : α → sProp 𝕄} :
    iprop(ctx m K ∗ owesW c 0 ∗ AtK c k n ∗ Cr c k n) ⊢
      iprop(((owesW c 0 ∗ AtK c k (n + 1) ∗ Cr c k (n + 1) ∗ X) -∗
          wp frame (wpE (defs₀ (F := F)) 𝒱₀ (c : Thread nD τ) none) Set.univ (kk ⟨⟩) Q)
        -∗ wp frame (wpE (defs₀ (F := F)) 𝒱₀ (c : Thread nD τ) none) Set.univ (.op (.waitDma2 (xsem k (off n hn)) src dst h1 h2) kk) Q) := by
  subst hX
  unfold AtK Cr owesW
  rw [bigSep_todo n hn, bigSep_todo n hn, bigSep_done n hn]
  iintro ⟨#HΓ, ⟨%W, HO⟩, ⟨⟨Ha, Has⟩, Had⟩, Hc, Hcs⟩ Hk
  iapply (Rounds.wp_wait_rest_token 𝒱₀ ER (sched m) (c : Thread nD τ) none (κ := K (c, some (k, off n hn)))
      (wpE_waitDma2_eq 𝒱₀ (c : Thread nD τ) none Set.univ) (Set.mem_univ _) () (O := 0) (W := W) (R := 0) (m := 0) (T := ∅)
      (by rw [Nat.zero_add, expect_x m c k _ (off_ne n hn), hN])) $$ [Hc HO Ha]
  · isplitr; · iapply (inv_x m K c k (off n hn)); iexact HΓ
    isplitl [Hc]; · rw [hN]; iexact Hc
    isplitl [HO]; · iexact HO
    isplitr; · rw [MayWait_zero]; iempintro
    iexact Ha
  iintro ⟨HO, Ha, -, Hpay⟩
  ihave Hp := (Entails.of_eq (rest_x m c k _ (off_ne n hn))) $$ Hpay
  iapply Hk
  isplitl [HO]; · iexists _; iexact HO
  isplitl [Ha Has Had]
  · isplitl [Has]; · iexact Has
    isplitl [Ha] <;> iassumption
  isplitl [Hcs] <;> iassumption

/-- The wait for slot `n + 1`. -/
theorem recvKv_step (n j : ℕ) (hn : n < 31) {src dst : Memref sig .tc .vmem S2x128x512 .i8} (hdst : dst = kvSlot (off n hn))
    {s : DmaSem sig} (hs : s = xsem 2 (off n hn)) {h1 : src.view.WordExact} {h2 : dst.view.WordExact}
    {k : PUnit → Prog (TpuEff nD τ sig (Elt F) Λ₀ .tc) α}
    (h : Tri (ctx m K) (bufs m c) c (Rcv m c (n + 1) j) (k ⟨⟩) R B) :
    Tri (ctx m K) (bufs m c) c (Rcv m c n j) (.op (.waitDma2 s src dst h1 h2) k) R B := by
  subst hdst hs
  refine Tri.eff (A' := Rcv m c (n + 1) j) ⟨⟩ (fun o => o) (fun _ _ => rfl) (fun Q o Fr hw => ?_) h
  unfold Rcv at *
  iintro ⟨#HΓ, HF, HO, ⟨HU, Ha, Hc⟩, Hsg, HR⟩
  iapply (wait_x m K (k := 2) n hn (kvPts c (off n hn) fullShare (KV m c)) (by unfold xPay; rw [if_neg (by decide), if_neg (by decide), if_pos (by rfl)])
    (by rfl)) $$ [HO Ha Hc]
  · isplitr; · iexact HΓ
    isplitl [HO]; · iexact HO
    isplitl [Ha] <;> iassumption
  iintro ⟨HO, Ha, Hc, HX⟩
  iapply hw
  isplitr; · iexact HΓ
  isplitl [HF]; · iexact HF
  isplitl [HO]; · iexact HO
  isplitl [HU HX Ha Hc]
  · isplitl [HU HX]
    · iapply (KvUp_step m n hn)
      isplitl [HU] <;> iassumption
    isplitl [Ha] <;> iassumption
  isplitl [Hsg]; · iexact Hsg
  iexact HR

/-- The wait for row `n + 1`. -/
theorem recvSg_step (j n : ℕ) (hn : n < 31) {src dst : Memref sig .tc .vmem S1x128 .f32} (hdst : dst = sgRow (off n hn))
    {s : DmaSem sig} (hs : s = xsem 3 (off n hn)) {h1 : src.view.WordExact} {h2 : dst.view.WordExact}
    {k : PUnit → Prog (TpuEff nD τ sig (Elt F) Λ₀ .tc) α}
    (h : Tri (ctx m K) (bufs m c) c (Rcv m c j (n + 1)) (k ⟨⟩) R B) :
    Tri (ctx m K) (bufs m c) c (Rcv m c j n) (.op (.waitDma2 s src dst h1 h2) k) R B := by
  subst hdst hs
  refine Tri.eff (A' := Rcv m c j (n + 1)) ⟨⟩ (fun o => o) (fun _ _ => rfl) (fun Q o Fr hw => ?_) h
  unfold Rcv at *
  iintro ⟨#HΓ, HF, HO, Hkv, ⟨HU, Ha, Hc⟩, HR⟩
  iapply (wait_x m K (k := 3) n hn (sgPts c (off n hn) fullShare (SG m c)) (by unfold xPay; rw [if_neg (by decide), if_neg (by decide), if_neg (by decide)])
    (by rfl)) $$ [HO Ha Hc]
  · isplitr; · iexact HΓ
    isplitl [HO]; · iexact HO
    isplitl [Ha] <;> iassumption
  iintro ⟨HO, Ha, Hc, HX⟩
  iapply hw
  isplitr; · iexact HΓ
  isplitl [HF]; · iexact HF
  isplitl [HO]; · iexact HO
  isplitl [Hkv]; · iexact Hkv
  isplitl [HU HX Ha Hc]
  · isplitl [HU HX]
    · iapply (SgUp_step m n hn)
      isplitl [HU] <;> iassumption
    isplitl [Ha] <;> iassumption
  iexact HR

/-! ## Giving the shares back -/

theorem doneKv_step (n j : ℕ) (hn : n < 31) {src dst : Memref sig .tc .vmem S2x128x512 .i8} (hdst : dst = kvSlot 0)
    {s : DmaSem sig} (hs : s = xsem 0 (off n hn)) {h1 : src.view.WordExact} {h2 : dst.view.WordExact}
    {k : PUnit → Prog (TpuEff nD τ sig (Elt F) Λ₀ .tc) α}
    (h : Tri (ctx m K) (bufs m c) c (Fin' m c (n + 1) j) (k ⟨⟩) R B) :
    Tri (ctx m K) (bufs m c) c (Fin' m c n j) (.op (.waitDma2 s src dst h1 h2) k) R B := by
  subst hdst hs
  refine Tri.eff (A' := Fin' m c (n + 1) j) ⟨⟩ (fun o => o) (fun _ _ => rfl) (fun Q o Fr hw => ?_) h
  unfold Fin' at *
  rw [bigSep_done n hn] at hw
  iintro ⟨#HΓ, HF, Hres, HO, ⟨Ha, Hc, Hs⟩, Hsg, HR⟩
  iapply (wait_x m K (k := 0) n hn (kvPts c 0 (lentShare (off n hn)) (KV m c)) (by unfold xPay; rw [if_pos (by rfl)]) (by rfl)) $$ [HO Ha Hc]
  · isplitr; · iexact HΓ
    isplitl [HO]; · iexact HO
    isplitl [Ha] <;> iassumption
  iintro ⟨HO, Ha, Hc, HX⟩
  iapply hw
  isplitr; · iexact HΓ
  isplitl [HF]; · iexact HF
  isplitl [Hres]; · iexact Hres
  isplitl [HO]; · iexact HO
  isplitl [Hs HX Ha Hc]
  · isplitl [Ha]; · iexact Ha
    isplitl [Hc]; · iexact Hc
    isplitl [HX] <;> iassumption
  isplitl [Hsg]; · iexact Hsg
  iexact HR

theorem doneSg_step (j n : ℕ) (hn : n < 31) {src dst : Memref sig .tc .vmem S1x128 .f32} (hdst : dst = sgRow 0)
    {s : DmaSem sig} (hs : s = xsem 1 (off n hn)) {h1 : src.view.WordExact} {h2 : dst.view.WordExact}
    {k : PUnit → Prog (TpuEff nD τ sig (Elt F) Λ₀ .tc) α}
    (h : Tri (ctx m K) (bufs m c) c (Fin' m c j (n + 1)) (k ⟨⟩) R B) :
    Tri (ctx m K) (bufs m c) c (Fin' m c j n) (.op (.waitDma2 s src dst h1 h2) k) R B := by
  subst hdst hs
  refine Tri.eff (A' := Fin' m c j (n + 1)) ⟨⟩ (fun o => o) (fun _ _ => rfl) (fun Q o Fr hw => ?_) h
  unfold Fin' at *
  rw [bigSep_done n hn] at hw
  iintro ⟨#HΓ, HF, Hres, HO, Hkv, ⟨Ha, Hc, Hs⟩, HR⟩
  iapply (wait_x m K (k := 1) n hn (sgPts c 0 (lentShare (off n hn)) (SG m c)) (by unfold xPay; rw [if_neg (by decide), if_pos (by rfl)]) (by rfl)) $$ [HO Ha Hc]
  · isplitr; · iexact HΓ
    isplitl [HO]; · iexact HO
    isplitl [Ha] <;> iassumption
  iintro ⟨HO, Ha, Hc, HX⟩
  iapply hw
  isplitr; · iexact HΓ
  isplitl [HF]; · iexact HF
  isplitl [Hres]; · iexact Hres
  isplitl [HO]; · iexact HO
  isplitl [Hkv]; · iexact Hkv
  isplitl [Hs HX Ha Hc]
  · isplitl [Ha]; · iexact Ha
    isplitl [Hc]; · iexact Hc
    isplitl [HX] <;> iassumption
  iexact HR

end Cert.KernelIdeal.Attn

end
-- ==== Proof.Ideal.Accesses.lean ====
/-
One rule per load and store: of the staged inputs, of the device's own slot and row, of the gathered slots and rows, and
of the result.
-/
module

public import proofs.«01_k».proof.Proof.Ideal.Steps

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ) {c : Dev nD} {α : Type}
  {R : α → Prop} {B : Out F → sProp (MT nD τ sig Unit (Elt F) ℕ UU ℕ)}

/-! ## Loads of the staged inputs -/

theorem Stg_0 (c : Dev nD) : Stg m c ⊢ iprop(stgPts c cc0_stg0_0 (bufs m c cc0_stg0_0) ∗ (stgPts c cc0_stg0_0 (bufs m c cc0_stg0_0) -∗ Stg m c)) := by
  unfold Stg; iintro ⟨H0, H1, H2, H3, H4⟩
  isplitl [H0]; · iexact H0
  iintro H0
  isplitl [H0]; · iexact H0
  isplitl [H1]; · iexact H1
  isplitl [H2]; · iexact H2
  isplitl [H3] <;> iassumption
theorem Stg_1 (c : Dev nD) : Stg m c ⊢ iprop(stgPts c cc0_stg1_0 (bufs m c cc0_stg1_0) ∗ (stgPts c cc0_stg1_0 (bufs m c cc0_stg1_0) -∗ Stg m c)) := by
  unfold Stg; iintro ⟨H0, H1, H2, H3, H4⟩
  isplitl [H1]; · iexact H1
  iintro H1
  isplitl [H0]; · iexact H0
  isplitl [H1]; · iexact H1
  isplitl [H2]; · iexact H2
  isplitl [H3] <;> iassumption
theorem Stg_2 (c : Dev nD) : Stg m c ⊢ iprop(stgPts c cc0_stg2_0 (bufs m c cc0_stg2_0) ∗ (stgPts c cc0_stg2_0 (bufs m c cc0_stg2_0) -∗ Stg m c)) := by
  unfold Stg; iintro ⟨H0, H1, H2, H3, H4⟩
  isplitl [H2]; · iexact H2
  iintro H2
  isplitl [H0]; · iexact H0
  isplitl [H1]; · iexact H1
  isplitl [H2]; · iexact H2
  isplitl [H3] <;> iassumption
theorem Stg_3 (c : Dev nD) : Stg m c ⊢ iprop(stgPts c cc0_stg3_0 (bufs m c cc0_stg3_0) ∗ (stgPts c cc0_stg3_0 (bufs m c cc0_stg3_0) -∗ Stg m c)) := by
  unfold Stg; iintro ⟨H0, H1, H2, H3, H4⟩
  isplitl [H3]; · iexact H3
  iintro H3
  isplitl [H0]; · iexact H0
  isplitl [H1]; · iexact H1
  isplitl [H2]; · iexact H2
  isplitl [H3] <;> iassumption
theorem Stg_4 (c : Dev nD) : Stg m c ⊢ iprop(stgPts c cc0_stg4_0 (bufs m c cc0_stg4_0) ∗ (stgPts c cc0_stg4_0 (bufs m c cc0_stg4_0) -∗ Stg m c)) := by
  unfold Stg; iintro ⟨H0, H1, H2, H3, H4⟩
  isplitl [H4]; · iexact H4
  iintro H4
  isplitl [H0]; · iexact H0
  isplitl [H1]; · iexact H1
  isplitl [H2]; · iexact H2
  isplitl [H3] <;> iassumption

theorem Own_Stg (c : Dev nD) (a b : sProp 𝕄) (o : Out F) : Own m c a b o ⊢ iprop(Stg m c ∗ (Stg m c -∗ Own m c a b o)) := by
  unfold Own Rest1
  iintro ⟨Hab, HO, HT, Ha, HS, HR⟩
  isplitl [HS]; · iexact HS
  iintro HS
  isplitl [Hab]; · iexact Hab
  isplitl [HO]; · iexact HO
  isplitl [HT]; · iexact HT
  isplitl [Ha]; · iexact Ha
  isplitl [HS] <;> iassumption

theorem Rcv_Stg (c : Dev nD) (n k : ℕ) (o : Out F) : Rcv m c n k o ⊢ iprop(Stg m c ∗ (Stg m c -∗ Rcv m c n k o)) := by
  unfold Rcv
  iintro ⟨HO, H1, H2, HS, HR⟩
  isplitl [HS]; · iexact HS
  iintro HS
  isplitl [HO]; · iexact HO
  isplitl [H1]; · iexact H1
  isplitl [H2]; · iexact H2
  isplitl [HS] <;> iassumption

/-- A load of a staged input while the own slot is being filled; `v` is what it returns. -/
theorem own_load {a b : sProp (MT nD τ sig Unit (Elt F) ℕ UU ℕ)} {sp : CoreSpace} {s : Shape} {e : EltTy} {mr : Memref sig .tc sp s e} {r : LoadRect s} {hl : mr.view.LoadsAt r}
    {k : Vec F r.shape e → Prog (TpuEff nD τ sig (Elt F) Λ₀ .tc) α} (v : Vec F r.shape e)
    (hA : Stg m c ⊢ iprop((mr.view.loc (c : Thread nD τ) ↦[Finset.univ]{fullShare} bufs m c mr.view.ref)
      ∗ ((mr.view.loc (c : Thread nD τ) ↦[Finset.univ]{fullShare} bufs m c mr.view.ref) -∗ Stg m c)))
    (hv : mr.view.readAt (Elt F) r (bufs m c mr.view.ref) = v)
    (h : Tri (ctx m K) (bufs m c) c (Own m c a b) (k v) R B) :
    Tri (ctx m K) (bufs m c) c (Own m c a b) (.op (.load mr r hl) k) R B := by
  subst hv
  refine Tri.load Finset.univ fullShare (Finset.subset_univ _) (fun o => ?_) h
  iintro H
  ihave H := (Own_Stg m c a b o) $$ H
  icases H with ⟨HS, Hb⟩
  ihave HS := hA $$ HS
  icases HS with ⟨Hp, HS⟩
  isplitl [Hp]; · iexact Hp
  iintro Hp
  iapply Hb
  iapply HS
  iexact Hp

/-- A load of a staged input among the loads of the gathered codes. -/
theorem rcv_load {n j : ℕ} {sp : CoreSpace} {s : Shape} {e : EltTy} {mr : Memref sig .tc sp s e} {r : LoadRect s} {hl : mr.view.LoadsAt r}
    {k : Vec F r.shape e → Prog (TpuEff nD τ sig (Elt F) Λ₀ .tc) α}
    (hA : Stg m c ⊢ iprop((mr.view.loc (c : Thread nD τ) ↦[Finset.univ]{fullShare} bufs m c mr.view.ref)
      ∗ ((mr.view.loc (c : Thread nD τ) ↦[Finset.univ]{fullShare} bufs m c mr.view.ref) -∗ Stg m c)))
    (h : Tri (ctx m K) (bufs m c) c (Rcv m c n j) (k (mr.view.readAt (Elt F) r (bufs m c mr.view.ref))) R B) :
    Tri (ctx m K) (bufs m c) c (Rcv m c n j) (.op (.load mr r hl) k) R B := by
  refine Tri.load Finset.univ fullShare (Finset.subset_univ _) (fun o => ?_) h
  iintro H
  ihave H := (Rcv_Stg m c n j o) $$ H
  icases H with ⟨HS, Hb⟩
  ihave HS := hA $$ HS
  icases HS with ⟨Hp, HS⟩
  isplitl [Hp]; · iexact Hp
  iintro Hp
  iapply Hb
  iapply HS
  iexact Hp

/-! ## The own slot and row -/

theorem kv_setOn {off size : Fin 3 → ℕ} {inb} {x : S2x4096x512.Idx}
    (h : x ∈ kvM.view.setOn (Rect.unit (s := S2x4096x512) off size inb).set) : off 1 ≤ (x 1).val ∧ (x 1).val < off 1 + size 1 := by
  obtain ⟨y, hy, rfl⟩ := Finset.mem_map.mp h
  exact Rect.mem_set_unit.mp hy 1
theorem sg_setOn {off size : Fin 2 → ℕ} {inb} {x : S32x128.Idx}
    (h : x ∈ sgM.view.setOn (Rect.unit (s := S32x128) off size inb).set) : off 0 ≤ (x 0).val ∧ (x 0).val < off 0 + size 0 := by
  obtain ⟨y, hy, rfl⟩ := Finset.mem_map.mp h
  exact Rect.mem_set_unit.mp hy 0
theorem kv_access {off size : Fin 3 → ℕ} {inb} {x : S2x4096x512.Idx}
    (h : x ∈ (kvM.access (Rect.unit (s := S2x4096x512) off size inb)).setOn Finset.univ) : ∀ a, off a ≤ (x a).val ∧ (x a).val < off a + size a := by
  have h' : x ∈ (kvM.access (Rect.unit (s := S2x4096x512) off size inb)).set := h
  rw [show (kvM.access (Rect.unit (s := S2x4096x512) off size inb)).set = (Rect.unit (s := S2x4096x512) off size inb).set from View.set_slice_whole _ _] at h'
  exact Rect.mem_set_unit.mp h'
theorem sg_access {off size : Fin 2 → ℕ} {inb} {x : S32x128.Idx}
    (h : x ∈ (sgM.access (Rect.unit (s := S32x128) off size inb)).setOn Finset.univ) : ∀ a, off a ≤ (x a).val ∧ (x a).val < off a + size a := by
  have h' : x ∈ (sgM.access (Rect.unit (s := S32x128) off size inb)).set := h
  rw [show (sgM.access (Rect.unit (s := S32x128) off size inb)).set = (Rect.unit (s := S32x128) off size inb).set from View.set_slice_whole _ _] at h'
  exact Rect.mem_set_unit.mp h'

theorem own_slot_sub {off size : Fin 3 → ℕ} {inb} (h : off 1 + size 1 ≤ 128) :
    kvM.view.setOn (Rect.unit (s := S2x4096x512) off size inb).set ⊆ (kvSlot 0).view.set := fun x hx =>
  (mem_kvSlot 0 x).mpr ⟨Nat.zero_le _, by have := (kv_setOn hx).2; show (x 1).val < 128 * 0 + 128; omega⟩
theorem own_slot_sub' {off size : Fin 3 → ℕ} {inb} (h : off 1 + size 1 ≤ 128) :
    (kvM.access (Rect.unit (s := S2x4096x512) off size inb)).setOn Finset.univ ⊆ (kvSlot 0).view.set := fun x hx =>
  (mem_kvSlot 0 x).mpr ⟨Nat.zero_le _, by have := (kv_access hx 1).2; show (x 1).val < 128 * 0 + 128; omega⟩
theorem own_row_sub {off size : Fin 2 → ℕ} {inb} (h : off 0 + size 0 ≤ 1) :
    sgM.view.setOn (Rect.unit (s := S32x128) off size inb).set ⊆ (sgRow 0).view.set := fun x hx =>
  (mem_sgRow 0 x).mpr (by have := (sg_setOn hx).2; show (x 0).val = 0; omega)
theorem own_row_sub' {off size : Fin 2 → ℕ} {inb} (h : off 0 + size 0 ≤ 1) :
    (sgM.access (Rect.unit (s := S32x128) off size inb)).setOn Finset.univ ⊆ (sgRow 0).view.set := fun x hx =>
  (mem_sgRow 0 x).mpr (by have := (sg_access hx 0).2; show (x 0).val = 0; omega)

abbrev CKV (F : FTy → Type) [FloatOps F] [Named F] : Type := (cc0_scratch0 : Ref sig .tc).ty.Contents (Elt F)
abbrev CSG (F : FTy → Type) [FloatOps F] [Named F] : Type := (cc0_scratch1 : Ref sig .tc).ty.Contents (Elt F)

/-- A load from the own slot whose value is not used. -/
theorem own_dead_kv {b : sProp (MT nD τ sig Unit (Elt F) ℕ UU ℕ)} (g : CKV F → CKV F) {off size : Fin 3 → ℕ} {inb} (hs : off 1 + size 1 ≤ 128)
    {hl : kvM.view.LoadsAt (Rect.unit (s := S2x4096x512) off size inb).toLoadRect}
    {p : Prog (TpuEff nD τ sig (Elt F) Λ₀ .tc) α}
    (h : Tri (ctx m K) (bufs m c) c (Own m c (iprop(∃ f, kvPts c 0 fullShare (g f))) b) p R B) :
    Tri (ctx m K) (bufs m c) c (Own m c (iprop(∃ f, kvPts c 0 fullShare (g f))) b)
      (.op (.load kvM (Rect.unit (s := S2x4096x512) off size inb).toLoadRect hl) fun _ => p) R B := by
  refine Tri.load_dead (kvSlot 0).view.set fullShare (own_slot_sub hs) (fun o => ?_) (fun _ _ => rfl) (fun _ => h)
  unfold Own kvPts
  iintro ⟨⟨⟨%f, Hp⟩, Hb⟩, HR⟩
  iexists (g f)
  isplitl [Hp]; · iexact Hp
  iintro Hp
  isplitl [Hp Hb]
  · isplitl [Hp]; · iexists f; iexact Hp
    iexact Hb
  iexact HR
theorem own_dead_sg {a : sProp (MT nD τ sig Unit (Elt F) ℕ UU ℕ)} {off size : Fin 2 → ℕ} {inb} (hs : off 0 + size 0 ≤ 1)
    {hl : sgM.view.LoadsAt (Rect.unit (s := S32x128) off size inb).toLoadRect}
    {p : Prog (TpuEff nD τ sig (Elt F) Λ₀ .tc) α}
    (h : Tri (ctx m K) (bufs m c) c (Own m c a (anySg c)) p R B) :
    Tri (ctx m K) (bufs m c) c (Own m c a (anySg c))
      (.op (.load sgM (Rect.unit (s := S32x128) off size inb).toLoadRect hl) fun _ => p) R B := by
  refine Tri.load_dead (sgRow 0).view.set fullShare (own_row_sub hs) (fun o => ?_) (fun _ _ => rfl) (fun _ => h)
  unfold Own anySg sgPts
  iintro ⟨⟨Ha, %f, Hp⟩, HR⟩
  iexists f
  isplitl [Hp]; · iexact Hp
  iintro Hp
  isplitl [Hp Ha]
  · isplitl [Ha]; · iexact Ha
    iexists f; iexact Hp
  iexact HR

/-- A store into the own slot; into the own row. -/
theorem own_store_kv {b : sProp (MT nD τ sig Unit (Elt F) ℕ UU ℕ)} (g : CKV F → CKV F) {off size : Fin 3 → ℕ} {inb} (hz : off 1 + size 1 ≤ 128)
    {w : (Rect.unit (s := S2x4096x512) off size inb).shape.Idx → Elt F .i8}
    {hs : (kvM.access (Rect.unit (s := S2x4096x512) off size inb)).Stores Finset.univ} {hm} {k : PUnit → Prog (TpuEff nD τ sig (Elt F) Λ₀ .tc) α}
    (h : Tri (ctx m K) (bufs m c) c (Own m c (iprop(∃ f, kvPts c 0 fullShare ((kvM.access (Rect.unit (s := S2x4096x512) off size inb)).write (Elt F) (g f) w Finset.univ))) b) (k ⟨⟩) R B) :
    Tri (ctx m K) (bufs m c) c (Own m c (iprop(∃ f, kvPts c 0 fullShare (g f))) b)
      (.op (.store kvM (Rect.unit (s := S2x4096x512) off size inb) w Finset.univ hs hm) k) R B := by
  refine Tri.store (kvSlot 0).view.set (own_slot_sub' hz) (fun o => ?_) h
  unfold Own kvPts
  iintro ⟨⟨⟨%f, Hp⟩, Hb⟩, HR⟩
  iexists (g f)
  isplitl [Hp]; · iexact Hp
  iintro Hp
  isplitl [Hp Hb]
  · isplitl [Hp]; · iexists f; iexact Hp
    iexact Hb
  iexact HR
theorem own_store_sg {a : sProp (MT nD τ sig Unit (Elt F) ℕ UU ℕ)} {off size : Fin 2 → ℕ} {inb} (hz : off 0 + size 0 ≤ 1)
    {w : (Rect.unit (s := S32x128) off size inb).shape.Idx → Elt F .f32}
    {hs : (sgM.access (Rect.unit (s := S32x128) off size inb)).Stores Finset.univ} {hm} {k : PUnit → Prog (TpuEff nD τ sig (Elt F) Λ₀ .tc) α}
    (h : Tri (ctx m K) (bufs m c) c (Own m c a (iprop(∃ f, sgPts c 0 fullShare ((sgM.access (Rect.unit (s := S32x128) off size inb)).write (Elt F) f w Finset.univ)))) (k ⟨⟩) R B) :
    Tri (ctx m K) (bufs m c) c (Own m c a (anySg c))
      (.op (.store sgM (Rect.unit (s := S32x128) off size inb) w Finset.univ hs hm) k) R B := by
  refine Tri.store (sgRow 0).view.set (own_row_sub' hz) (fun o => ?_) h
  unfold Own anySg sgPts
  iintro ⟨⟨Ha, %f, Hp⟩, HR⟩
  iexists f
  isplitl [Hp]; · iexact Hp
  iintro Hp
  isplitl [Hp Ha]
  · isplitl [Ha]; · iexact Ha
    iexists f; iexact Hp
  iexact HR

/-- The two stores fill slot 0 with the device's own codes, -/
theorem kv_stored (c : Dev nD) (f : CKV F) (i1 i2) (x : S2x4096x512.Idx) (hx : x ∈ (kvSlot 0).view.set) :
    (kvM.access (Rect.unit (s := S2x4096x512) ![0, 0, 256] S2x128x256.size i2)).write (Elt F)
      ((kvM.access (Rect.unit (s := S2x4096x512) ![0, 0, 0] S2x128x256.size i1)).write (Elt F) f (ownK m c) Finset.univ) (ownV m c) Finset.univ x
      = KV m c x := by
  obtain ⟨y, rfl⟩ := mem_view _ hx
  have hy : (y 1).val < 128 := (y 1).isLt
  have h1 : 128 * (0 : Fin 32).val + (y 1).val < 4096 := by show 128 * 0 + _ < _; omega
  rw [kvSlot_emb]
  refine Eq.trans ?_ (KV_slot m c 0 (y 0) (y 1) (y 2) h1).symm
  rw [show c + (0 : Fin 32) = c from add_zero c]
  by_cases h : (y 2).val < 256
  · rw [dif_pos h]
    refine (View.write_of_not_mem _ _ _ ?_).trans ?_
    rotate_left
    · have e : (ix3 (y 0) (⟨128 * (0 : Fin 32).val + (y 1).val, h1⟩ : Fin 4096) (y 2) : S2x4096x512.Idx)
          = (kvM.access (Rect.unit (s := S2x4096x512) ![0, 0, 0] S2x128x256.size i1)).emb (ix3 (y 0) (y 1) (⟨(y 2).val, h⟩ : Fin 256)) := by
        funext a; apply Fin.ext
        fin_cases a
        · exact ((Nat.zero_add _).trans (Nat.one_mul _)).symm
        · show 128 * 0 + (y 1).val = 0 + 1 * (y 1).val; omega
        · exact ((Nat.zero_add _).trans (Nat.one_mul _)).symm
      refine (congrArg _ e).trans ?_
      exact View.write_emb_of_mem _ _ (Finset.mem_univ _)
    · intro hh
      have := (kv_access hh 2).1
      have h2 : 256 ≤ (y 2).val := this
      omega
  · rw [dif_neg h]
    have hz : (y 2).val < 512 := (y 2).isLt
    have e : (ix3 (y 0) (⟨128 * (0 : Fin 32).val + (y 1).val, h1⟩ : Fin 4096) (y 2) : S2x4096x512.Idx)
        = (kvM.access (Rect.unit (s := S2x4096x512) ![0, 0, 256] S2x128x256.size i2)).emb (ix3 (y 0) (y 1) (⟨(y 2).val - 256, by omega⟩ : Fin 256)) := by
      funext a; apply Fin.ext
      fin_cases a
      · exact ((Nat.zero_add _).trans (Nat.one_mul _)).symm
      · show 128 * 0 + (y 1).val = 0 + 1 * (y 1).val; omega
      · show (y 2).val = 256 + 1 * ((y 2).val - 256); omega
    refine (congrArg _ e).trans ?_
    exact View.write_emb_of_mem _ _ (Finset.mem_univ _)

/-- and the third fills row 0 with its scales. -/
theorem sg_stored (c : Dev nD) (f : CSG F) (i1) (x : S32x128.Idx) (hx : x ∈ (sgRow 0).view.set) :
    (sgM.access (Rect.unit (s := S32x128) ![0, 0] S1x128.size i1)).write (Elt F) f (ownS m c) Finset.univ x = SG m c x := by
  obtain ⟨y, rfl⟩ := mem_view _ hx
  have e2 : y = ix2 (0 : Fin 1) (y 1) := by
    funext a; apply Fin.ext
    fin_cases a
    · have h : (y 0).val < 1 := (y 0).isLt
      show (y 0).val = 0; omega
    · rfl
  have e3 : SG m c ((sgRow 0).view.emb y) = ownS m c y := by
    rw [sgRow_emb]
    show ownS m (c + (0 : Fin 32)) (ix2 (0 : Fin 1) (y 1)) = _
    rw [show c + (0 : Fin 32) = c from add_zero c]
    exact congrArg (ownS m c) e2.symm
  rw [e3]
  generalize ownS m c = w
  exact View.write_emb_of_mem (v := sgM.access (Rect.unit (s := S32x128) ![0, 0] S1x128.size i1)) (Val := Elt F) f w (x := y) (Finset.mem_univ _)

theorem kvPts_congr (c : Dev nD) (q : PosShare TreeShare) (i : Fin 32) (f g : CKV F) (h : ∀ x ∈ (kvSlot i).view.set, f x = g x) :
    kvPts c i q f = kvPts c i q g := by unfold kvPts; exact pointsTo_congr h
theorem sgPts_congr (c : Dev nD) (q : PosShare TreeShare) (i : Fin 32) (f g : CSG F) (h : ∀ x ∈ (sgRow i).view.set, f x = g x) :
    sgPts c i q f = sgPts c i q g := by unfold sgPts; exact pointsTo_congr h

/-- The own slot and row filled, nothing is sent yet. -/
theorem Own_Snd (o : Out F) : iprop(ctx m K ∗ Own m c (kvPts c 0 fullShare (KV m c)) (sgPts c 0 fullShare (SG m c)) o) ⊢ Snd m c 0 0 o := by
  unfold Own Snd Rest1 Rest2 Crd
  rw [done_zero, bigSep_empty, bigSep_empty]
  iintro ⟨-, ⟨Ha, Hb⟩, HO, ⟨HT1, HT2⟩, Hbar, HS, HR, HI, Hat, Hcr, HK1, HK2⟩
  isplitl [HO]; · iexact HO
  isplitl [HT1 Ha HK1]
  · isplitl [HT1]; · iexact HT1
    isplitl [Ha]; · iexact Ha
    isplitl [HK1]; · iexact HK1
    iempintro
  isplitl [HT2 Hb HK2]
  · isplitl [HT2]; · iexact HT2
    isplitl [Hb]; · iexact Hb
    isplitl [HK2]; · iexact HK2
    iempintro
  isplitl [Hbar]; · iexact Hbar
  isplitl [HS]; · iexact HS
  isplitl [HR]; · iexact HR
  isplitl [HI]; · iexact HI
  isplitl [Hat] <;> iassumption

theorem Own_congr {i1 i2 i3} (o : Out F) :
    iprop(ctx m K ∗ Own m c (iprop(∃ f, kvPts c 0 fullShare ((kvM.access (Rect.unit (s := S2x4096x512) ![0, 0, 256] S2x128x256.size i2)).write (Elt F)
      ((kvM.access (Rect.unit (s := S2x4096x512) ![0, 0, 0] S2x128x256.size i1)).write (Elt F) f (ownK m c) Finset.univ) (ownV m c) Finset.univ)))
      (iprop(∃ f, sgPts c 0 fullShare ((sgM.access (Rect.unit (s := S32x128) ![0, 0] S1x128.size i3)).write (Elt F) f (ownS m c) Finset.univ))) o)
      ⊢ Snd m c 0 0 o := by
  refine BIBase.Entails.trans ?_ (Own_Snd m K o)
  unfold Own
  iintro ⟨HΓ, ⟨⟨%f, Hk⟩, %g, Hs⟩, HR⟩
  isplitl [HΓ]; · iexact HΓ
  isplitl [Hk Hs]
  · isplitl [Hk]
    · iapply (Entails.of_eq (kvPts_congr c fullShare 0 _ _ (kv_stored m c f i1 i2))); iexact Hk
    · iapply (Entails.of_eq (sgPts_congr c fullShare 0 _ _ (sg_stored m c g i3))); iexact Hs
  iexact HR

/-! ## Loads of what was gathered -/

theorem kv_sub {n : ℕ} {off size : Fin 3 → ℕ} {inb} (h : off 1 + size 1 ≤ 128 * (n + 1)) :
    kvM.view.setOn (Rect.unit (s := S2x4096x512) off size inb).set ⊆ kvUpTo n := fun x hx =>
  Finset.mem_filter.mpr ⟨Finset.mem_univ _, by have := (kv_setOn hx).2; omega⟩
theorem sg_sub {n : ℕ} {off size : Fin 2 → ℕ} {inb} (h : off 0 + size 0 ≤ n + 1) :
    sgM.view.setOn (Rect.unit (s := S32x128) off size inb).set ⊆ sgUpTo n := fun x hx =>
  Finset.mem_filter.mpr ⟨Finset.mem_univ _, by have := (sg_setOn hx).2; omega⟩

/-- A load of codes out of the filled slots; of scales out of the filled rows. -/
theorem rcv_load_kv {n j : ℕ} {off size : Fin 3 → ℕ} {inb} (hs : off 1 + size 1 ≤ 128 * (n + 1))
    {hl : kvM.view.LoadsAt (Rect.unit (s := S2x4096x512) off size inb).toLoadRect}
    {k : Vec F (Rect.unit (s := S2x4096x512) off size inb).toLoadRect.shape .i8 → Prog (TpuEff nD τ sig (Elt F) Λ₀ .tc) α}
    (h : Tri (ctx m K) (bufs m c) c (Rcv m c n j) (k (kvM.view.readAt (Elt F) (Rect.unit (s := S2x4096x512) off size inb).toLoadRect (bufs m c kvM.view.ref))) R B) :
    Tri (ctx m K) (bufs m c) c (Rcv m c n j) (.op (.load kvM (Rect.unit (s := S2x4096x512) off size inb).toLoadRect hl) k) R B := by
  refine Tri.load (kvUpTo n) qread (kv_sub hs) (fun o => ?_) h
  unfold Rcv KvUp
  iintro ⟨HO, ⟨⟨Hp, Ht⟩, H1⟩, HR⟩
  isplitl [Hp]; · iexact Hp
  iintro Hp
  isplitl [HO]; · iexact HO
  isplitl [Hp Ht H1]
  · isplitl [Hp Ht]
    · isplitl [Hp] <;> iassumption
    iexact H1
  iexact HR
theorem rcv_load_sg {n j : ℕ} {off size : Fin 2 → ℕ} {inb} (hs : off 0 + size 0 ≤ j + 1)
    {hl : sgM.view.LoadsAt (Rect.unit (s := S32x128) off size inb).toLoadRect}
    {k : Vec F (Rect.unit (s := S32x128) off size inb).toLoadRect.shape .f32 → Prog (TpuEff nD τ sig (Elt F) Λ₀ .tc) α}
    (h : Tri (ctx m K) (bufs m c) c (Rcv m c n j) (k (sgM.view.readAt (Elt F) (Rect.unit (s := S32x128) off size inb).toLoadRect (bufs m c sgM.view.ref))) R B) :
    Tri (ctx m K) (bufs m c) c (Rcv m c n j) (.op (.load sgM (Rect.unit (s := S32x128) off size inb).toLoadRect hl) k) R B := by
  refine Tri.load (sgUpTo j) qread (sg_sub hs) (fun o => ?_) h
  unfold Rcv SgUp
  iintro ⟨HO, HK, ⟨⟨Hp, Ht⟩, H1⟩, HR⟩
  isplitl [Hp]; · iexact Hp
  iintro Hp
  isplitl [HO]; · iexact HO
  isplitl [HK]; · iexact HK
  isplitl [Hp Ht H1]
  · isplitl [Hp Ht]
    · isplitl [Hp] <;> iassumption
    iexact H1
  iexact HR

/-! ## The result -/

/-- The load of the result buffer before it is stored, unused. -/
theorem rcv_dead_out {n j : ℕ} {r : LoadRect S2x128x512} {hl : (Memref.whole cc0_stg5_0 : Memref sig .tc .vmem S2x128x512 .f32).view.LoadsAt r}
    {p : Prog (TpuEff nD τ sig (Elt F) Λ₀ .tc) α} (h : Tri (ctx m K) (bufs m c) c (Rcv m c n j) p R B) :
    Tri (ctx m K) (bufs m c) c (Rcv m c n j) (.op (.load (Memref.whole cc0_stg5_0 : Memref sig .tc .vmem S2x128x512 .f32) r hl) fun _ => p) R B := by
  refine Tri.load_dead Finset.univ fullShare (Finset.subset_univ _) (fun o => ?_) (fun _ _ => rfl) (fun _ => h)
  unfold Rcv Res
  iintro ⟨HO, H1, H2, HS, ⟨%f, Hp⟩, HR⟩
  iexists f
  isplitl [Hp]; · iexact Hp
  iintro Hp
  isplitl [HO]; · iexact HO
  isplitl [H1]; · iexact H1
  isplitl [H2]; · iexact H2
  isplitl [HS]; · iexact HS
  isplitl [Hp]; · iexists f; iexact Hp
  iexact HR

theorem zeros3 : (![0, 0, 0] : Fin 3 → ℕ) = fun _ => 0 := by decide
theorem zeros2 : (![0, 0] : Fin 2 → ℕ) = fun _ => 0 := by decide

theorem outWrite_ref (b : Ref sig .tc) (hb : b = cc0_stg5_0) {off : Fin b.ty.shape.rank → ℕ} (hz : off = fun _ => 0)
    (inb : ∀ a, off a + b.ty.shape.size a ≤ b.ty.shape.size a) (w : b.ty.Contents (Elt F)) (o : Out F) :
    outWrite ((Memref.whole b).access (Rect.unit off b.ty.shape.size inb)) w Finset.univ o
      = cast (congrArg (fun b : Ref sig .tc => b.ty.Contents (Elt F)) hb) w := by
  have hr : ((Memref.whole b).access (Rect.unit off b.ty.shape.size inb) : View sig .tc _ _ _).ref = cc0_stg5_0 := hb
  unfold outWrite
  rw [dif_pos hr]
  exact congrArg (cast _) (Memref.write_access_unit_zero_univ (Elt F) b hz inb _ w)

theorem outWrite_whole {inb} (w : S2x128x512.Idx → Elt F .f32) (o : Out F) :
    outWrite ((Memref.whole cc0_stg5_0 : Memref sig .tc .vmem S2x128x512 .f32).access (Rect.unit (s := S2x128x512) ![0, 0, 0] S2x128x512.size inb)) w Finset.univ o = w :=
  outWrite_ref cc0_stg5_0 rfl zeros3 inb w o

/-- The store of the result. -/
theorem out_store {inb} {w : (Rect.unit (s := S2x128x512) ![0, 0, 0] S2x128x512.size inb).shape.Idx → Elt F .f32}
    {hs : ((Memref.whole cc0_stg5_0 : Memref sig .tc .vmem S2x128x512 .f32).access (Rect.unit (s := S2x128x512) ![0, 0, 0] S2x128x512.size inb)).Stores Finset.univ} {hm}
    {k : PUnit → Prog (TpuEff nD τ sig (Elt F) Λ₀ .tc) α}
    (h : Tri (ctx m K) (bufs m c) c (Fin' m c 0 0) (k ⟨⟩) R B) :
    Tri (ctx m K) (bufs m c) c (Rcv m c 31 31)
      (.op (.store (Memref.whole cc0_stg5_0 : Memref sig .tc .vmem S2x128x512 .f32) (Rect.unit (s := S2x128x512) ![0, 0, 0] S2x128x512.size inb) w Finset.univ hs hm) k) R B := by
  refine Tri.store Finset.univ (Finset.subset_univ _) (fun o => ?_) h
  rw [outWrite_whole]
  unfold Rcv Res Fin' Rest3 Rest4 Cr Crd
  rw [done_zero, bigSep_empty, bigSep_empty, done_last, todo_zero]
  iintro ⟨HO, ⟨HU, Ha2, -⟩, ⟨HG, Ha3, -⟩, HS, ⟨%f, Hp⟩, Hc0, Hc1, Ha0, Ha1, Hb, HI⟩
  iexists f
  isplitl [Hp]; · iexact Hp
  iintro Hp
  isplitl [Hp]
  · iapply (Entails.of_eq (congrArg (stgPts (F := F) c cc0_stg5_0) (Memref.write_access_unit_zero_univ (Elt F) cc0_stg5_0 zeros3 inb f w)))
    unfold stgPts; iexact Hp
  isplitl [HO]; · iexact HO
  isplitl [Hc0 Ha0]
  · isplitl [Ha0]; · iexact Ha0
    isplitl [Hc0]; · iexact Hc0
    iempintro
  isplitl [Hc1 Ha1]
  · isplitl [Ha1]; · iexact Ha1
    isplitl [Hc1]; · iexact Hc1
    iempintro
  isplitl [HU]; · iexact HU
  isplitl [Ha2]; · iexact Ha2
  isplitl [HG]; · iexact HG
  isplitl [Ha3]; · iexact Ha3
  isplitl [HS]; · iexact HS
  isplitl [Hb] <;> iassumption

end Cert.KernelIdeal.Attn

end
-- ==== Proof.Ideal.Rules.lean ====
module

public import proofs.«01_k».proof.Proof.Ideal.Accesses

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ) {c : Dev nD} {α : Type}
  {R : α → Prop} {B : Out F → sProp (MT nD τ sig Unit (Elt F) ℕ UU ℕ)}

abbrev a0 : Memref sig .tc .vmem S2x128x512 .f32 := Memref.whole cc0_stg0_0
abbrev a1 : Memref sig .tc .vmem S512x256 .f32 := Memref.whole cc0_stg1_0
abbrev a2 : Memref sig .tc .vmem S512x256 .f32 := Memref.whole cc0_stg2_0
abbrev a3 : Memref sig .tc .vmem S512x256 .f32 := Memref.whole cc0_stg3_0
abbrev a4 : Memref sig .tc .vmem S256x512 .f32 := Memref.whole cc0_stg4_0
abbrev a5 : Memref sig .tc .vmem S2x128x512 .f32 := Memref.whole cc0_stg5_0

/-! ## The rules at the printed operations -/

theorem sig_word (n : ℕ) (hn : n < 31) {d : Dev nD} (hd : d = c + off n hn)
    {k : PUnit → Prog (TpuEff nD τ sig (Elt F) Λ₀ .tc) α}
    (h : Tri (ctx m K) (bufs m c) c (Sig m c (n + 1)) (k ⟨⟩) R B) :
    Tri (ctx m K) (bufs m c) c (Sig m c n) (Bind.bind (semSignalWord d barS 1#32) k) R B :=
  signal_step m K n hn hd (by decide) rfl h

theorem bar_word {k : PUnit → Prog (TpuEff nD τ sig (Elt F) Λ₀ .tc) α}
    (h : Tri (ctx m K) (bufs m c) c (Own m c (anyKv c) (anySg c)) (k ⟨⟩) R B) :
    Tri (ctx m K) (bufs m c) c (Sig m c 31) (Bind.bind (semWaitWord barS 31#32) k) R B :=
  barrier_step m K (by decide) rfl h

theorem Tri.pure_eq {Γ : sProp (MT nD τ sig Unit (Elt F) ℕ UU ℕ)} {σ : Bufs F} {A : Out F → sProp (MT nD τ sig Unit (Elt F) ℕ UU ℕ)} [BI.Persistent Γ] (a : α) :
    Tri Γ σ c A (Pure.pure a : Prog (TpuEff nD τ sig (Elt F) Λ₀ .tc) α) (fun b => b = a) A := Tri.ret a rfl

attribute [local irreducible] k0_pay25 k0_pay26 k0_pay27

/-! ## The three stores of the device's own codes and scales

Slot 0 after the first of its two stores, and after both. -/

def fill1 (f : CKV F) : CKV F :=
  (kvM.access (Rect.unit (s := S2x4096x512) ![0, 0, 0] S2x128x256.size inb_S2x4096x512_S2x128x256_0_0_0)).write (Elt F) f (ownK m c) Finset.univ
def fill2 (f : CKV F) : CKV F :=
  (kvM.access (Rect.unit (s := S2x4096x512) ![0, 0, 256] S2x128x256.size inb_S2x4096x512_S2x128x256_0_0_256)).write (Elt F) (fill1 m (c := c) f) (ownV m c) Finset.univ

theorem store1 {b : sProp (MT nD τ sig Unit (Elt F) ℕ UU ℕ)} {hs hm} {k : PUnit → Prog (TpuEff nD τ sig (Elt F) Λ₀ .tc) α}
    (h : Tri (ctx m K) (bufs m c) c (Own m c (iprop(∃ f, kvPts c 0 fullShare (fill1 m (c := c) f))) b) (k ⟨⟩) R B) :
    Tri (ctx m K) (bufs m c) c (Own m c (anyKv c) b)
      (.op (.store kvM (Rect.unit (s := S2x4096x512) ![0, 0, 0] S2x128x256.size inb_S2x4096x512_S2x128x256_0_0_0) (ownK m c) Finset.univ hs hm) k) R B :=
  own_store_kv m K (fun f => f) (by decide) h

theorem store2 {b : sProp (MT nD τ sig Unit (Elt F) ℕ UU ℕ)} {hs hm} {k : PUnit → Prog (TpuEff nD τ sig (Elt F) Λ₀ .tc) α}
    (h : Tri (ctx m K) (bufs m c) c (Own m c (iprop(∃ f, kvPts c 0 fullShare (fill2 m (c := c) f))) b) (k ⟨⟩) R B) :
    Tri (ctx m K) (bufs m c) c (Own m c (iprop(∃ f, kvPts c 0 fullShare (fill1 m (c := c) f))) b)
      (.op (.store kvM (Rect.unit (s := S2x4096x512) ![0, 0, 256] S2x128x256.size inb_S2x4096x512_S2x128x256_0_0_256) (ownV m c) Finset.univ hs hm) k) R B :=
  own_store_kv m K (fill1 m (c := c)) (by decide) h

theorem store3 {hs hm} {k : PUnit → Prog (TpuEff nD τ sig (Elt F) Λ₀ .tc) α}
    (h : Tri (ctx m K) (bufs m c) c (Snd m c 0 0) (k ⟨⟩) R B) :
    Tri (ctx m K) (bufs m c) c (Own m c (iprop(∃ f, kvPts c 0 fullShare (fill2 m (c := c) f))) (anySg c))
      (.op (.store sgM (Rect.unit (s := S32x128) ![0, 0] S1x128.size inb_S32x128_S1x128_0_0) (ownS m c) Finset.univ hs hm) k) R B :=
  own_store_sg m K (by decide) (Tri.pre (A' := Snd m c 0 0) (fun o => by
    unfold fill2 fill1
    exact Own_congr m K (i1 := inb_S2x4096x512_S2x128x256_0_0_0) (i2 := inb_S2x4096x512_S2x128x256_0_0_256) (i3 := inb_S32x128_S1x128_0_0) o) h)

/-- One program after another, whatever the first returns; the second goal is the first program's. -/
theorem Tri.seq {β : Type} {Γ : sProp (MT nD τ sig Unit (Elt F) ℕ UU ℕ)} {σ : Bufs F} {A B' C : Out F → sProp (MT nD τ sig Unit (Elt F) ℕ UU ℕ)} [BI.Persistent Γ]
    {p : Prog (TpuEff nD τ sig (Elt F) Λ₀ .tc) α} {f : α → Prog (TpuEff nD τ sig (Elt F) Λ₀ .tc) β} {R' : β → Prop}
    (h₂ : ∀ a, Tri Γ σ c B' (f a) R' C) (h₁ : Tri Γ σ c A p (fun _ => True) B') : Tri Γ σ c A (Bind.bind p f) R' C :=
  Tri.bind h₁ fun a _ => h₂ a

abbrev tt {α : Type} : α → Prop := fun _ => True
/-- The states by the number of transfers sent, waited for, given back: the codes of an offset, then its scales. -/
abbrev sS (c : Dev nD) (t : ℕ) : Out F → sProp (MT nD τ sig Unit (Elt F) ℕ UU ℕ) := Snd m c ((t + 1) / 2) (t / 2)
abbrev sR (c : Dev nD) (t : ℕ) : Out F → sProp (MT nD τ sig Unit (Elt F) ℕ UU ℕ) := Rcv m c ((t + 1) / 2) (t / 2)
abbrev sF (c : Dev nD) (t : ℕ) : Out F → sProp (MT nD τ sig Unit (Elt F) ℕ UU ℕ) := Fin' m c ((t + 1) / 2) (t / 2)

end Cert.KernelIdeal.Attn

end
-- ==== Proof.Ideal.Walk.lean ====
module

public import proofs.«01_k».proof.Proof.Ideal.Rules

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ) {c : Dev nD}

attribute [local irreducible] k0_pay25 k0_pay26 k0_pay27

section parts
variable (h0 : a0.IsWhole) (h1 : a1.IsWhole) (h2 : a2.IsWhole) (h3 : a3.IsWhole) (h4 : a4.IsWhole) (h5 : a5.IsWhole) (h6 : kvM.IsWhole) (h7 : sgM.IsWhole)

set_option maxHeartbeats 0 in
theorem walk119 : Tri (ctx m K) (bufs m c) c (Sig m c 0)
    (k0_part119 a0 h0 a1 h1 a2 h2 a3 h3 a4 h4 a5 h5 kvM h6 sgM h7 cc0_scratch2 cc0_scratch3 cc0_scratch4 cc0_scratch5) tt (sR m c 30) := by
  simp only [k0_part119_eq_skeleton, k0_part119_skel]
  refine Tri.bind (B := Sig m c 5) (R := fun a => a = ⟨c, meWord c, SemArray.scalar (sig.barrier 0 rfl), Scalar.addi (meWord c) 6#32, 32#32⟩) ?_ ?_
  · simp only [k0_part1_eq_skeleton, k0_part1_skel]
    refine Tri.lift (Tri.deviceId ?_)
    iterate 5 refine sig_word m K _ (by decide) (by revert c; decide +kernel) ?_
    exact Tri.pure_eq _
  rintro _ rfl
  dsimp only
  refine Tri.bind (B := Sig m c 11) (R := tt) ?_ fun _ _ => Tri.bind (B := Sig m c 17) (R := tt) ?_ fun _ _ =>
    Tri.bind (B := Sig m c 23) (R := tt) ?_ fun _ _ => Tri.bind (B := Sig m c 29) (R := tt) ?_ fun _ _ => ?_
  iterate 4
    · simp only [k0_part2_eq_skeleton, k0_part2_skel, k0_part3_eq_skeleton, k0_part3_skel, k0_part4_eq_skeleton, k0_part4_skel, k0_part5_eq_skeleton, k0_part5_skel]
      iterate 6 refine sig_word m K _ (by decide) (by revert c; decide +kernel) ?_
      exact Tri.pure_any _
  refine Tri.bind (B := Own m c (anyKv c) (anySg c)) (R := fun a => a = ⟨k0_pay2 (stX m c) (stQ m c), prK m c, prV m c, colI, Scalar.select (Scalar.cmpi .eq 128#32 0#32) 1#32 128#32, k0_pay5, k0_pay6, k0_pay7, 0#32⟩) ?_ ?_
  · simp only [k0_part6_eq_skeleton, k0_part6_skel]
    iterate 2 refine sig_word m K _ (by decide) (by revert c; decide +kernel) ?_
    refine bar_word m K ?_
    refine Tri.lift (own_load m K (stX m c) (Stg_0 m c) ((Memref.readAt_unit_zero (Elt F) cc0_stg0_0 zeros3 _ _).trans (bufs_stg0 m c)) ?_)
    refine Tri.lift (own_load m K (stQ m c) (Stg_1 m c) ((Memref.readAt_unit_zero (Elt F) cc0_stg1_0 zeros2 _ _).trans (bufs_stg1 m c)) ?_)
    refine Tri.lift (own_load m K (stK m c) (Stg_2 m c) ((Memref.readAt_unit_zero (Elt F) cc0_stg2_0 zeros2 _ _).trans (bufs_stg2 m c)) ?_)
    refine Tri.lift (own_load m K (stV m c) (Stg_3 m c) ((Memref.readAt_unit_zero (Elt F) cc0_stg3_0 zeros2 _ _).trans (bufs_stg3 m c)) ?_)
    exact Tri.pure_eq _
  rintro _ rfl
  dsimp only
  refine Tri.bind (B := Own m c (anyKv c) (anySg c)) (R := fun a => a = ⟨posF c, k0_pay10 colI, k0_pay11 colI, k0_pay12 colI, k0_pay13⟩) ?_ ?_
  · simp only [k0_part7_eq_skeleton, k0_part7_skel]
    exact Tri.pure_eq _
  rintro _ rfl
  dsimp only
  refine Tri.bind (B := Own m c (anyKv c) (anySg c))
    (R := fun a => a = ⟨cosF c, sinF c, k0_pay17 colI, ropedQ m c, k0_pay19 (prK m c), k0_pay20 (prK m c), k0_pay21 (prK m c)⟩) ?_ ?_
  · simp only [k0_part8_eq_skeleton, k0_part8_skel]
    exact Tri.pure_eq _
  rintro _ rfl
  dsimp only
  refine Tri.bind (B := sS m c 0) (R := tt) ?_ fun _ _ => ?_
  · simp only [k0_part9_eq_skeleton, k0_part9_skel]
    refine Tri.lift (own_dead_kv m K (fun f => f) (by decide) ?_)
    refine Tri.lift (store1 m K ?_)
    refine Tri.lift (own_dead_kv m K (fill1 m (c := c)) (by decide) ?_)
    refine Tri.lift (store2 m K ?_)
    refine Tri.lift (own_dead_sg m K (by decide) ?_)
    refine Tri.lift (store3 m K ?_)
    exact Tri.pure_any _
  refine Tri.seq (B' := sS m c 2) (fun _ => ?_) ?p10
  refine Tri.seq (B' := sS m c 5) (fun _ => ?_) ?p11
  refine Tri.seq (B' := sS m c 8) (fun _ => ?_) ?p12
  refine Tri.seq (B' := sS m c 10) (fun _ => ?_) ?p13
  refine Tri.seq (B' := sS m c 13) (fun _ => ?_) ?p14
  refine Tri.seq (B' := sS m c 16) (fun _ => ?_) ?p15
  refine Tri.seq (B' := sS m c 19) (fun _ => ?_) ?p16
  refine Tri.seq (B' := sS m c 21) (fun _ => ?_) ?p17
  refine Tri.seq (B' := sS m c 24) (fun _ => ?_) ?p18
  refine Tri.seq (B' := sS m c 27) (fun _ => ?_) ?p19
  refine Tri.seq (B' := sS m c 30) (fun _ => ?_) ?p20
  refine Tri.seq (B' := sS m c 32) (fun _ => ?_) ?p21
  refine Tri.seq (B' := sS m c 35) (fun _ => ?_) ?p22
  refine Tri.seq (B' := sS m c 38) (fun _ => ?_) ?p23
  refine Tri.seq (B' := sS m c 40) (fun _ => ?_) ?p24
  refine Tri.seq (B' := sS m c 43) (fun _ => ?_) ?p25
  refine Tri.seq (B' := sS m c 46) (fun _ => ?_) ?p26
  refine Tri.seq (B' := sS m c 49) (fun _ => ?_) ?p27
  refine Tri.seq (B' := sS m c 51) (fun _ => ?_) ?p28
  refine Tri.seq (B' := sS m c 54) (fun _ => ?_) ?p29
  refine Tri.seq (B' := sS m c 57) (fun _ => ?_) ?p30
  refine Tri.seq (B' := sS m c 60) (fun _ => ?_) ?p31
  refine Tri.seq (B' := sS m c 62) (fun _ => ?_) ?p32
  refine Tri.bind (B := sR m c 0) (R := tt) ?_ fun _ _ => ?_
  · simp only [k0_part33_eq_skeleton, k0_part33_skel]
    exact Tri.pre (fun o => by iintro ⟨-, H⟩; iapply (Snd_Rcv m o); iexact H) (Tri.pure_any _)
  refine Tri.seq (B' := sR m c 4) (fun _ => ?_) ?p34
  refine Tri.seq (B' := sR m c 8) (fun _ => ?_) ?p35
  refine Tri.seq (B' := sR m c 12) (fun _ => ?_) ?p36
  refine Tri.seq (B' := sR m c 14) (fun _ => ?_) ?p37
  refine Tri.seq (B' := sR m c 14) (fun _ => ?_) ?p38
  refine Tri.seq (B' := sR m c 14) (fun _ => ?_) ?p39
  refine Tri.seq (B' := sR m c 14) (fun _ => ?_) ?p40
  refine Tri.seq (B' := sR m c 14) (fun _ => ?_) ?p41
  refine Tri.seq (B' := sR m c 14) (fun _ => ?_) ?p42
  refine Tri.seq (B' := sR m c 14) (fun _ => ?_) ?p43
  refine Tri.seq (B' := sR m c 14) (fun _ => ?_) ?p44
  refine Tri.seq (B' := sR m c 14) (fun _ => ?_) ?p45
  refine Tri.seq (B' := sR m c 14) (fun _ => ?_) ?p46
  refine Tri.seq (B' := sR m c 14) (fun _ => ?_) ?p47
  refine Tri.seq (B' := sR m c 14) (fun _ => ?_) ?p48
  refine Tri.seq (B' := sR m c 14) (fun _ => ?_) ?p49
  refine Tri.seq (B' := sR m c 16) (fun _ => ?_) ?p50
  refine Tri.seq (B' := sR m c 20) (fun _ => ?_) ?p51
  refine Tri.seq (B' := sR m c 24) (fun _ => ?_) ?p52
  refine Tri.seq (B' := sR m c 27) (fun _ => ?_) ?p53
  refine Tri.seq (B' := sR m c 30) (fun _ => ?_) ?p54
  refine Tri.seq (B' := sR m c 30) (fun _ => ?_) ?p55
  refine Tri.seq (B' := sR m c 30) (fun _ => ?_) ?p56
  refine Tri.seq (B' := sR m c 30) (fun _ => ?_) ?p57
  refine Tri.seq (B' := sR m c 30) (fun _ => ?_) ?p58
  refine Tri.seq (B' := sR m c 30) (fun _ => ?_) ?p59
  refine Tri.seq (B' := sR m c 30) (fun _ => ?_) ?p60
  on_goal 1 => exact Tri.pure_any _
  case p10 | p13 | p21 | p24 | p32 =>
    simp only [k0_part10_eq_skeleton, k0_part10_skel, k0_part13_eq_skeleton, k0_part13_skel, k0_part21_eq_skeleton, k0_part21_skel,
      k0_part24_eq_skeleton, k0_part24_skel, k0_part32_eq_skeleton, k0_part32_skel]
    refine Tri.lift (sendKv_step m K _ _ (by decide) (by revert c; decide +kernel) rfl rfl rfl rfl ?_)
    refine Tri.lift (sendSg_step m K _ _ (by decide) (by revert c; decide +kernel) rfl rfl rfl rfl ?_)
    exact Tri.pure_any _
  case p11 | p14 | p16 | p19 | p22 | p25 | p27 | p30 =>
    simp only [k0_part11_eq_skeleton, k0_part11_skel, k0_part14_eq_skeleton, k0_part14_skel, k0_part16_eq_skeleton, k0_part16_skel,
      k0_part19_eq_skeleton, k0_part19_skel, k0_part22_eq_skeleton, k0_part22_skel, k0_part25_eq_skeleton, k0_part25_skel, k0_part27_eq_skeleton,
      k0_part27_skel, k0_part30_eq_skeleton, k0_part30_skel]
    refine Tri.lift (sendKv_step m K _ _ (by decide) (by revert c; decide +kernel) rfl rfl rfl rfl ?_)
    refine Tri.lift (sendSg_step m K _ _ (by decide) (by revert c; decide +kernel) rfl rfl rfl rfl ?_)
    refine Tri.lift (sendKv_step m K _ _ (by decide) (by revert c; decide +kernel) rfl rfl rfl rfl ?_)
    exact Tri.pure_any _
  case p12 | p15 | p18 | p20 | p23 | p26 | p29 | p31 =>
    simp only [k0_part12_eq_skeleton, k0_part12_skel, k0_part15_eq_skeleton, k0_part15_skel, k0_part18_eq_skeleton, k0_part18_skel,
      k0_part20_eq_skeleton, k0_part20_skel, k0_part23_eq_skeleton, k0_part23_skel, k0_part26_eq_skeleton, k0_part26_skel, k0_part29_eq_skeleton,
      k0_part29_skel, k0_part31_eq_skeleton, k0_part31_skel]
    refine Tri.lift (sendSg_step m K _ _ (by decide) (by revert c; decide +kernel) rfl rfl rfl rfl ?_)
    refine Tri.lift (sendKv_step m K _ _ (by decide) (by revert c; decide +kernel) rfl rfl rfl rfl ?_)
    refine Tri.lift (sendSg_step m K _ _ (by decide) (by revert c; decide +kernel) rfl rfl rfl rfl ?_)
    exact Tri.pure_any _
  case p17 | p28 =>
    simp only [k0_part17_eq_skeleton, k0_part17_skel, k0_part28_eq_skeleton, k0_part28_skel]
    refine Tri.lift (sendSg_step m K _ _ (by decide) (by revert c; decide +kernel) rfl rfl rfl rfl ?_)
    refine Tri.lift (sendKv_step m K _ _ (by decide) (by revert c; decide +kernel) rfl rfl rfl rfl ?_)
    exact Tri.pure_any _
  case p34 | p35 | p36 | p51 | p52 =>
    simp only [k0_part34_eq_skeleton, k0_part34_skel, k0_part35_eq_skeleton, k0_part35_skel, k0_part36_eq_skeleton, k0_part36_skel,
      k0_part51_eq_skeleton, k0_part51_skel, k0_part52_eq_skeleton, k0_part52_skel]
    iterate 2
      refine Tri.lift (recvKv_step m K _ _ (by decide) rfl rfl ?_)
      refine Tri.lift (recvSg_step m K _ _ (by decide) rfl rfl ?_)
    exact Tri.pure_any _
  case p37 =>
    simp only [k0_part37_eq_skeleton, k0_part37_skel]
    refine Tri.lift (recvKv_step m K _ _ (by decide) rfl rfl ?_)
    refine Tri.lift (recvSg_step m K _ _ (by decide) rfl rfl ?_)
    iterate 5 refine Tri.lift (rcv_load_sg m K (by decide) ?_)
    exact Tri.pure_any _
  case p38 | p55 =>
    simp only [k0_part38_eq_skeleton, k0_part38_skel, k0_part55_eq_skeleton, k0_part55_skel]
    iterate 10 refine Tri.lift (rcv_load_sg m K (by decide) ?_)
    exact Tri.pure_any _
  case p39 =>
    simp only [k0_part39_eq_skeleton, k0_part39_skel]
    refine Tri.lift (rcv_load_sg m K (by decide) ?_)
    iterate 2 refine Tri.lift (rcv_load_kv m K (by decide) ?_)
    exact Tri.pure_any _
  case p40 | p43 | p44 | p46 | p47 | p57 | p59 | p60 =>
    simp only [k0_part40_eq_skeleton, k0_part40_skel, k0_part43_eq_skeleton, k0_part43_skel, k0_part44_eq_skeleton, k0_part44_skel,
      k0_part46_eq_skeleton, k0_part46_skel, k0_part47_eq_skeleton, k0_part47_skel, k0_part57_eq_skeleton, k0_part57_skel, k0_part59_eq_skeleton,
      k0_part59_skel, k0_part60_eq_skeleton, k0_part60_skel]
    iterate 2 refine Tri.lift (rcv_load_kv m K (by decide) ?_)
    exact Tri.pure_any _
  case p41 | p42 | p48 | p49 =>
    simp only [k0_part41_eq_skeleton, k0_part41_skel, k0_part42_eq_skeleton, k0_part42_skel, k0_part48_eq_skeleton, k0_part48_skel,
      k0_part49_eq_skeleton, k0_part49_skel]
    refine Tri.lift (rcv_load_kv m K (by decide) ?_)
    exact Tri.pure_any _
  case p45 | p58 =>
    simp only [k0_part45_eq_skeleton, k0_part45_skel, k0_part58_eq_skeleton, k0_part58_skel]
    exact Tri.pure_any _
  case p50 =>
    simp only [k0_part50_eq_skeleton, k0_part50_skel]
    refine Tri.lift (recvKv_step m K _ _ (by decide) rfl rfl ?_)
    refine Tri.lift (recvSg_step m K _ _ (by decide) rfl rfl ?_)
    exact Tri.pure_any _
  case p53 =>
    simp only [k0_part53_eq_skeleton, k0_part53_skel]
    refine Tri.lift (recvKv_step m K _ _ (by decide) rfl rfl ?_)
    refine Tri.lift (recvSg_step m K _ _ (by decide) rfl rfl ?_)
    refine Tri.lift (recvKv_step m K _ _ (by decide) rfl rfl ?_)
    exact Tri.pure_any _
  case p54 =>
    simp only [k0_part54_eq_skeleton, k0_part54_skel]
    refine Tri.lift (recvSg_step m K _ _ (by decide) rfl rfl ?_)
    refine Tri.lift (recvKv_step m K _ _ (by decide) rfl rfl ?_)
    refine Tri.lift (recvSg_step m K _ _ (by decide) rfl rfl ?_)
    iterate 4 refine Tri.lift (rcv_load_sg m K (by decide) ?_)
    exact Tri.pure_any _
  case p56 =>
    simp only [k0_part56_eq_skeleton, k0_part56_skel]
    iterate 2 refine Tri.lift (rcv_load_sg m K (by decide) ?_)
    iterate 2 refine Tri.lift (rcv_load_kv m K (by decide) ?_)
    exact Tri.pure_any _

end parts

end Cert.KernelIdeal.Attn

end
-- ==== Proof.Ideal.Body.lean ====
module

public import proofs.«01_k».proof.Proof.Ideal.Walk

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ) {c : Dev nD}

attribute [local irreducible] k0_pay25 k0_pay26 k0_pay27

section parts
variable (h0 : a0.IsWhole) (h1 : a1.IsWhole) (h2 : a2.IsWhole) (h3 : a3.IsWhole) (h4 : a4.IsWhole) (h5 : a5.IsWhole) (h6 : kvM.IsWhole) (h7 : sgM.IsWhole)

set_option maxHeartbeats 0 in
/-- The whole body, run from the entry barrier to the last wait. -/
theorem walk : Tri (ctx m K) (bufs m c) c (Sig m c 0) (cc0_body a0 h0 a1 h1 a2 h2 a3 h3 a4 h4 a5 h5 kvM h6 sgM h7 cc0_scratch2 cc0_scratch3 cc0_scratch4 cc0_scratch5) tt (sF m c 62) := by
  simp only [cc0_body_eq_skeleton, cc0_body_skel]
  refine Tri.bind (walk119 m K h0 h1 h2 h3 h4 h5 h6 h7) fun _ _ => ?_
  refine Tri.seq (B' := sF m c 60) (fun _ => ?_) ?_
  · refine Tri.lift (doneKv_step m K _ _ (by decide) rfl rfl ?_)
    refine Tri.lift (doneSg_step m K _ _ (by decide) rfl rfl ?_)
    exact Tri.pure_any _
  simp only [k0_part120_eq_skeleton, k0_part120_skel]
  refine Tri.seq (B' := sR m c 30) (fun _ => ?_) ?p61
  refine Tri.seq (B' := sR m c 30) (fun _ => ?_) ?p62
  refine Tri.seq (B' := sR m c 30) (fun _ => ?_) ?p63
  refine Tri.seq (B' := sR m c 30) (fun _ => ?_) ?p64
  refine Tri.seq (B' := sR m c 30) (fun _ => ?_) ?p65
  refine Tri.seq (B' := sR m c 30) (fun _ => ?_) ?p66
  refine Tri.seq (B' := sR m c 32) (fun _ => ?_) ?p67
  refine Tri.seq (B' := sR m c 36) (fun _ => ?_) ?p68
  refine Tri.seq (B' := sR m c 39) (fun _ => ?_) ?p69
  refine Tri.seq (B' := sR m c 43) (fun _ => ?_) ?p70
  refine Tri.seq (B' := sR m c 46) (fun _ => ?_) ?p71
  refine Tri.seq (B' := sR m c 46) (fun _ => ?_) ?p72
  refine Tri.seq (B' := sR m c 46) (fun _ => ?_) ?p73
  refine Tri.seq (B' := sR m c 46) (fun _ => ?_) ?p74
  refine Tri.seq (B' := sR m c 46) (fun _ => ?_) ?p75
  refine Tri.seq (B' := sR m c 46) (fun _ => ?_) ?p76
  refine Tri.seq (B' := sR m c 46) (fun _ => ?_) ?p77
  refine Tri.seq (B' := sR m c 46) (fun _ => ?_) ?p78
  refine Tri.seq (B' := sR m c 46) (fun _ => ?_) ?p79
  refine Tri.seq (B' := sR m c 46) (fun _ => ?_) ?p80
  refine Tri.seq (B' := sR m c 46) (fun _ => ?_) ?p81
  refine Tri.seq (B' := sR m c 46) (fun _ => ?_) ?p82
  refine Tri.seq (B' := sR m c 46) (fun _ => ?_) ?p83
  refine Tri.seq (B' := sR m c 48) (fun _ => ?_) ?p84
  refine Tri.seq (B' := sR m c 51) (fun _ => ?_) ?p85
  refine Tri.seq (B' := sR m c 55) (fun _ => ?_) ?p86
  refine Tri.seq (B' := sR m c 59) (fun _ => ?_) ?p87
  refine Tri.seq (B' := sR m c 62) (fun _ => ?_) ?p88
  refine Tri.seq (B' := sR m c 62) (fun _ => ?_) ?p89
  refine Tri.seq (B' := sR m c 62) (fun _ => ?_) ?p90
  refine Tri.seq (B' := sR m c 62) (fun _ => ?_) ?p91
  refine Tri.seq (B' := sR m c 62) (fun _ => ?_) ?p92
  refine Tri.seq (B' := sR m c 62) (fun _ => ?_) ?p93
  refine Tri.seq (B' := sR m c 62) (fun _ => ?_) ?p94
  refine Tri.seq (B' := sR m c 62) (fun _ => ?_) ?p95
  refine Tri.seq (B' := sR m c 62) (fun _ => ?_) ?p96
  refine Tri.seq (B' := sR m c 62) (fun _ => ?_) ?p97
  refine Tri.seq (B' := sR m c 62) (fun _ => ?_) ?p98
  refine Tri.seq (B' := sR m c 62) (fun _ => ?_) ?p99
  refine Tri.seq (B' := sR m c 62) (fun _ => ?_) ?p100
  refine Tri.seq (B' := sR m c 62) (fun _ => ?_) ?p101
  refine Tri.seq (B' := sF m c 3) (fun _ => ?_) ?p102
  refine Tri.seq (B' := sF m c 6) (fun _ => ?_) ?p103
  refine Tri.seq (B' := sF m c 10) (fun _ => ?_) ?p104
  refine Tri.seq (B' := sF m c 14) (fun _ => ?_) ?p105
  refine Tri.seq (B' := sF m c 17) (fun _ => ?_) ?p106
  refine Tri.seq (B' := sF m c 21) (fun _ => ?_) ?p107
  refine Tri.seq (B' := sF m c 24) (fun _ => ?_) ?p108
  refine Tri.seq (B' := sF m c 28) (fun _ => ?_) ?p109
  refine Tri.seq (B' := sF m c 31) (fun _ => ?_) ?p110
  refine Tri.seq (B' := sF m c 35) (fun _ => ?_) ?p111
  refine Tri.seq (B' := sF m c 38) (fun _ => ?_) ?p112
  refine Tri.seq (B' := sF m c 42) (fun _ => ?_) ?p113
  refine Tri.seq (B' := sF m c 45) (fun _ => ?_) ?p114
  refine Tri.seq (B' := sF m c 49) (fun _ => ?_) ?p115
  refine Tri.seq (B' := sF m c 52) (fun _ => ?_) ?p116
  refine Tri.seq (B' := sF m c 56) (fun _ => ?_) ?p117
  refine Tri.seq (B' := sF m c 59) (fun _ => ?_) ?p118
  on_goal 1 => refine Tri.lift (doneSg_step m K _ _ (by decide) rfl rfl ?_)
  on_goal 1 => exact Tri.pure_any _
  case p101 =>
    simp only [k0_part101_eq_skeleton, k0_part101_skel]
    refine Tri.lift (rcv_load m K (Stg_4 m c) ?_)
    refine Tri.lift (rcv_dead_out m K ?_)
    exact Tri.pure_any _
  case p102 =>
    simp only [k0_part102_eq_skeleton, k0_part102_skel]
    refine Tri.lift (out_store m K ?_)
    refine Tri.lift (doneKv_step m K _ _ (by decide) rfl rfl ?_)
    refine Tri.lift (doneSg_step m K _ _ (by decide) rfl rfl ?_)
    refine Tri.lift (doneKv_step m K _ _ (by decide) rfl rfl ?_)
    exact Tri.pure_any _
  case p61 | p63 | p64 | p66 | p74 | p76 | p77 | p78 | p80 | p81 | p83 | p91 | p93 | p94 | p97 | p98 | p100 =>
    simp only [k0_part61_eq_skeleton, k0_part61_skel, k0_part63_eq_skeleton, k0_part63_skel, k0_part64_eq_skeleton, k0_part64_skel,
      k0_part66_eq_skeleton, k0_part66_skel, k0_part74_eq_skeleton, k0_part74_skel, k0_part76_eq_skeleton, k0_part76_skel, k0_part77_eq_skeleton,
      k0_part77_skel, k0_part78_eq_skeleton, k0_part78_skel, k0_part80_eq_skeleton, k0_part80_skel, k0_part81_eq_skeleton, k0_part81_skel,
      k0_part83_eq_skeleton, k0_part83_skel, k0_part91_eq_skeleton, k0_part91_skel, k0_part93_eq_skeleton, k0_part93_skel, k0_part94_eq_skeleton,
      k0_part94_skel, k0_part97_eq_skeleton, k0_part97_skel, k0_part98_eq_skeleton, k0_part98_skel, k0_part100_eq_skeleton, k0_part100_skel]
    iterate 2 refine Tri.lift (rcv_load_kv m K (by decide) ?_)
    exact Tri.pure_any _
  case p62 | p65 | p75 | p79 | p82 | p92 | p99 =>
    simp only [k0_part62_eq_skeleton, k0_part62_skel, k0_part65_eq_skeleton, k0_part65_skel, k0_part75_eq_skeleton, k0_part75_skel,
      k0_part79_eq_skeleton, k0_part79_skel, k0_part82_eq_skeleton, k0_part82_skel, k0_part92_eq_skeleton, k0_part92_skel, k0_part99_eq_skeleton,
      k0_part99_skel]
    exact Tri.pure_any _
  case p67 | p84 =>
    simp only [k0_part67_eq_skeleton, k0_part67_skel, k0_part84_eq_skeleton, k0_part84_skel]
    refine Tri.lift (recvKv_step m K _ _ (by decide) rfl rfl ?_)
    refine Tri.lift (recvSg_step m K _ _ (by decide) rfl rfl ?_)
    exact Tri.pure_any _
  case p68 =>
    simp only [k0_part68_eq_skeleton, k0_part68_skel]
    iterate 2
      refine Tri.lift (recvKv_step m K _ _ (by decide) rfl rfl ?_)
      refine Tri.lift (recvSg_step m K _ _ (by decide) rfl rfl ?_)
    exact Tri.pure_any _
  case p69 | p85 =>
    simp only [k0_part69_eq_skeleton, k0_part69_skel, k0_part85_eq_skeleton, k0_part85_skel]
    refine Tri.lift (recvKv_step m K _ _ (by decide) rfl rfl ?_)
    refine Tri.lift (recvSg_step m K _ _ (by decide) rfl rfl ?_)
    refine Tri.lift (recvKv_step m K _ _ (by decide) rfl rfl ?_)
    exact Tri.pure_any _
  case p70 | p86 | p87 =>
    simp only [k0_part70_eq_skeleton, k0_part70_skel, k0_part86_eq_skeleton, k0_part86_skel, k0_part87_eq_skeleton, k0_part87_skel]
    iterate 2
      refine Tri.lift (recvSg_step m K _ _ (by decide) rfl rfl ?_)
      refine Tri.lift (recvKv_step m K _ _ (by decide) rfl rfl ?_)
    exact Tri.pure_any _
  case p71 =>
    simp only [k0_part71_eq_skeleton, k0_part71_skel]
    refine Tri.lift (recvSg_step m K _ _ (by decide) rfl rfl ?_)
    refine Tri.lift (recvKv_step m K _ _ (by decide) rfl rfl ?_)
    refine Tri.lift (recvSg_step m K _ _ (by decide) rfl rfl ?_)
    iterate 4 refine Tri.lift (rcv_load_sg m K (by decide) ?_)
    exact Tri.pure_any _
  case p72 | p89 =>
    simp only [k0_part72_eq_skeleton, k0_part72_skel, k0_part89_eq_skeleton, k0_part89_skel]
    iterate 10 refine Tri.lift (rcv_load_sg m K (by decide) ?_)
    exact Tri.pure_any _
  case p73 =>
    simp only [k0_part73_eq_skeleton, k0_part73_skel]
    iterate 2 refine Tri.lift (rcv_load_sg m K (by decide) ?_)
    iterate 2 refine Tri.lift (rcv_load_kv m K (by decide) ?_)
    exact Tri.pure_any _
  case p88 =>
    simp only [k0_part88_eq_skeleton, k0_part88_skel]
    refine Tri.lift (recvSg_step m K _ _ (by decide) rfl rfl ?_)
    refine Tri.lift (recvKv_step m K _ _ (by decide) rfl rfl ?_)
    refine Tri.lift (recvSg_step m K _ _ (by decide) rfl rfl ?_)
    iterate 3 refine Tri.lift (rcv_load_sg m K (by decide) ?_)
    exact Tri.pure_any _
  case p90 =>
    simp only [k0_part90_eq_skeleton, k0_part90_skel]
    iterate 3 refine Tri.lift (rcv_load_sg m K (by decide) ?_)
    iterate 2 refine Tri.lift (rcv_load_kv m K (by decide) ?_)
    exact Tri.pure_any _
  case p95 | p96 =>
    simp only [k0_part95_eq_skeleton, k0_part95_skel, k0_part96_eq_skeleton, k0_part96_skel]
    refine Tri.lift (rcv_load_kv m K (by decide) ?_)
    exact Tri.pure_any _
  case p103 | p108 | p112 | p116 =>
    simp only [k0_part103_eq_skeleton, k0_part103_skel, k0_part108_eq_skeleton, k0_part108_skel, k0_part112_eq_skeleton, k0_part112_skel,
      k0_part116_eq_skeleton, k0_part116_skel]
    refine Tri.lift (doneSg_step m K _ _ (by decide) rfl rfl ?_)
    refine Tri.lift (doneKv_step m K _ _ (by decide) rfl rfl ?_)
    refine Tri.lift (doneSg_step m K _ _ (by decide) rfl rfl ?_)
    exact Tri.pure_any _
  case p104 | p105 | p109 | p113 | p117 =>
    simp only [k0_part104_eq_skeleton, k0_part104_skel, k0_part105_eq_skeleton, k0_part105_skel, k0_part109_eq_skeleton, k0_part109_skel,
      k0_part113_eq_skeleton, k0_part113_skel, k0_part117_eq_skeleton, k0_part117_skel]
    iterate 2
      refine Tri.lift (doneKv_step m K _ _ (by decide) rfl rfl ?_)
      refine Tri.lift (doneSg_step m K _ _ (by decide) rfl rfl ?_)
    exact Tri.pure_any _
  case p106 | p110 | p114 | p118 =>
    simp only [k0_part106_eq_skeleton, k0_part106_skel, k0_part110_eq_skeleton, k0_part110_skel, k0_part114_eq_skeleton, k0_part114_skel,
      k0_part118_eq_skeleton, k0_part118_skel]
    refine Tri.lift (doneKv_step m K _ _ (by decide) rfl rfl ?_)
    refine Tri.lift (doneSg_step m K _ _ (by decide) rfl rfl ?_)
    refine Tri.lift (doneKv_step m K _ _ (by decide) rfl rfl ?_)
    exact Tri.pure_any _
  case p107 | p111 | p115 =>
    simp only [k0_part107_eq_skeleton, k0_part107_skel, k0_part111_eq_skeleton, k0_part111_skel, k0_part115_eq_skeleton, k0_part115_skel]
    iterate 2
      refine Tri.lift (doneSg_step m K _ _ (by decide) rfl rfl ?_)
      refine Tri.lift (doneKv_step m K _ _ (by decide) rfl rfl ?_)
    exact Tri.pure_any _

end parts

end Cert.KernelIdeal.Attn

end
-- ==== Proof.Ideal.Data.lean ====
/-
The launch's data — what a device starts its body from and ends it with — and the body's obligation, from the walk
through the body and its closing.
-/
module

public import proofs.«01_k».proof.Proof.Ideal.Mint
public import proofs.«01_k».proof.Proof.Ideal.Body
public import proofs.«01_k».proof.Proof.Gen.KernelIdeal.Points

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

attribute [local irreducible] cc0_body

/-- The memory at launch: arbitrary contents, every counter zero, arbitrary generator registers. -/
def s₀ : MemSt nD τ sig (Elt F) := ⟨m, fun _ => 0, ρ⟩

/-- The body as the launch calls it. -/
abbrev body : Prog (TpuEff nD τ sig (Elt F) Λ₀ .tc) PUnit :=
  cc0_body a0 (Memref.isWhole_whole _) a1 (Memref.isWhole_whole _) a2 (Memref.isWhole_whole _) a3 (Memref.isWhole_whole _)
    a4 (Memref.isWhole_whole _) a5 (Memref.isWhole_whole _) kvM (Memref.isWhole_whole _) sgM (Memref.isWhole_whole _)
    cc0_scratch2 cc0_scratch3 cc0_scratch4 cc0_scratch5

/-- The result of device `c`: its body run with every load reading what the walk says is there. -/
def outAt (c : Dev nD) : Out F := ev (bufs m c) c (body (F := F)) (fun _ o => o) (m ((c : Thread nD τ).loc cc0_stg5_0))

/-- What device `c` starts from. -/
def start (c : Dev nD) : sProp 𝕄 :=
  iprop(G' m c ∗ (cred (tallyAt (barCell c) () 31) ∗ (Cr c 2 0 ∗ Cr c 3 0)) ∗ levAts L lv)
def Φ₀ (c : Dev nD) : sProp 𝕄 :=
  iprop(start m c ∗ (∃ f, ((c : Thread nD τ).loc cc0_scratch0) ↦{fullShare} f) ∗ (∃ f, ((c : Thread nD τ).loc cc0_scratch1) ↦{fullShare} f))
/-- What it ends with: its two gather buffers whole, every counter at zero. -/
def Φ₁ (c : Dev nD) : sProp 𝕄 :=
  iprop((((c : Thread nD τ).loc cc0_scratch0 ↦{fullShare} KV m c) ∗ ((c : Thread nD τ).loc cc0_scratch1 ↦{fullShare} SG m c))
    ∗ (bigSep Finset.univ fun k => bigSep Finset.univ fun i => semVal (xcell c k i) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stX m c
    | ⟨1, _⟩ => stQ m c
    | ⟨2, _⟩ => stK m c
    | ⟨3, _⟩ => stV m c
    | ⟨4, _⟩ => stO m c
    | ⟨5, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The first state of the walk, from what the launch deals. -/
theorem sig_intro (c : Dev nD) (o : Out F) :
    iprop((ats c ∗ payToks c) ∗ (cred (tallyAt (barCell c) () 31) ∗ (Cr c 2 0 ∗ Cr c 3 0))
      ∗ ((∃ f, ((c : Thread nD τ).loc cc0_scratch0) ↦{fullShare} f) ∗ (∃ f, ((c : Thread nD τ).loc cc0_scratch1) ↦{fullShare} f))
      ∗ owesW c (O₀ c) ∗ Stg m c ∗ Res c) ⊢ (Sig m c 0 o : sProp 𝕄) := by
  have hk (f : (cc0_scratch0 : Ref sig .tc).ty.Contents (Elt F)) : (((c : Thread nD τ).loc cc0_scratch0 ↦{fullShare} f) : sProp 𝕄)
      ⊢ iprop(kvPts c 0 fullShare f ∗ bigSep (todo 0) fun o => kvPts c o fullShare f) := by
    rw [kv_slots, bigSep_univ_at _ 0, todo_zero]
  have hs (f : (cc0_scratch1 : Ref sig .tc).ty.Contents (Elt F)) : (((c : Thread nD τ).loc cc0_scratch1 ↦{fullShare} f) : sProp 𝕄)
      ⊢ iprop(sgPts c 0 fullShare f ∗ bigSep (todo 0) fun o => sgPts c o fullShare f) := by
    rw [sg_rows, bigSep_univ_at _ 0, todo_zero]
  have hb (f : (cc0_scratch0 : Ref sig .tc).ty.Contents (Elt F)) (g : (cc0_scratch1 : Ref sig .tc).ty.Contents (Elt F)) (o : Fin 32) :
      iprop(dutyTok ER (barCell (c + o)) 0 (-o) ∗ (kvPts c o fullShare f ∗ sgPts c o fullShare g))
        ⊢ (iprop(dutyTok ER (barCell (c + o)) 0 (-o) ∗ barPay (c + o) (-o)) : sProp 𝕄) := by
    unfold barPay
    rw [up_down, neg_neg]
    iintro ⟨HT, HK, HS⟩
    isplitl [HT]; · iexact HT
    isplitl [HK]
    · iexists f; iexact HK
    · iexists g; iexact HS
  unfold ats payToks Sig Rest1 O₀
  iintro ⟨⟨⟨AB, AI, AK⟩, ⟨TB, TX⟩⟩, ⟨CB, CX⟩, ⟨⟨%f, HK⟩, ⟨%g, HS⟩⟩, HO, HSt, HR⟩
  ihave HK := (hk f) $$ HK
  icases HK with ⟨K0, KR⟩
  ihave HS := (hs g) $$ HS
  icases HS with ⟨S0, SR⟩
  isplitl [HO]; · iexact HO
  isplitl [TB KR SR]
  · have hm : (bigSep (todo 0) fun o : Fin 32 => iprop(dutyTok ER (barCell (c + o)) 0 (-o) ∗ (kvPts c o fullShare f ∗ sgPts c o fullShare g)))
        ⊢ (bigSep (todo 0) fun o : Fin 32 => iprop(dutyTok ER (barCell (c + o)) 0 (-o) ∗ barPay (c + o) (-o)) : sProp 𝕄) :=
      bigSep_mono fun o _ => hb f g o
    iapply hm
    rw [bigSep_sep', bigSep_sep']
    isplitl [TB]; · iexact TB
    isplitl [KR] <;> iassumption
  isplitl [K0 S0]
  · isplitl [K0]
    · iexists f; iexact K0
    · iexists g; iexact S0
  isplitl [CB]; · iexact CB
  isplitl [AB]; · iexact AB
  isplitl [HSt]; · iexact HSt
  isplitl [HR]; · iexact HR
  isplitl [AI]; · iexact AI
  isplitl [AK]; · iexact AK
  isplitl [CX]; · iexact CX
  iexact TX

set_option maxRecDepth 8000 in
/-- The body, run: from the first state to what it ends with. -/
theorem body_run (K : Dev nD × CI → ℕ) (c : Dev nD) (Q : sProp 𝕄) (o : Out F) (hQ : Post m c (ev (bufs m c) c (body (F := F)) (fun _ o => o) o) ⊢ Q) :
    iprop(ctx m K ∗ Sig m c 0 o) ⊢ wp frame (wpE (defs₀ (F := F)) 𝒱₀ (c : Thread nD τ) none) Set.univ (body (F := F)) fun _ => Q := by
  have h := walk m K (c := c) (Memref.isWhole_whole _) (Memref.isWhole_whole _) (Memref.isWhole_whole _) (Memref.isWhole_whole _)
    (Memref.isWhole_whole _) (Memref.isWhole_whole _) (Memref.isWhole_whole _) (Memref.isWhole_whole _)
    (fun _ => iprop(|={Set.univ}=> Q)) o (ctx m K) (fun a o' _ he => by
      have e : ev (bufs m c) c (body (F := F)) (fun _ o => o) o = o' := he fun _ o => o
      rw [e] at hQ
      exact (closing m K c o').trans (BI.fupd_mono hQ))
  refine BIBase.Entails.trans ?_ (h.trans (wp_fupd frame (wpE (defs₀ (F := F)) 𝒱₀ (c : Thread nD τ) none) Set.univ (body (F := F)) (fun _ => Q)))
  iintro ⟨#HΓ, HS⟩
  isplitr; · iexact HΓ
  isplitr; · iexact HΓ
  iexact HS

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ m c ∗ (dats m ρ 0 c).owesAt () t0_0.succ ∗ stg c cc0_stg0_0 (stX m c) ∗ stg c cc0_stg1_0 (stQ m c)
    ∗ stg c cc0_stg2_0 (stK m c) ∗ stg c cc0_stg3_0 (stV m c) ∗ stg c cc0_stg4_0 (stO m c) ∗ stg c cc0_stg5_0 (outAt m c))

theorem post_intro (c : Dev nD) : Post m c (outAt m c) ⊢ bodyPost m ρ c := by
  unfold Post bodyPost Φ₁ Stg Dat.owesAt Pipeline.owesWithin owesW
  rw [show (dats m ρ 0 c).owed t0_0.succ = 0 from rfl]
  simp only [bufs_stg0, bufs_stg1, bufs_stg2, bufs_stg3, bufs_stg4]
  iintro ⟨Ho, ⟨%W, HO⟩, ⟨H0, H1, H2, H3, H4⟩, HB, HZ, HzB⟩
  isplitl [HB HZ HzB]
  · isplitl [HB]; · iexact HB
    isplitl [HZ] <;> iassumption
  isplitl [HO]
  · iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact Ho

theorem body_sound (c : Dev nD) :
    bodyPre m ρ c ⊢ wp frame (wpE (defs₀ (F := F)) 𝒱₀ (c : Thread nD τ) none) Set.univ (body (F := F)) fun _ => bodyPost m ρ c := by
  unfold bodyPre Φ₀ start G' Dat.owesAt Pipeline.owesWithin
  rw [show (dats m ρ 0 c).owed t0_0.castSucc = O₀ c from rfl]
  iintro ⟨⟨⟨⟨⟨%K, #HR⟩, HA, HT⟩, HC, #HL⟩, HB⟩, ⟨%W, %hW, HO⟩, ⟨%d0, %g0, %hg0, H0⟩, ⟨%d1, %g1, %hg1, H1⟩, ⟨%d2, %g2, %hg2, H2⟩,
    ⟨%d3, %g3, %hg3, H3⟩, ⟨%d4, %g4, %hg4, H4⟩, ⟨%d5, %g5, %hg5, H5⟩⟩
  have e0 : g0 = stX m c := by rw [hg0]; unfold Dat.before; rw [if_pos (fetch0_0 t0_0)]; rfl
  have e1 : g1 = stQ m c := by rw [hg1]; unfold Dat.before; rw [if_pos (fetch0_1 t0_0)]; rfl
  have e2 : g2 = stK m c := by rw [hg2]; unfold Dat.before; rw [if_pos (fetch0_2 t0_0)]; rfl
  have e3 : g3 = stV m c := by rw [hg3]; unfold Dat.before; rw [if_pos (fetch0_3 t0_0)]; rfl
  have e4 : g4 = stO m c := by rw [hg4]; unfold Dat.before; rw [if_pos (fetch0_4 t0_0)]; rfl
  subst e0 e1 e2 e3 e4
  iapply (body_run m K c (bodyPost m ρ c) _ (post_intro m ρ c))
  isplitr
  · unfold ctx; isplitl; · iexact HR
    iexact HL
  iapply (sig_intro m c _)
  isplitl [HA HT]
  · isplitl [HA] <;> iassumption
  isplitl [HC]; · iexact HC
  isplitl [HB]; · iexact HB
  isplitl [HO]
  · unfold owesW; iexists W; iexact HO
  unfold Stg Res
  simp only [bufs_stg0, bufs_stg1, bufs_stg2, bufs_stg3, bufs_stg4]
  isplitr [H5]
  · isplitl [H0]; · iexact H0
    isplitl [H1]; · iexact H1
    isplitl [H2]; · iexact H2
    isplitl [H3]; · iexact H3
    iexact H4
  iexists g5; iexact H5

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_sound m ρ c

end Cert.KernelIdeal.Attn

end
-- ==== Proof.Ideal.Run.lean ====
/-
The run: from any memory with zero counters every execution ends, with every device's arrays as the launch's data say
and every counter at zero.
-/
module

public import proofs.«01_k».proof.Proof.Ideal.Data
public import Idealize.ShloMosaic.Lib.Pipeline.CollectiveSegs

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The launch's side conditions -/

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁
  iintro ⟨⟨HK, HS⟩, HX, HB⟩
  isplitl [HB]; · iexact HB
  isplitl [HX]; · iexact HX
  isplitl [HK]
  · iexists _; iexact HK
  · iexists _; iexact HS

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide) _ (by
      rcases t with ⟨_ | _, ht⟩
      · exact Or.inl rfl
      · exact Or.inr rfl)

/-! ## The run -/

/-- Array `w` of device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

attribute [local irreducible] cc0_body

set_option maxRecDepth 100000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array after the run holds what it held. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

/-- The frame: the argument arrays end unchanged and every counter at zero. -/
theorem frame_run : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs (onTc (τ := τ) (main (F := F))) (s₀ m ρ)).mono (fun r h =>
    ⟨fun c => ⟨(h.1 c 0).trans (finalA_in m ρ c 0 rfl), (h.1 c 1).trans (finalA_in m ρ c 1 rfl),
      (h.1 c 2).trans (finalA_in m ρ c 2 rfl), (h.1 c 3).trans (finalA_in m ρ c 3 rfl), (h.1 c 4).trans (finalA_in m ρ c 4 rfl)⟩, h.2⟩)
    (run_main m ρ)

end Cert.KernelIdeal.Attn

end
-- ==== Proof.Frames.lean ====
/- The claims that hold for any float values: each program runs, leaves its arguments as they were and every semaphore at zero;
   and the three named constants are what the certificate's table says they are. -/
module

public import proofs.«01_k».proof.Defs
public import proofs.«01_k».proof.Proof.Gen.ReferenceIdeal.Run
public import proofs.«01_k».proof.Proof.Ideal.Run
public import proofs.«01_k».proof.Proof.Rounded.Run
public import Idealize.ShloMosaic.Lib.Quiescent

@[expose] public section

noncomputable section

namespace Cert.Proof.Attn

open Idealize.ShloMosaic Idealize.SL.Sem

/-- The kernel at the bit-level floats runs, its arguments end unchanged and every semaphore ends at zero. -/
theorem frame_kernel : Cert.quiescent_Kernel := fun m g _ => Cert.Kernel.Attn.frame_run m g

/-- The same of the idealized kernel. -/
theorem frame_ideal : Cert.quiescent_KernelIdeal := fun m g _ => Cert.KernelIdeal.Attn.frame_run m g

/-- The reference runs and its arguments end unchanged; it has no semaphore. -/
theorem frame_reference : Cert.quiescent_ReferenceIdeal := fun m g _ =>
  (θ_run Cert.ReferenceIdeal.defs _ _).mono
    (fun r h => ⟨fun c => (h c).2, sem_eq_zero_of_no_sems rfl r.2⟩)
    (Cert.ReferenceIdeal.Value.run (F := Ideal) m g)

/-- The frame of the idealized kernel under the precondition, which it does not need. -/
theorem frame_ideal_pre [Cert.Pre_finite_queries_KernelIdeal.Facts] : Cert.quiescent_KernelIdeal_pre_finite_queries_KernelIdeal :=
  fun m g _ => frame_ideal m g trivial

/-- The frame of the reference under the precondition, which it does not need. -/
theorem frame_reference_pre [Cert.Pre_finite_queries_ReferenceIdeal.Facts] : Cert.quiescent_ReferenceIdeal_pre_finite_queries_ReferenceIdeal :=
  fun m g _ => frame_reference m g trivial

/-- The table's three names: the rotary exponent's factor, and the two dequantisation factors. -/
theorem preserves : Cert.preserves_Kernel_KernelIdeal :=
  ⟨IdealRules.named_const.statement Cert.KernelIdeal.κ "log_base" .f32 0xBE935D8E#32 ((-((1 / 32) * (Real.log 10000)) : ℝ) : EReal) rfl,
    IdealRules.named_const.statement Cert.KernelIdeal.κ "score_scale" .f32 0x3A810204#32 ((1 / 1016 : ℝ) : EReal) rfl,
    IdealRules.named_const.statement Cert.KernelIdeal.κ "value_scale" .f32 0x3C010204#32 ((1 / 127 : ℝ) : EReal) rfl⟩

end Cert.Proof.Attn

end
-- ==== Proof.Finite.lean ====
/-
The precondition: what the predicate `finite_queries` says of the arrays, and that its own side conditions hold.
-/
module

public import proofs.«01_k».proof.Defs
public import Idealize.ShloMosaic.Lib.Decide
public import Idealize.ShloMosaic.Lib.ReduceAll
public import Idealize.ShloMosaic.Lib.StableHlo.Predicate
public import Idealize.ShloMosaic.PureOps.Ideal.Laws

@[expose] public section

noncomputable section

namespace Cert.Proof.Attn

open Idealize.ShloMosaic

/-- The side conditions of the predicate over one device's arrays. -/
instance factsK : Cert.Pre_finite_queries_KernelIdeal.Facts where
  bcast_S_S2x128x512 := by decide
  reducesTo_S2x128x512_S_d0_1_2 := by decide
  h_S_ := by decide
  bcast_S_S512x256 := by decide
  reducesTo_S512x256_S_d0_1 := by decide

/-- The side conditions of the predicate over the whole arrays. -/
instance factsR : Cert.Pre_finite_queries_ReferenceIdeal.Facts where
  bcast_S_S2x4096x512 := by decide
  reducesTo_S2x4096x512_S_d0_1_2 := by decide
  h_S_ := by decide
  bcast_S_S512x256 := by decide
  reducesTo_S512x256_S_d0_1 := by decide

/-- A value whose absolute value compares below the infinity is a real number. -/
theorem real_of_lt (x : EReal) (h : Ideal.cmp .olt (max x (-x)) (Ideal.ofBits .f32 0x7F800000#32) = 1#1) : ∃ r : ℝ, x = ((r : ℝ) : EReal) := by
  have top : Ideal.ofBits .f32 0x7F800000#32 = (⊤ : EReal) := by
    simp [Ideal.ofBits, Ideal.ieee]
  rw [top] at h
  have lt : max x (-x) < ⊤ := of_decide_eq_true ((StableHlo.Predicate.ofBool_eq_one_iff _).mp h)
  induction x using EReal.rec with
  | bot => simp at lt
  | top => simp at lt
  | coe r => exact ⟨r, rfl⟩

/-- What the precondition says of one device's arrays: its block of the input and the query weights are real numbers. -/
theorem real_of_pre (x : Vec Ideal Cert.Pre_finite_queries_KernelIdeal.S2x128x512 .f32) (wq wk wv : Vec Ideal Cert.Pre_finite_queries_KernelIdeal.S512x256 .f32)
    (wo : Vec Ideal Cert.Pre_finite_queries_KernelIdeal.S256x512 .f32)
    (h : Cert.Pre_finite_queries_KernelIdeal.fn (F := Ideal) x wq wk wv wo = fun _ => 1#1) :
    (∀ i, ∃ r : ℝ, x i = ((r : ℝ) : EReal)) ∧ ∀ i, ∃ r : ℝ, wq i = ((r : ℝ) : EReal) := by
  have e := congrFun h (fun a => a.elim0)
  dsimp only [Cert.Pre_finite_queries_KernelIdeal.fn] at e
  have both : ∀ a b : BitVec 1, IntOp.andi a b = 1#1 → a = 1#1 ∧ b = 1#1 := by decide
  obtain ⟨e1, e2⟩ := both _ _ e
  haveI : Subsingleton Cert.Pre_finite_queries_KernelIdeal.S_.Idx := ⟨fun a b => funext fun k => k.elim0⟩
  exact ⟨fun i => real_of_lt _ (Host.reduce_andi_all _ _ _ _ _ e1 i), fun i => real_of_lt _ (Host.reduce_andi_all _ _ _ _ _ e2 i)⟩

end Cert.Proof.Attn

end
-- ==== Proof.Ideal.Spec.lean ====
/-
What the kernel computes after the exchange, written with its own vector operations but once for all heads and groups.

For a head (batch element `b`, head `h`) the state is the running maximum `m`, the running sum `l` and the running
weighted sum `acc`; group `g` — slots `8 g … 8 g + 7` of the gather buffer — takes it one step on. `Ret p a g` says
that the program `p`, read as a function, returns `a` and changes the result buffer by `g`.
-/
module

public import proofs.«01_k».proof.Proof.Ideal.Accesses

@[expose] public section

noncomputable section

namespace Cert.KernelIdeal.Attn

open Cert.KernelIdeal Cert.KernelIdeal.Gen

open Idealize.ShloMosaic
open Idealize.ShloMosaic.TcCoe
open Idealize.SL.Sem

variable {F : FTy → Type} [FloatOps F] [Named F]

/-! ## Programs as functions -/

/-- `p` returns `a` and takes the result buffer through `g`. -/
def Ret (σ : Bufs F) (c : Dev nD) {α : Type} (p : Prog (TpuEff nD τ sig (Elt F) Λ₀ .tc) α) (a : α) (g : Out F → Out F) : Prop :=
  ∀ (K : α → Out F → Out F) (o : Out F), ev σ c p K o = K a (g o)

theorem Ret.bind {σ : Bufs F} {c : Dev nD} {α β : Type} {p : Prog (TpuEff nD τ sig (Elt F) Λ₀ .tc) α}
    {f : α → Prog (TpuEff nD τ sig (Elt F) Λ₀ .tc) β} {a : α} {b : β} {g g' : Out F → Out F}
    (h : Ret σ c p a g) (h' : Ret σ c (f a) b g') : Ret σ c (Bind.bind p f) b (fun o => g' (g o)) := fun K o => by
  show ev σ c (p.bind f) K o = _
  rw [ev_bind, h, h']

/-- A first program that leaves the result buffer alone. -/
theorem Ret.seq {σ : Bufs F} {c : Dev nD} {α β : Type} {p : Prog (TpuEff nD τ sig (Elt F) Λ₀ .tc) α}
    {f : α → Prog (TpuEff nD τ sig (Elt F) Λ₀ .tc) β} {a : α} {b : β} {g' : Out F → Out F}
    (h : Ret σ c p a (fun o => o)) (h' : Ret σ c (f a) b g') : Ret σ c (Bind.bind p f) b g' := Ret.bind h h'

/-! ## One step of the online softmax -/

/-- Where batch element `b`'s keys of head `h` in group `g` lie in the gather buffer. -/
theorem inbK (b : Fin 2) (g h : Fin 4) :
    ∀ a, (![b.val, 1024 * g.val, 64 * h.val] : Fin 3 → Nat) a + S1x1024x64.size a ≤ S2x4096x512.size a := by
  have := b.isLt; have := g.isLt; have := h.isLt
  intro a; fin_cases a
  · show b.val + 1 ≤ 2; omega
  · show 1024 * g.val + 1024 ≤ 4096; omega
  · show 64 * h.val + 64 ≤ 512; omega

/-- The values lie 256 columns on. -/
theorem inbV (b : Fin 2) (g h : Fin 4) :
    ∀ a, (![b.val, 1024 * g.val, 256 + 64 * h.val] : Fin 3 → Nat) a + S1x1024x64.size a ≤ S2x4096x512.size a := by
  have := b.isLt; have := g.isLt; have := h.isLt
  intro a; fin_cases a
  · show b.val + 1 ≤ 2; omega
  · show 1024 * g.val + 1024 ≤ 4096; omega
  · show 256 + 64 * h.val + 64 ≤ 512; omega

theorem inbSG (r : Fin 32) (l : Fin 2) :
    ∀ a, (![r.val, 64 * l.val] : Fin 2 → Nat) a + S1x1.size a ≤ S32x128.size a := by
  have := r.isLt; have := l.isLt
  intro a; fin_cases a
  · show r.val + 1 ≤ 32; omega
  · show 64 * l.val + 1 ≤ 128; omega

/-- The key codes of head `h` in group `g`, as floats. -/
def keysF (σ : Bufs F) (b : Fin 2) (h g : Fin 4) : FVec F S1024x64 .bf16 :=
  sitofp .bf16 (shapeCast S1024x64 (kvM.view.readAt (Elt F)
    (Rect.unit (s := S2x4096x512) ![b.val, 1024 * g.val, 64 * h.val] S1x1024x64.size (inbK b g h)).toLoadRect (σ cc0_scratch0) : Vec F S1x1024x64 .i8)
    shapeCasts_S1x1024x64_S1024x64)
/-- The value codes of head `h` in group `g`, as floats. -/
def valsF (σ : Bufs F) (b : Fin 2) (h g : Fin 4) : FVec F S1024x64 .bf16 :=
  sitofp .bf16 (shapeCast S1024x64 (kvM.view.readAt (Elt F)
    (Rect.unit (s := S2x4096x512) ![b.val, 1024 * g.val, 256 + 64 * h.val] S1x1024x64.size (inbV b g h)).toLoadRect (σ cc0_scratch0) : Vec F S1x1024x64 .i8)
    shapeCasts_S1x1024x64_S1024x64)

/-- The scale of the keys (`l = 0`) or the values (`l = 1`) in row `r`, as stored. -/
def scaleRaw (σ : Bufs F) (r : Fin 32) (l : Fin 2) : F .f32 :=
  extractAt ![0, 0] (sgM.view.readAt (Elt F) (Rect.unit (s := S32x128) ![r.val, 64 * l.val] S1x1.size (inbSG r l)).toLoadRect (σ cc0_scratch1) :
    Vec F S1x1 .f32) inpos_S1x1_p0_0
/-- The factor the scores of slot `r` are multiplied by. -/
def scaleK (σ : Bufs F) (r : Fin 32) : F .f32 := Scalar.mulf (scaleRaw σ r 0) (Named.named κ "score_scale" 0x3A810204#32)
/-- The factor the weights of slot `r` are multiplied by. -/
def scaleV (σ : Bufs F) (r : Fin 32) : F .f32 := Scalar.mulf (scaleRaw σ r 1) (Named.named κ "value_scale" 0x3C010204#32)

/-- Slot `j` of group `g`. -/
def slotAt (g : Fin 4) (j : Fin 8) : Fin 32 := ⟨8 * g.val + j.val, by have := g.isLt; have := j.isLt; omega⟩

section step
variable (w : Fin 8 → F .f32)

/-- Column block `j` of a group's row, times the block's factor. -/
def blk0 (s : FVec F S128x1024 .f32) : FVec F S128x128 .f32 :=
  mulf (extractStridedSlice S128x128 ![0, 0] s slices_S128x1024_o0_0_S128x128) (broadcast S128x128 (w 0))
def blk1 (s : FVec F S128x1024 .f32) : FVec F S128x128 .f32 :=
  mulf (extractStridedSlice S128x128 ![0, 128] s slices_S128x1024_o0_128_S128x128) (broadcast S128x128 (w 1))
def blk2 (s : FVec F S128x1024 .f32) : FVec F S128x128 .f32 :=
  mulf (extractStridedSlice S128x128 ![0, 256] s slices_S128x1024_o0_256_S128x128) (broadcast S128x128 (w 2))
def blk3 (s : FVec F S128x1024 .f32) : FVec F S128x128 .f32 :=
  mulf (extractStridedSlice S128x128 ![0, 384] s slices_S128x1024_o0_384_S128x128) (broadcast S128x128 (w 3))
def blk4 (s : FVec F S128x1024 .f32) : FVec F S128x128 .f32 :=
  mulf (extractStridedSlice S128x128 ![0, 512] s slices_S128x1024_o0_512_S128x128) (broadcast S128x128 (w 4))
def blk5 (s : FVec F S128x1024 .f32) : FVec F S128x128 .f32 :=
  mulf (extractStridedSlice S128x128 ![0, 640] s slices_S128x1024_o0_640_S128x128) (broadcast S128x128 (w 5))
def blk6 (s : FVec F S128x1024 .f32) : FVec F S128x128 .f32 :=
  mulf (extractStridedSlice S128x128 ![0, 768] s slices_S128x1024_o0_768_S128x128) (broadcast S128x128 (w 6))
def blk7 (s : FVec F S128x1024 .f32) : FVec F S128x128 .f32 :=
  mulf (extractStridedSlice S128x128 ![0, 896] s slices_S128x1024_o0_896_S128x128) (broadcast S128x128 (w 7))

/-- A group's row with every slot's 128 columns multiplied by the slot's factor. -/
def scaled (s : FVec F S128x1024 .f32) : FVec F S128x1024 .f32 :=
  concatenate S128x1024 1 [⟨S128x128, blk0 w s⟩, ⟨S128x128, blk1 w s⟩, ⟨S128x128, blk2 w s⟩, ⟨S128x128, blk3 w s⟩, ⟨S128x128, blk4 w s⟩,
    ⟨S128x128, blk5 w s⟩, ⟨S128x128, blk6 w s⟩, ⟨S128x128, blk7 w s⟩]
    concatenates_S128x128_S128x128_S128x128_S128x128_S128x128_S128x128_S128x128_S128x128_S128x1024_d1

end step

/-- Queries times key codes. -/
def rawScores (q : FVec F S128x64 .bf16) (k : FVec F S1024x64 .bf16) : FVec F S128x1024 .f32 :=
  matmul dot_S128x64_S1024x64_S128x1024_1_1_0_0_n_n none q k (constant S128x1024 .f32 0x00000000#32)
/-- The largest score of a row in this group. -/
def rowMax (s : FVec F S128x1024 .f32) : FVec F S128x1 .f32 :=
  shapeCast S128x1 (multiReduction .maximumf [1] S128 s 0xFF800000#32 reduces_S128x1024_S128 (.inl rfl) rfl) shapeCasts_S128_S128x1
def newMax (m : FVec F S128x1 .f32) (s : FVec F S128x1024 .f32) : FVec F S128x1 .f32 := maximumf m (rowMax s)
/-- What the old sums are multiplied by. -/
def decay (m : FVec F S128x1 .f32) (s : FVec F S128x1024 .f32) : FVec F S128x1 .f32 := exp (subf m (newMax m s))
/-- The weights before division. -/
def weights (m : FVec F S128x1 .f32) (s : FVec F S128x1024 .f32) : FVec F S128x1024 .f32 :=
  exp (subf s (broadcastTo S128x1024 (newMax m s) broadcasts_S128x1_S128x1024))
def newSum (m l : FVec F S128x1 .f32) (s : FVec F S128x1024 .f32) : FVec F S128x1 .f32 :=
  addf (mulf l (decay m s))
    (shapeCast S128x1 (multiReduction .add [1] S128 (weights m s) 0x00000000#32 reduces_S128x1024_S128 (.inl rfl) rfl) shapeCasts_S128_S128x1)
def newAcc (m : FVec F S128x1 .f32) (a : FVec F S128x64 .f32) (s : FVec F S128x1024 .f32) (w : Fin 8 → F .f32) (v : FVec F S1024x64 .bf16) :
    FVec F S128x64 .f32 :=
  addf (mulf a (broadcastTo S128x64 (decay m s) broadcasts_S128x1_S128x64))
    (matmul dot_S128x1024_S1024x64_S128x64_1_0_0_1_n_n none (truncf .bf16 (scaled w (weights m s)) bitsLt_bf16_f32) v (constant S128x64 .f32 0x00000000#32))

/-- A head's running maximum, sum and weighted sum. -/
structure St (F : FTy → Type) [FloatOps F] [Named F] where
  m : FVec F S128x1 .f32
  l : FVec F S128x1 .f32
  a : FVec F S128x64 .f32

def St.init : St F :=
  ⟨broadcast S128x1 (Scalar.ofBits .f32 0xF149F2CA#32), broadcast S128x1 (Scalar.ofBits .f32 0x00000000#32),
    broadcast S128x64 (Scalar.ofBits .f32 0x00000000#32)⟩

/-- Head `h` of batch element `b` of the queries. -/
def headQ (r : FVec F S256x256 .f32) (b : Fin 2) (h : Fin 4) : FVec F S128x64 .bf16 :=
  (![![k0_pay28 r, k0_pay29 r, k0_pay30 r, k0_pay31 r], ![k0_pay32 r, k0_pay33 r, k0_pay34 r, k0_pay35 r]] :
    Fin 2 → Fin 4 → FVec F S128x64 .bf16) b h

/-- The products of head `h`'s queries with group `g`'s key codes. -/
def raw (σ : Bufs F) (r : FVec F S256x256 .f32) (b : Fin 2) (h g : Fin 4) : FVec F S128x1024 .f32 :=
  rawScores (headQ r b h) (keysF σ b h g)

/-- The scores of head `h` of batch element `b` against group `g`. -/
def scores (σ : Bufs F) (r : FVec F S256x256 .f32) (b : Fin 2) (h g : Fin 4) : FVec F S128x1024 .f32 :=
  scaled (fun j => scaleK σ (slotAt g j)) (raw σ r b h g)

/-- One group. -/
def St.step (σ : Bufs F) (r : FVec F S256x256 .f32) (b : Fin 2) (h g : Fin 4) (t : St F) : St F :=
  ⟨newMax t.m (scores σ r b h g), newSum t.m t.l (scores σ r b h g),
    newAcc t.m t.a (scores σ r b h g) (fun j => scaleV σ (slotAt g j)) (valsF σ b h g)⟩

/-- The state before group `n`. -/
def hst (σ : Bufs F) (r : FVec F S256x256 .f32) (b : Fin 2) (h : Fin 4) : ℕ → St F
  | 0 => St.init
  | n + 1 => St.step σ r b h (Fin.ofNat 4 n) (hst σ r b h n)

/-- The weights of group `g` before division. -/
def wts (σ : Bufs F) (r : FVec F S256x256 .f32) (b : Fin 2) (h : Fin 4) (n : ℕ) : FVec F S128x1024 .f32 :=
  weights (hst σ r b h n).m (scores σ r b h (Fin.ofNat 4 n))
/-- The factor the old sums get in group `n`. -/
def dec (σ : Bufs F) (r : FVec F S256x256 .f32) (b : Fin 2) (h : Fin 4) (n : ℕ) : FVec F S128x1 .f32 :=
  decay (hst σ r b h n).m (scores σ r b h (Fin.ofNat 4 n))

/-- A head's context: the weighted sum over the sum. -/
def headOut (t : St F) : FVec F S128x64 .f32 := divf t.a (broadcastTo S128x64 t.l broadcasts_S128x1_S128x64)

/-- The context of one batch element, its four heads side by side. -/
def rowOut (t0 t1 t2 t3 : St F) : FVec F S128x256 .f32 :=
  concatenate S128x256 1 [⟨S128x64, headOut t0⟩, ⟨S128x64, headOut t1⟩, ⟨S128x64, headOut t2⟩, ⟨S128x64, headOut t3⟩]
    concatenates_S128x64_S128x64_S128x64_S128x64_S128x256_d1

/-- The context: the two batch elements below each other. -/
def ctxOut (t : Fin 2 → Fin 4 → St F) : FVec F S256x256 .f32 :=
  concatenate S256x256 0 [⟨S128x256, rowOut (t 0 0) (t 0 1) (t 0 2) (t 0 3)⟩, ⟨S128x256, rowOut (t 1 0) (t 1 1) (t 1 2) (t 1 3)⟩]
    concatenates_S128x256_S128x256_S256x256_d0

/-- The result from the final states and the output weights. -/
def finalOut (t : Fin 2 → Fin 4 → St F) (wo : Vec F S256x512 .f32) : FVec F S2x128x512 .f32 :=
  shapeCast S2x128x512 (matmul dot_S256x256_S256x512_S256x512_1_0_0_1_n_n none (ctxOut t)
    (shapeCast S256x512 wo shapeCasts_S256x512_S256x512) (constant S256x512 .f32 0x00000000#32)) shapeCasts_S256x512_S2x128x512

end Cert.KernelIdeal.Attn

end
-- ==== Proof.Ideal.Value.lean ====
/-
The kernel's body, read as a function: it computes `finalOut` of the heads' final states.

The program is printed in consecutive parts. Each line below states what one part returns, in the words of the
specification; that it does is by computation.
-/
module

public import proofs.«01_k».proof.Proof.Ideal.Spec
public import proofs.«01_k».proof.Proof.Ideal.Data

@[expose] public section

set_option maxRecDepth 8192
set_option maxHeartbeats 4000000

noncomputable section

namespace Cert.KernelIdeal.Attn

open Cert.KernelIdeal Cert.KernelIdeal.Gen

open Idealize.ShloMosaic
open Idealize.ShloMosaic.TcCoe
open Idealize.SL.Sem

variable {F : FTy → Type} [FloatOps F] [Named F]

/-- The input block and the query weights, as the body loads them. -/
def rdX (σ : Bufs F) : Vec F S2x128x512 .f32 :=
  a0.view.readAt (Elt F) (Rect.unit (s := S2x128x512) ![0, 0, 0] S2x128x512.size inb_S2x128x512_S2x128x512_0_0_0).toLoadRect (σ cc0_stg0_0)
def rdQ (σ : Bufs F) : Vec F S512x256 .f32 :=
  a1.view.readAt (Elt F) (Rect.unit (s := S512x256) ![0, 0] S512x256.size inb_S512x256_S512x256_0_0).toLoadRect (σ cc0_stg1_0)
/-- The output weights, as the body loads them. -/
def rdO (σ : Bufs F) : Vec F S256x512 .f32 :=
  a4.view.readAt (Elt F) (Rect.unit (s := S256x512) ![0, 0] S256x512.size inb_S256x512_S256x512_0_0).toLoadRect (σ cc0_stg4_0)
/-- The rotated queries. -/
def qOf (σ : Bufs F) (c : Dev nD) : FVec F S256x256 .f32 :=
  k0_pay18 (k0_pay2 (rdX σ) (rdQ σ)) colI (posF c) (k0_pay10 colI) (k0_pay11 colI) (k0_pay12 colI) k0_pay13

/-- The result buffer after the last store. -/
def putOut (o : Out F) (w : FVec F S2x128x512 .f32) : Out F :=
  outWrite (a5.access (Rect.unit (s := S2x128x512) ![0, 0, 0] S2x128x512.size inb_S2x128x512_S2x128x512_0_0_0)) w Finset.univ o

variable (σ : Bufs F) (c : Dev nD)

/-- Parts 1 to 60: the exchange, and the first part of the heads. -/
theorem ret119 : Ret σ c (k0_part119 a0 (Memref.isWhole_whole _) a1 (Memref.isWhole_whole _) a2 (Memref.isWhole_whole _) a3 (Memref.isWhole_whole _) a4 (Memref.isWhole_whole _) a5 (Memref.isWhole_whole _) kvM (Memref.isWhole_whole _) sgM (Memref.isWhole_whole _) cc0_scratch2 cc0_scratch3 cc0_scratch4 cc0_scratch5)
    ⟨(meWord c), headQ (qOf σ c) 0 0, headQ (qOf σ c) 0 1, headQ (qOf σ c) 0 2, headQ (qOf σ c) 0 3, headQ (qOf σ c) 1 0, headQ (qOf σ c) 1 1, headQ (qOf σ c) 1 2, headQ (qOf σ c) 1 3, (hst σ (qOf σ c) 0 3 1).m, (hst σ (qOf σ c) 0 3 1).l, (hst σ (qOf σ c) 0 3 1).a, (hst σ (qOf σ c) 1 0 1).m, (hst σ (qOf σ c) 1 0 1).l, (hst σ (qOf σ c) 1 0 1).a, (hst σ (qOf σ c) 1 1 1).m, (hst σ (qOf σ c) 1 1 1).l, (hst σ (qOf σ c) 1 1 1).a, (hst σ (qOf σ c) 1 2 1).m, (hst σ (qOf σ c) 1 2 1).l, (hst σ (qOf σ c) 1 2 1).a, (hst σ (qOf σ c) 1 3 1).m, (hst σ (qOf σ c) 1 3 1).l, (hst σ (qOf σ c) 1 3 1).a, scaleK σ (slotAt 1 0), scaleK σ (slotAt 1 1), scaleK σ (slotAt 1 2), scaleK σ (slotAt 1 3), scaleK σ (slotAt 1 4), scaleK σ (slotAt 1 5), scaleK σ (slotAt 1 6), scaleK σ (slotAt 1 7), scaleV σ (slotAt 1 0), scaleV σ (slotAt 1 1), scaleV σ (slotAt 1 2), scaleV σ (slotAt 1 3), scaleV σ (slotAt 1 4), scaleV σ (slotAt 1 5), scaleV σ (slotAt 1 6), scaleV σ (slotAt 1 7), (hst σ (qOf σ c) 0 0 2).m, (hst σ (qOf σ c) 0 0 2).l, (hst σ (qOf σ c) 0 0 2).a, (hst σ (qOf σ c) 0 1 2).m, (hst σ (qOf σ c) 0 1 2).l, (hst σ (qOf σ c) 0 1 2).a, (hst σ (qOf σ c) 0 2 2).m, (hst σ (qOf σ c) 0 2 2).l, (hst σ (qOf σ c) 0 2 2).a, valsF σ 0 3 1, blk0 (fun j => scaleK σ (slotAt 1 j)) (raw σ (qOf σ c) 0 3 1), blk1 (fun j => scaleK σ (slotAt 1 j)) (raw σ (qOf σ c) 0 3 1), blk2 (fun j => scaleK σ (slotAt 1 j)) (raw σ (qOf σ c) 0 3 1), blk3 (fun j => scaleK σ (slotAt 1 j)) (raw σ (qOf σ c) 0 3 1), blk4 (fun j => scaleK σ (slotAt 1 j)) (raw σ (qOf σ c) 0 3 1), blk5 (fun j => scaleK σ (slotAt 1 j)) (raw σ (qOf σ c) 0 3 1), blk6 (fun j => scaleK σ (slotAt 1 j)) (raw σ (qOf σ c) 0 3 1), blk7 (fun j => scaleK σ (slotAt 1 j)) (raw σ (qOf σ c) 0 3 1)⟩ (fun o => o) := by
  rw [k0_part119_eq_skeleton]
  unfold k0_part119_skel
  refine Ret.seq (fun _ _ => rfl) ?_ -- 1
  refine Ret.seq (fun _ _ => rfl) ?_ -- 2
  refine Ret.seq (fun _ _ => rfl) ?_ -- 3
  refine Ret.seq (fun _ _ => rfl) ?_ -- 4
  refine Ret.seq (fun _ _ => rfl) ?_ -- 5
  refine Ret.seq (fun _ _ => rfl) ?_ -- 6
  refine Ret.seq (fun _ _ => rfl) ?_ -- 7
  refine Ret.seq (a := ⟨_, _, _, qOf σ c, _, _, _⟩)
    (fun _ _ => rfl) ?_ -- 8
  refine Ret.seq (fun _ _ => rfl) ?_ -- 9
  refine Ret.seq (fun _ _ => rfl) ?_ -- 10
  refine Ret.seq (fun _ _ => rfl) ?_ -- 11
  refine Ret.seq (fun _ _ => rfl) ?_ -- 12
  refine Ret.seq (fun _ _ => rfl) ?_ -- 13
  refine Ret.seq (fun _ _ => rfl) ?_ -- 14
  refine Ret.seq (fun _ _ => rfl) ?_ -- 15
  refine Ret.seq (fun _ _ => rfl) ?_ -- 16
  refine Ret.seq (fun _ _ => rfl) ?_ -- 17
  refine Ret.seq (fun _ _ => rfl) ?_ -- 18
  refine Ret.seq (fun _ _ => rfl) ?_ -- 19
  refine Ret.seq (fun _ _ => rfl) ?_ -- 20
  refine Ret.seq (fun _ _ => rfl) ?_ -- 21
  refine Ret.seq (fun _ _ => rfl) ?_ -- 22
  refine Ret.seq (fun _ _ => rfl) ?_ -- 23
  refine Ret.seq (fun _ _ => rfl) ?_ -- 24
  refine Ret.seq (fun _ _ => rfl) ?_ -- 25
  refine Ret.seq (fun _ _ => rfl) ?_ -- 26
  refine Ret.seq (fun _ _ => rfl) ?_ -- 27
  refine Ret.seq (fun _ _ => rfl) ?_ -- 28
  refine Ret.seq (fun _ _ => rfl) ?_ -- 29
  refine Ret.seq (fun _ _ => rfl) ?_ -- 30
  refine Ret.seq (fun _ _ => rfl) ?_ -- 31
  refine Ret.seq (a := ⟨headQ (qOf σ c) 0 0, headQ (qOf σ c) 0 1, headQ (qOf σ c) 0 2, headQ (qOf σ c) 0 3, headQ (qOf σ c) 1 0, headQ (qOf σ c) 1 1, headQ (qOf σ c) 1 2, headQ (qOf σ c) 1 3, (hst σ (qOf σ c) 0 0 0).m⟩)
    (fun _ _ => rfl) ?_ -- 32
  refine Ret.seq (a := ⟨(hst σ (qOf σ c) 0 0 0).l, (hst σ (qOf σ c) 0 0 0).a, (hst σ (qOf σ c) 0 1 0).m, (hst σ (qOf σ c) 0 1 0).l, (hst σ (qOf σ c) 0 1 0).a, (hst σ (qOf σ c) 0 2 0).m, (hst σ (qOf σ c) 0 2 0).l, (hst σ (qOf σ c) 0 2 0).a, (hst σ (qOf σ c) 0 3 0).m, (hst σ (qOf σ c) 0 3 0).l, (hst σ (qOf σ c) 0 3 0).a, (hst σ (qOf σ c) 1 0 0).m, (hst σ (qOf σ c) 1 0 0).l, (hst σ (qOf σ c) 1 0 0).a, (hst σ (qOf σ c) 1 1 0).m, (hst σ (qOf σ c) 1 1 0).l, (hst σ (qOf σ c) 1 1 0).a, (hst σ (qOf σ c) 1 2 0).m, (hst σ (qOf σ c) 1 2 0).l, (hst σ (qOf σ c) 1 2 0).a, (hst σ (qOf σ c) 1 3 0).m, (hst σ (qOf σ c) 1 3 0).l, (hst σ (qOf σ c) 1 3 0).a⟩)
    (fun _ _ => rfl) ?_ -- 33
  refine Ret.seq (fun _ _ => rfl) ?_ -- 34
  refine Ret.seq (fun _ _ => rfl) ?_ -- 35
  refine Ret.seq (fun _ _ => rfl) ?_ -- 36
  refine Ret.seq (a := ⟨scaleK σ (slotAt 0 0), scaleK σ (slotAt 0 1), scaleK σ (slotAt 0 2), scaleK σ (slotAt 0 3), scaleK σ (slotAt 0 4)⟩)
    (fun _ _ => rfl) ?_ -- 37
  refine Ret.seq (a := ⟨scaleK σ (slotAt 0 5), scaleK σ (slotAt 0 6), scaleK σ (slotAt 0 7), scaleV σ (slotAt 0 0), scaleV σ (slotAt 0 1), scaleV σ (slotAt 0 2), scaleV σ (slotAt 0 3), scaleV σ (slotAt 0 4), scaleV σ (slotAt 0 5), scaleV σ (slotAt 0 6)⟩)
    (fun _ _ => rfl) ?_ -- 38
  refine Ret.seq (a := ⟨scaleV σ (slotAt 0 7), valsF σ 0 0 0, (hst σ (qOf σ c) 0 0 1).m, dec σ (qOf σ c) 0 0 0, wts σ (qOf σ c) 0 0 0, (hst σ (qOf σ c) 0 0 1).l, extractStridedSlice S128x128 ![0, 0] (wts σ (qOf σ c) 0 0 0) slices_S128x1024_o0_0_S128x128⟩)
    (fun _ _ => rfl) ?_ -- 39
  refine Ret.seq (a := ⟨(hst σ (qOf σ c) 0 0 1).a, valsF σ 0 1 0, raw σ (qOf σ c) 0 1 0, blk0 (fun j => scaleK σ (slotAt 0 j)) (raw σ (qOf σ c) 0 1 0), blk1 (fun j => scaleK σ (slotAt 0 j)) (raw σ (qOf σ c) 0 1 0), blk2 (fun j => scaleK σ (slotAt 0 j)) (raw σ (qOf σ c) 0 1 0), blk3 (fun j => scaleK σ (slotAt 0 j)) (raw σ (qOf σ c) 0 1 0), blk4 (fun j => scaleK σ (slotAt 0 j)) (raw σ (qOf σ c) 0 1 0), extractStridedSlice S128x128 ![0, 640] (raw σ (qOf σ c) 0 1 0) slices_S128x1024_o0_640_S128x128⟩)
    (fun _ _ => rfl) ?_ -- 40
  refine Ret.seq (a := ⟨(hst σ (qOf σ c) 0 1 1).m, (hst σ (qOf σ c) 0 1 1).l, (hst σ (qOf σ c) 0 1 1).a, keysF σ 0 2 0⟩)
    (fun _ _ => rfl) ?_ -- 41
  refine Ret.seq (a := ⟨valsF σ 0 2 0, (hst σ (qOf σ c) 0 2 1).m, dec σ (qOf σ c) 0 2 0, wts σ (qOf σ c) 0 2 0, (hst σ (qOf σ c) 0 2 1).l, blk0 (fun j => scaleV σ (slotAt 0 j)) (wts σ (qOf σ c) 0 2 0), blk1 (fun j => scaleV σ (slotAt 0 j)) (wts σ (qOf σ c) 0 2 0), blk2 (fun j => scaleV σ (slotAt 0 j)) (wts σ (qOf σ c) 0 2 0), blk3 (fun j => scaleV σ (slotAt 0 j)) (wts σ (qOf σ c) 0 2 0), extractStridedSlice S128x128 ![0, 512] (wts σ (qOf σ c) 0 2 0) slices_S128x1024_o0_512_S128x128⟩)
    (fun _ _ => rfl) ?_ -- 42
  refine Ret.seq (a := ⟨(hst σ (qOf σ c) 0 2 1).a, valsF σ 0 3 0, scores σ (qOf σ c) 0 3 0, _⟩)
    (fun _ _ => rfl) ?_ -- 43
  refine Ret.seq (a := ⟨(hst σ (qOf σ c) 0 3 1).m, (hst σ (qOf σ c) 0 3 1).l, (hst σ (qOf σ c) 0 3 1).a, valsF σ 1 0 0, raw σ (qOf σ c) 1 0 0, blk0 (fun j => scaleK σ (slotAt 0 j)) (raw σ (qOf σ c) 1 0 0), extractStridedSlice S128x128 ![0, 128] (raw σ (qOf σ c) 1 0 0) slices_S128x1024_o0_128_S128x128⟩)
    (fun _ _ => rfl) ?_ -- 44
  refine Ret.seq (a := ⟨(hst σ (qOf σ c) 1 0 1).m, dec σ (qOf σ c) 1 0 0, (hst σ (qOf σ c) 1 0 1).l, scaled (fun j => scaleV σ (slotAt 0 j)) (wts σ (qOf σ c) 1 0 0)⟩)
    (fun _ _ => rfl) ?_ -- 45
  refine Ret.seq (a := ⟨(hst σ (qOf σ c) 1 0 1).a, valsF σ 1 1 0, (hst σ (qOf σ c) 1 1 1).m, dec σ (qOf σ c) 1 1 0, wts σ (qOf σ c) 1 1 0, (hst σ (qOf σ c) 1 1 1).l, extractStridedSlice S128x128 ![0, 0] (wts σ (qOf σ c) 1 1 0) slices_S128x1024_o0_0_S128x128⟩)
    (fun _ _ => rfl) ?_ -- 46
  refine Ret.seq (a := ⟨(hst σ (qOf σ c) 1 1 1).a, valsF σ 1 2 0, raw σ (qOf σ c) 1 2 0, blk0 (fun j => scaleK σ (slotAt 0 j)) (raw σ (qOf σ c) 1 2 0), blk1 (fun j => scaleK σ (slotAt 0 j)) (raw σ (qOf σ c) 1 2 0), blk2 (fun j => scaleK σ (slotAt 0 j)) (raw σ (qOf σ c) 1 2 0), blk3 (fun j => scaleK σ (slotAt 0 j)) (raw σ (qOf σ c) 1 2 0), blk4 (fun j => scaleK σ (slotAt 0 j)) (raw σ (qOf σ c) 1 2 0), extractStridedSlice S128x128 ![0, 640] (raw σ (qOf σ c) 1 2 0) slices_S128x1024_o0_640_S128x128⟩)
    (fun _ _ => rfl) ?_ -- 47
  refine Ret.seq (a := ⟨(hst σ (qOf σ c) 1 2 1).m, (hst σ (qOf σ c) 1 2 1).l, (hst σ (qOf σ c) 1 2 1).a, keysF σ 1 3 0⟩)
    (fun _ _ => rfl) ?_ -- 48
  refine Ret.seq (a := ⟨valsF σ 1 3 0, (hst σ (qOf σ c) 1 3 1).m, dec σ (qOf σ c) 1 3 0, wts σ (qOf σ c) 1 3 0, (hst σ (qOf σ c) 1 3 1).l, blk0 (fun j => scaleV σ (slotAt 0 j)) (wts σ (qOf σ c) 1 3 0), blk1 (fun j => scaleV σ (slotAt 0 j)) (wts σ (qOf σ c) 1 3 0), blk2 (fun j => scaleV σ (slotAt 0 j)) (wts σ (qOf σ c) 1 3 0), blk3 (fun j => scaleV σ (slotAt 0 j)) (wts σ (qOf σ c) 1 3 0), extractStridedSlice S128x128 ![0, 512] (wts σ (qOf σ c) 1 3 0) slices_S128x1024_o0_512_S128x128⟩)
    (fun _ _ => rfl) ?_ -- 49
  refine Ret.seq (a := (hst σ (qOf σ c) 1 3 1).a)
    (fun _ _ => rfl) ?_ -- 50
  refine Ret.seq (fun _ _ => rfl) ?_ -- 51
  refine Ret.seq (fun _ _ => rfl) ?_ -- 52
  refine Ret.seq (fun _ _ => rfl) ?_ -- 53
  refine Ret.seq (a := ⟨scaleK σ (slotAt 1 0), scaleK σ (slotAt 1 1), scaleK σ (slotAt 1 2), scaleK σ (slotAt 1 3)⟩)
    (fun _ _ => rfl) ?_ -- 54
  refine Ret.seq (a := ⟨scaleK σ (slotAt 1 4), scaleK σ (slotAt 1 5), scaleK σ (slotAt 1 6), scaleK σ (slotAt 1 7), scaleV σ (slotAt 1 0), scaleV σ (slotAt 1 1), scaleV σ (slotAt 1 2), scaleV σ (slotAt 1 3), scaleV σ (slotAt 1 4), scaleV σ (slotAt 1 5)⟩)
    (fun _ _ => rfl) ?_ -- 55
  refine Ret.seq (a := ⟨scaleV σ (slotAt 1 6), scaleV σ (slotAt 1 7), valsF σ 0 0 1, (hst σ (qOf σ c) 0 0 2).m, dec σ (qOf σ c) 0 0 1, wts σ (qOf σ c) 0 0 1, _⟩)
    (fun _ _ => rfl) ?_ -- 56
  refine Ret.seq (a := ⟨(hst σ (qOf σ c) 0 0 2).l, (hst σ (qOf σ c) 0 0 2).a, valsF σ 0 1 1, raw σ (qOf σ c) 0 1 1, blk0 (fun j => scaleK σ (slotAt 1 j)) (raw σ (qOf σ c) 0 1 1), blk1 (fun j => scaleK σ (slotAt 1 j)) (raw σ (qOf σ c) 0 1 1), blk2 (fun j => scaleK σ (slotAt 1 j)) (raw σ (qOf σ c) 0 1 1), blk3 (fun j => scaleK σ (slotAt 1 j)) (raw σ (qOf σ c) 0 1 1)⟩)
    (fun _ _ => rfl) ?_ -- 57
  refine Ret.seq (a := ⟨(hst σ (qOf σ c) 0 1 2).m, (hst σ (qOf σ c) 0 1 2).l, (hst σ (qOf σ c) 0 1 2).a⟩)
    (fun _ _ => rfl) ?_ -- 58
  refine Ret.seq (a := ⟨valsF σ 0 2 1, (hst σ (qOf σ c) 0 2 2).m, dec σ (qOf σ c) 0 2 1, wts σ (qOf σ c) 0 2 1, (hst σ (qOf σ c) 0 2 2).l, blk0 (fun j => scaleV σ (slotAt 1 j)) (wts σ (qOf σ c) 0 2 1), blk1 (fun j => scaleV σ (slotAt 1 j)) (wts σ (qOf σ c) 0 2 1), blk2 (fun j => scaleV σ (slotAt 1 j)) (wts σ (qOf σ c) 0 2 1)⟩)
    (fun _ _ => rfl) ?_ -- 59
  refine Ret.seq (a := ⟨(hst σ (qOf σ c) 0 2 2).a, valsF σ 0 3 1, blk0 (fun j => scaleK σ (slotAt 1 j)) (raw σ (qOf σ c) 0 3 1), blk1 (fun j => scaleK σ (slotAt 1 j)) (raw σ (qOf σ c) 0 3 1), blk2 (fun j => scaleK σ (slotAt 1 j)) (raw σ (qOf σ c) 0 3 1), blk3 (fun j => scaleK σ (slotAt 1 j)) (raw σ (qOf σ c) 0 3 1), blk4 (fun j => scaleK σ (slotAt 1 j)) (raw σ (qOf σ c) 0 3 1), blk5 (fun j => scaleK σ (slotAt 1 j)) (raw σ (qOf σ c) 0 3 1), blk6 (fun j => scaleK σ (slotAt 1 j)) (raw σ (qOf σ c) 0 3 1), blk7 (fun j => scaleK σ (slotAt 1 j)) (raw σ (qOf σ c) 0 3 1)⟩)
    (fun _ _ => rfl) ?_ -- 60
  exact fun _ _ => rfl

/-- Parts 61 to 118: the rest of the heads and the store of the result. -/
theorem ret120 : Ret σ c (k0_part120 a0 (Memref.isWhole_whole _) a1 (Memref.isWhole_whole _) a2 (Memref.isWhole_whole _) a3 (Memref.isWhole_whole _) a4 (Memref.isWhole_whole _) a5 (Memref.isWhole_whole _) kvM (Memref.isWhole_whole _) sgM (Memref.isWhole_whole _) cc0_scratch2 cc0_scratch3 cc0_scratch4 cc0_scratch5
    (meWord c) (headQ (qOf σ c) 0 0) (headQ (qOf σ c) 0 1) (headQ (qOf σ c) 0 2) (headQ (qOf σ c) 0 3) (headQ (qOf σ c) 1 0) (headQ (qOf σ c) 1 1) (headQ (qOf σ c) 1 2) (headQ (qOf σ c) 1 3) ((hst σ (qOf σ c) 0 3 1).m) ((hst σ (qOf σ c) 0 3 1).l) ((hst σ (qOf σ c) 0 3 1).a) ((hst σ (qOf σ c) 1 0 1).m) ((hst σ (qOf σ c) 1 0 1).l) ((hst σ (qOf σ c) 1 0 1).a) ((hst σ (qOf σ c) 1 1 1).m) ((hst σ (qOf σ c) 1 1 1).l) ((hst σ (qOf σ c) 1 1 1).a) ((hst σ (qOf σ c) 1 2 1).m) ((hst σ (qOf σ c) 1 2 1).l) ((hst σ (qOf σ c) 1 2 1).a) ((hst σ (qOf σ c) 1 3 1).m) ((hst σ (qOf σ c) 1 3 1).l) ((hst σ (qOf σ c) 1 3 1).a) (scaleK σ (slotAt 1 0)) (scaleK σ (slotAt 1 1)) (scaleK σ (slotAt 1 2)) (scaleK σ (slotAt 1 3)) (scaleK σ (slotAt 1 4)) (scaleK σ (slotAt 1 5)) (scaleK σ (slotAt 1 6)) (scaleK σ (slotAt 1 7)) (scaleV σ (slotAt 1 0)) (scaleV σ (slotAt 1 1)) (scaleV σ (slotAt 1 2)) (scaleV σ (slotAt 1 3)) (scaleV σ (slotAt 1 4)) (scaleV σ (slotAt 1 5)) (scaleV σ (slotAt 1 6)) (scaleV σ (slotAt 1 7)) ((hst σ (qOf σ c) 0 0 2).m) ((hst σ (qOf σ c) 0 0 2).l) ((hst σ (qOf σ c) 0 0 2).a) ((hst σ (qOf σ c) 0 1 2).m) ((hst σ (qOf σ c) 0 1 2).l) ((hst σ (qOf σ c) 0 1 2).a) ((hst σ (qOf σ c) 0 2 2).m) ((hst σ (qOf σ c) 0 2 2).l) ((hst σ (qOf σ c) 0 2 2).a) (valsF σ 0 3 1) (blk0 (fun j => scaleK σ (slotAt 1 j)) (raw σ (qOf σ c) 0 3 1)) (blk1 (fun j => scaleK σ (slotAt 1 j)) (raw σ (qOf σ c) 0 3 1)) (blk2 (fun j => scaleK σ (slotAt 1 j)) (raw σ (qOf σ c) 0 3 1)) (blk3 (fun j => scaleK σ (slotAt 1 j)) (raw σ (qOf σ c) 0 3 1)) (blk4 (fun j => scaleK σ (slotAt 1 j)) (raw σ (qOf σ c) 0 3 1)) (blk5 (fun j => scaleK σ (slotAt 1 j)) (raw σ (qOf σ c) 0 3 1)) (blk6 (fun j => scaleK σ (slotAt 1 j)) (raw σ (qOf σ c) 0 3 1)) (blk7 (fun j => scaleK σ (slotAt 1 j)) (raw σ (qOf σ c) 0 3 1)))
    31#32 (fun o => putOut o (finalOut (fun b h => hst σ (qOf σ c) b h 4) (rdO σ))) := by
  rw [k0_part120_eq_skeleton]
  unfold k0_part120_skel
  refine Ret.seq (a := ⟨(hst σ (qOf σ c) 0 3 2).m, (hst σ (qOf σ c) 0 3 2).l, (hst σ (qOf σ c) 0 3 2).a, valsF σ 1 0 1, raw σ (qOf σ c) 1 0 1⟩)
    (fun _ _ => rfl) ?_ -- 61
  refine Ret.seq (a := ⟨(hst σ (qOf σ c) 1 0 2).m, dec σ (qOf σ c) 1 0 1, wts σ (qOf σ c) 1 0 1, (hst σ (qOf σ c) 1 0 2).l, blk0 (fun j => scaleV σ (slotAt 1 j)) (wts σ (qOf σ c) 1 0 1), blk1 (fun j => scaleV σ (slotAt 1 j)) (wts σ (qOf σ c) 1 0 1), blk2 (fun j => scaleV σ (slotAt 1 j)) (wts σ (qOf σ c) 1 0 1), blk3 (fun j => scaleV σ (slotAt 1 j)) (wts σ (qOf σ c) 1 0 1), blk4 (fun j => scaleV σ (slotAt 1 j)) (wts σ (qOf σ c) 1 0 1), blk5 (fun j => scaleV σ (slotAt 1 j)) (wts σ (qOf σ c) 1 0 1), blk6 (fun j => scaleV σ (slotAt 1 j)) (wts σ (qOf σ c) 1 0 1)⟩)
    (fun _ _ => rfl) ?_ -- 62
  refine Ret.seq (a := ⟨(hst σ (qOf σ c) 1 0 2).a, valsF σ 1 1 1, (hst σ (qOf σ c) 1 1 2).m, dec σ (qOf σ c) 1 1 1, wts σ (qOf σ c) 1 1 1, _⟩)
    (fun _ _ => rfl) ?_ -- 63
  refine Ret.seq (a := ⟨(hst σ (qOf σ c) 1 1 2).l, (hst σ (qOf σ c) 1 1 2).a, valsF σ 1 2 1, raw σ (qOf σ c) 1 2 1, blk0 (fun j => scaleK σ (slotAt 1 j)) (raw σ (qOf σ c) 1 2 1), blk1 (fun j => scaleK σ (slotAt 1 j)) (raw σ (qOf σ c) 1 2 1), blk2 (fun j => scaleK σ (slotAt 1 j)) (raw σ (qOf σ c) 1 2 1), blk3 (fun j => scaleK σ (slotAt 1 j)) (raw σ (qOf σ c) 1 2 1)⟩)
    (fun _ _ => rfl) ?_ -- 64
  refine Ret.seq (a := ⟨(hst σ (qOf σ c) 1 2 2).m, (hst σ (qOf σ c) 1 2 2).l, (hst σ (qOf σ c) 1 2 2).a⟩)
    (fun _ _ => rfl) ?_ -- 65
  refine Ret.seq (a := ⟨valsF σ 1 3 1, (hst σ (qOf σ c) 1 3 2).m, dec σ (qOf σ c) 1 3 1, wts σ (qOf σ c) 1 3 1, (hst σ (qOf σ c) 1 3 2).l, blk0 (fun j => scaleV σ (slotAt 1 j)) (wts σ (qOf σ c) 1 3 1), blk1 (fun j => scaleV σ (slotAt 1 j)) (wts σ (qOf σ c) 1 3 1), blk2 (fun j => scaleV σ (slotAt 1 j)) (wts σ (qOf σ c) 1 3 1)⟩)
    (fun _ _ => rfl) ?_ -- 66
  refine Ret.seq (a := (hst σ (qOf σ c) 1 3 2).a)
    (fun _ _ => rfl) ?_ -- 67
  refine Ret.seq (fun _ _ => rfl) ?_ -- 68
  refine Ret.seq (fun _ _ => rfl) ?_ -- 69
  refine Ret.seq (fun _ _ => rfl) ?_ -- 70
  refine Ret.seq (a := ⟨scaleK σ (slotAt 2 0), scaleK σ (slotAt 2 1), scaleK σ (slotAt 2 2), _⟩)
    (fun _ _ => rfl) ?_ -- 71
  refine Ret.seq (a := ⟨scaleK σ (slotAt 2 3), scaleK σ (slotAt 2 4), scaleK σ (slotAt 2 5), scaleK σ (slotAt 2 6), scaleK σ (slotAt 2 7), scaleV σ (slotAt 2 0), scaleV σ (slotAt 2 1), scaleV σ (slotAt 2 2), scaleV σ (slotAt 2 3), scaleV σ (slotAt 2 4), _⟩)
    (fun _ _ => rfl) ?_ -- 72
  refine Ret.seq (a := ⟨scaleV σ (slotAt 2 5), scaleV σ (slotAt 2 6), scaleV σ (slotAt 2 7), valsF σ 0 0 2, scores σ (qOf σ c) 0 0 2, (hst σ (qOf σ c) 0 0 3).m, dec σ (qOf σ c) 0 0 2, _⟩)
    (fun _ _ => rfl) ?_ -- 73
  refine Ret.seq (a := ⟨(hst σ (qOf σ c) 0 0 3).l, (hst σ (qOf σ c) 0 0 3).a, valsF σ 0 1 2, raw σ (qOf σ c) 0 1 2, blk0 (fun j => scaleK σ (slotAt 2 j)) (raw σ (qOf σ c) 0 1 2), blk1 (fun j => scaleK σ (slotAt 2 j)) (raw σ (qOf σ c) 0 1 2), extractStridedSlice S128x128 ![0, 256] (raw σ (qOf σ c) 0 1 2) slices_S128x1024_o0_256_S128x128, _⟩)
    (fun _ _ => rfl) ?_ -- 74
  refine Ret.seq (a := ⟨(hst σ (qOf σ c) 0 1 3).m, (hst σ (qOf σ c) 0 1 3).l, _, _, _⟩)
    (fun _ _ => rfl) ?_ -- 75
  refine Ret.seq (a := ⟨(hst σ (qOf σ c) 0 1 3).a, valsF σ 0 2 2, (hst σ (qOf σ c) 0 2 3).m, dec σ (qOf σ c) 0 2 2, wts σ (qOf σ c) 0 2 2, (hst σ (qOf σ c) 0 2 3).l, blk0 (fun j => scaleV σ (slotAt 2 j)) (wts σ (qOf σ c) 0 2 2), extractStridedSlice S128x128 ![0, 128] (wts σ (qOf σ c) 0 2 2) slices_S128x1024_o0_128_S128x128, _⟩)
    (fun _ _ => rfl) ?_ -- 76
  refine Ret.seq (a := ⟨(hst σ (qOf σ c) 0 2 3).a, valsF σ 0 3 2, raw σ (qOf σ c) 0 3 2, blk0 (fun j => scaleK σ (slotAt 2 j)) (raw σ (qOf σ c) 0 3 2), blk1 (fun j => scaleK σ (slotAt 2 j)) (raw σ (qOf σ c) 0 3 2), blk2 (fun j => scaleK σ (slotAt 2 j)) (raw σ (qOf σ c) 0 3 2), blk3 (fun j => scaleK σ (slotAt 2 j)) (raw σ (qOf σ c) 0 3 2), blk4 (fun j => scaleK σ (slotAt 2 j)) (raw σ (qOf σ c) 0 3 2), blk5 (fun j => scaleK σ (slotAt 2 j)) (raw σ (qOf σ c) 0 3 2), extractStridedSlice S128x128 ![0, 768] (raw σ (qOf σ c) 0 3 2) slices_S128x1024_o0_768_S128x128, _⟩)
    (fun _ _ => rfl) ?_ -- 77
  refine Ret.seq (a := ⟨(hst σ (qOf σ c) 0 3 3).m, (hst σ (qOf σ c) 0 3 3).l, (hst σ (qOf σ c) 0 3 3).a, keysF σ 1 0 2, _⟩)
    (fun _ _ => rfl) ?_ -- 78
  refine Ret.seq (a := ⟨valsF σ 1 0 2, (hst σ (qOf σ c) 1 0 3).m, dec σ (qOf σ c) 1 0 2, wts σ (qOf σ c) 1 0 2, (hst σ (qOf σ c) 1 0 3).l, blk0 (fun j => scaleV σ (slotAt 2 j)) (wts σ (qOf σ c) 1 0 2), blk1 (fun j => scaleV σ (slotAt 2 j)) (wts σ (qOf σ c) 1 0 2), blk2 (fun j => scaleV σ (slotAt 2 j)) (wts σ (qOf σ c) 1 0 2), blk3 (fun j => scaleV σ (slotAt 2 j)) (wts σ (qOf σ c) 1 0 2), blk4 (fun j => scaleV σ (slotAt 2 j)) (wts σ (qOf σ c) 1 0 2), extractStridedSlice S128x128 ![0, 640] (wts σ (qOf σ c) 1 0 2) slices_S128x1024_o0_640_S128x128, _⟩)
    (fun _ _ => rfl) ?_ -- 79
  refine Ret.seq (a := ⟨(hst σ (qOf σ c) 1 0 3).a, valsF σ 1 1 2, scores σ (qOf σ c) 1 1 2, (hst σ (qOf σ c) 1 1 3).m, dec σ (qOf σ c) 1 1 2, _⟩)
    (fun _ _ => rfl) ?_ -- 80
  refine Ret.seq (a := ⟨(hst σ (qOf σ c) 1 1 3).l, (hst σ (qOf σ c) 1 1 3).a, valsF σ 1 2 2, raw σ (qOf σ c) 1 2 2, blk0 (fun j => scaleK σ (slotAt 2 j)) (raw σ (qOf σ c) 1 2 2), blk1 (fun j => scaleK σ (slotAt 2 j)) (raw σ (qOf σ c) 1 2 2), extractStridedSlice S128x128 ![0, 256] (raw σ (qOf σ c) 1 2 2) slices_S128x1024_o0_256_S128x128, _⟩)
    (fun _ _ => rfl) ?_ -- 81
  refine Ret.seq (a := ⟨(hst σ (qOf σ c) 1 2 3).m, (hst σ (qOf σ c) 1 2 3).l, _, _, _⟩)
    (fun _ _ => rfl) ?_ -- 82
  refine Ret.seq (a := ⟨(hst σ (qOf σ c) 1 2 3).a, valsF σ 1 3 2, (hst σ (qOf σ c) 1 3 3).m, dec σ (qOf σ c) 1 3 2, wts σ (qOf σ c) 1 3 2, (hst σ (qOf σ c) 1 3 3).l, blk0 (fun j => scaleV σ (slotAt 2 j)) (wts σ (qOf σ c) 1 3 2), extractStridedSlice S128x128 ![0, 128] (wts σ (qOf σ c) 1 3 2) slices_S128x1024_o0_128_S128x128, _⟩)
    (fun _ _ => rfl) ?_ -- 83
  refine Ret.seq (a := (hst σ (qOf σ c) 1 3 3).a)
    (fun _ _ => rfl) ?_ -- 84
  refine Ret.seq (fun _ _ => rfl) ?_ -- 85
  refine Ret.seq (fun _ _ => rfl) ?_ -- 86
  refine Ret.seq (fun _ _ => rfl) ?_ -- 87
  refine Ret.seq (a := ⟨scaleK σ (slotAt 3 0), scaleK σ (slotAt 3 1), scaleK σ (slotAt 3 2)⟩)
    (fun _ _ => rfl) ?_ -- 88
  refine Ret.seq (a := ⟨scaleK σ (slotAt 3 3), scaleK σ (slotAt 3 4), scaleK σ (slotAt 3 5), scaleK σ (slotAt 3 6), scaleK σ (slotAt 3 7), scaleV σ (slotAt 3 0), scaleV σ (slotAt 3 1), scaleV σ (slotAt 3 2), scaleV σ (slotAt 3 3), scaleV σ (slotAt 3 4)⟩)
    (fun _ _ => rfl) ?_ -- 89
  refine Ret.seq (a := ⟨scaleV σ (slotAt 3 5), scaleV σ (slotAt 3 6), scaleV σ (slotAt 3 7), valsF σ 0 0 3, scores σ (qOf σ c) 0 0 3, _⟩)
    (fun _ _ => rfl) ?_ -- 90
  refine Ret.seq (a := ⟨(hst σ (qOf σ c) 0 0 4).l, (hst σ (qOf σ c) 0 0 4).a, valsF σ 0 1 3, raw σ (qOf σ c) 0 1 3, blk0 (fun j => scaleK σ (slotAt 3 j)) (raw σ (qOf σ c) 0 1 3), extractStridedSlice S128x128 ![0, 128] (raw σ (qOf σ c) 0 1 3) slices_S128x1024_o0_128_S128x128⟩)
    (fun _ _ => rfl) ?_ -- 91
  refine Ret.seq (a := ⟨dec σ (qOf σ c) 0 1 3, (hst σ (qOf σ c) 0 1 4).l, scaled (fun j => scaleV σ (slotAt 3 j)) (wts σ (qOf σ c) 0 1 3)⟩)
    (fun _ _ => rfl) ?_ -- 92
  refine Ret.seq (a := ⟨(hst σ (qOf σ c) 0 1 4).a, valsF σ 0 2 3, dec σ (qOf σ c) 0 2 3, wts σ (qOf σ c) 0 2 3, (hst σ (qOf σ c) 0 2 4).l, extractStridedSlice S128x128 ![0, 0] (wts σ (qOf σ c) 0 2 3) slices_S128x1024_o0_0_S128x128⟩)
    (fun _ _ => rfl) ?_ -- 93
  refine Ret.seq (a := ⟨(hst σ (qOf σ c) 0 2 4).a, valsF σ 0 3 3, raw σ (qOf σ c) 0 3 3, blk0 (fun j => scaleK σ (slotAt 3 j)) (raw σ (qOf σ c) 0 3 3), blk1 (fun j => scaleK σ (slotAt 3 j)) (raw σ (qOf σ c) 0 3 3), blk2 (fun j => scaleK σ (slotAt 3 j)) (raw σ (qOf σ c) 0 3 3), blk3 (fun j => scaleK σ (slotAt 3 j)) (raw σ (qOf σ c) 0 3 3), blk4 (fun j => scaleK σ (slotAt 3 j)) (raw σ (qOf σ c) 0 3 3), extractStridedSlice S128x128 ![0, 640] (raw σ (qOf σ c) 0 3 3) slices_S128x1024_o0_640_S128x128⟩)
    (fun _ _ => rfl) ?_ -- 94
  refine Ret.seq (a := ⟨(hst σ (qOf σ c) 0 3 4).l, (hst σ (qOf σ c) 0 3 4).a, keysF σ 1 0 3⟩)
    (fun _ _ => rfl) ?_ -- 95
  refine Ret.seq (a := ⟨valsF σ 1 0 3, dec σ (qOf σ c) 1 0 3, wts σ (qOf σ c) 1 0 3, (hst σ (qOf σ c) 1 0 4).l, blk0 (fun j => scaleV σ (slotAt 3 j)) (wts σ (qOf σ c) 1 0 3), blk1 (fun j => scaleV σ (slotAt 3 j)) (wts σ (qOf σ c) 1 0 3), blk2 (fun j => scaleV σ (slotAt 3 j)) (wts σ (qOf σ c) 1 0 3), blk3 (fun j => scaleV σ (slotAt 3 j)) (wts σ (qOf σ c) 1 0 3), extractStridedSlice S128x128 ![0, 512] (wts σ (qOf σ c) 1 0 3) slices_S128x1024_o0_512_S128x128⟩)
    (fun _ _ => rfl) ?_ -- 96
  refine Ret.seq (a := ⟨(hst σ (qOf σ c) 1 0 4).a, valsF σ 1 1 3, scores σ (qOf σ c) 1 1 3, _⟩)
    (fun _ _ => rfl) ?_ -- 97
  refine Ret.seq (a := ⟨(hst σ (qOf σ c) 1 1 4).l, (hst σ (qOf σ c) 1 1 4).a, valsF σ 1 2 3, raw σ (qOf σ c) 1 2 3, blk0 (fun j => scaleK σ (slotAt 3 j)) (raw σ (qOf σ c) 1 2 3), extractStridedSlice S128x128 ![0, 128] (raw σ (qOf σ c) 1 2 3) slices_S128x1024_o0_128_S128x128⟩)
    (fun _ _ => rfl) ?_ -- 98
  refine Ret.seq (a := ⟨dec σ (qOf σ c) 1 2 3, (hst σ (qOf σ c) 1 2 4).l, scaled (fun j => scaleV σ (slotAt 3 j)) (wts σ (qOf σ c) 1 2 3)⟩)
    (fun _ _ => rfl) ?_ -- 99
  refine Ret.seq (a := ⟨(hst σ (qOf σ c) 1 2 4).a, valsF σ 1 3 3, dec σ (qOf σ c) 1 3 3, wts σ (qOf σ c) 1 3 3, (hst σ (qOf σ c) 1 3 4).l, extractStridedSlice S128x128 ![0, 0] (wts σ (qOf σ c) 1 3 3) slices_S128x1024_o0_0_S128x128⟩)
    (fun _ _ => rfl) ?_ -- 100
  refine Ret.seq (a := finalOut (fun b h => hst σ (qOf σ c) b h 4) (rdO σ))
    (fun _ _ => rfl) ?_ -- 101
  refine Ret.bind (a := PUnit.unit) (g := fun o => putOut o (finalOut (fun b h => hst σ (qOf σ c) b h 4) (rdO σ))) (g' := fun o => o) (fun _ _ => rfl) ?_ -- 102
  refine Ret.seq (fun _ _ => rfl) ?_ -- 103
  refine Ret.seq (fun _ _ => rfl) ?_ -- 104
  refine Ret.seq (fun _ _ => rfl) ?_ -- 105
  refine Ret.seq (fun _ _ => rfl) ?_ -- 106
  refine Ret.seq (fun _ _ => rfl) ?_ -- 107
  refine Ret.seq (fun _ _ => rfl) ?_ -- 108
  refine Ret.seq (fun _ _ => rfl) ?_ -- 109
  refine Ret.seq (fun _ _ => rfl) ?_ -- 110
  refine Ret.seq (fun _ _ => rfl) ?_ -- 111
  refine Ret.seq (fun _ _ => rfl) ?_ -- 112
  refine Ret.seq (fun _ _ => rfl) ?_ -- 113
  refine Ret.seq (fun _ _ => rfl) ?_ -- 114
  refine Ret.seq (fun _ _ => rfl) ?_ -- 115
  refine Ret.seq (fun _ _ => rfl) ?_ -- 116
  refine Ret.seq (fun _ _ => rfl) ?_ -- 117
  refine Ret.seq (fun _ _ => rfl) ?_ -- 118
  exact fun _ _ => rfl

end Cert.KernelIdeal.Attn

end
-- ==== Proof.Ideal.Outcome.lean ====
/-
What a device's body leaves in its result buffer: `finalOut` of the heads' final states.
-/
module

public import proofs.«01_k».proof.Proof.Ideal.Value

@[expose] public section

set_option maxRecDepth 8192

noncomputable section

namespace Cert.KernelIdeal.Attn

open Cert.KernelIdeal Cert.KernelIdeal.Gen

open Idealize.ShloMosaic
open Idealize.ShloMosaic.TcCoe
open Idealize.SL.Sem

variable {F : FTy → Type} [FloatOps F] [Named F]

theorem rdX_eq (m : (ℓ : Loc nD τ sig) → Buf (Elt F) ℓ) (c : Dev nD) : rdX (bufs m c) = stX m c := by
  unfold rdX
  rw [bufs_stg0]
  exact Memref.readAt_unit_zero (Elt F) cc0_stg0_0 zeros3 _ _
theorem rdQ_eq (m : (ℓ : Loc nD τ sig) → Buf (Elt F) ℓ) (c : Dev nD) : rdQ (bufs m c) = stQ m c := by
  unfold rdQ
  rw [bufs_stg1]
  exact Memref.readAt_unit_zero (Elt F) cc0_stg1_0 zeros2 _ _
theorem rdO_eq (m : (ℓ : Loc nD τ sig) → Buf (Elt F) ℓ) (c : Dev nD) : rdO (bufs m c) = stO m c := by
  unfold rdO
  rw [bufs_stg4]
  exact Memref.readAt_unit_zero (Elt F) cc0_stg4_0 zeros2 _ _

theorem body_ret (σ : Bufs F) (c : Dev nD) :
    Ret σ c (body (F := F)) PUnit.unit (fun o => putOut o (finalOut (fun b h => hst σ (qOf σ c) b h 4) (rdO σ))) := by
  unfold body
  rw [cc0_body_eq_skeleton]
  unfold cc0_body_skel
  refine Ret.seq (ret119 σ c) ?_
  refine Ret.bind (a := 31#32) (b := PUnit.unit) (g := fun o => putOut o (finalOut (fun b h => hst σ (qOf σ c) b h 4) (rdO σ))) (g' := fun o => o)
    (ret120 σ c) ?_
  exact fun _ _ => rfl

theorem outAt_eq (m : (ℓ : Loc nD τ sig) → Buf (Elt F) ℓ) (c : Dev nD) :
    outAt m c = finalOut (fun b h => hst (bufs m c) (ropedQ m c) b h 4) (stO m c) := by
  unfold outAt
  rw [body_ret, rdO_eq]
  unfold qOf
  rw [rdX_eq, rdQ_eq]
  exact outWrite_whole _ _

end Cert.KernelIdeal.Attn

end
-- ==== Proof.Consts.lean ====
/-
The literals of the two programs, as the reals they are.
-/
module

public import proofs.«01_k».proof.Proof.Gen.KernelIdeal
public import proofs.«01_k».proof.KernelIdeal
public import Idealize.ShloMosaic.Lib.Pointwise

@[expose] public section

noncomputable section

namespace Cert.Attn

open Idealize.ShloMosaic

theorem lit_neg_inf : Ideal.ofBits .f32 0xFF800000#32 = (⊥ : EReal) := by simp [Ideal.ofBits, Ideal.ieee]
theorem lit_127 : Ideal.ofBits .f32 0x42FE0000#32 = ((127 : ℝ) : EReal) := by
  simp [Ideal.ofBits, Ideal.ieee]; norm_cast; norm_num
theorem lit_eighth : Ideal.ofBits .f32 0x3E000000#32 = ((1 / 8 : ℝ) : EReal) := by
  simp [Ideal.ofBits, Ideal.ieee]; norm_cast; norm_num
theorem lit_10000 : Ideal.ofBits .f32 0x461C4000#32 = ((10000 : ℝ) : EReal) := by
  simp [Ideal.ofBits, Ideal.ieee]; norm_cast; norm_num
theorem lit_64 : Ideal.ofBits .f32 0x42800000#32 = ((64 : ℝ) : EReal) := by
  simp [Ideal.ofBits, Ideal.ieee]; norm_cast; norm_num
/-- The running maximum starts from a finite number. -/
theorem lit_start : ∃ r : ℝ, Ideal.ofBits .f32 0xF149F2CA#32 = (r : EReal) := by
  have h : Ideal.ofBits .f32 0xF149F2CA#32 = ((-(13234890 * 2 ^ 76) : ℝ) : EReal) := by
    simp [Ideal.ofBits, Ideal.ieee]
  exact ⟨_, h⟩

/-- A small number's word, as a float. -/
theorem nat_word (n : ℕ) (h : n < 4096) : FloatOps.sitofp (F := Ideal) .f32 (BitVec.ofNat 32 n) = ((n : ℝ) : EReal) := by
  show (((BitVec.ofNat 32 n).toInt : ℝ) : EReal) = _
  have : (BitVec.ofNat 32 n).toInt = (n : ℤ) := by
    rw [BitVec.toInt_eq_toNat_bmod, BitVec.toNat_ofNat, Int.bmod_def]; split_ifs <;> omega
  rw [this]; simp

theorem named_score : Named.named (F := Ideal) Cert.KernelIdeal.κ "score_scale" (φ := .f32) 0x3A810204#32 = ((1 / 1016 : ℝ) : EReal) :=
  IdealRules.named_const.ideal_named_scalar _ _ _ _ rfl
theorem named_value : Named.named (F := Ideal) Cert.KernelIdeal.κ "value_scale" (φ := .f32) 0x3C010204#32 = ((1 / 127 : ℝ) : EReal) :=
  IdealRules.named_const.ideal_named_scalar _ _ _ _ rfl
theorem named_log : Named.named (F := Ideal) Cert.KernelIdeal.κ "log_base" (φ := .f32) 0xBE935D8E#32 = ((-((1 / 32) * Real.log 10000) : ℝ) : EReal) :=
  IdealRules.named_const.ideal_named_scalar _ _ _ _ rfl

end Cert.Attn

end
-- ==== Proof.Model.lean ====
/-
The mathematics both programs are compared with, over plain functions: the rotary angles, the rotation, the quantiser,
the scores, and the softmax-weighted sum of the values.
-/
module

public import Idealize.ShloMosaic.Lib.Pointwise
public import Idealize.ShloMosaic.PureOps.Ideal.Laws

@[expose] public section

noncomputable section

namespace Cert.Attn

open Idealize.ShloMosaic

/-- A projection: batch element, position, column. -/
abbrev Arr : Type := Fin 2 → Fin 4096 → Fin 256 → EReal

/-- `x` times `w`. -/
def proj (x : Fin 2 → Fin 4096 → Fin 512 → EReal) (w : Fin 512 → Fin 256 → EReal) : Arr := fun b n k => ∑ e, x b n e * w e k

/-- The angle of position `n` and column pair `j` of a head: `n / 10000 ^ (2 j / 64)`. -/
def angle (n j : ℕ) : ℝ := n * (10000 : ℝ) ^ (-(2 * (j : ℝ) / 64))

/-- The partner of a column in its pair. -/
def partner (k : Fin 256) : Fin 256 := if h : k.val % 2 = 0 then ⟨k.val + 1, by have := k.isLt; omega⟩ else ⟨k.val - 1, by have := k.isLt; omega⟩

/-- The rotation. -/
def rope (t : Arr) : Arr := fun b n k =>
  t b n k * ((Real.cos (angle n.val (k.val % 64 / 2)) : ℝ) : EReal)
    + (if k.val % 2 = 0 then -t b n (partner k) else t b n (partner k)) * ((Real.sin (angle n.val (k.val % 64 / 2)) : ℝ) : EReal)

/-- Position `i` of block `r`. -/
def posn (r : Fin 32) (i : Fin 128) : Fin 4096 := ⟨128 * r.val + i.val, by have := r.isLt; have := i.isLt; omega⟩
/-- The block of a position. -/
def blockOf (n : Fin 4096) : Fin 32 := ⟨n.val / 128, by have := n.isLt; omega⟩

/-- The largest absolute value in block `r`. -/
def big (t : Arr) (r : Fin 32) : EReal := Finset.univ.sup fun x : Fin 2 × Fin 128 × Fin 256 => max (t x.1 (posn r x.2.1) x.2.2) (-t x.1 (posn r x.2.1) x.2.2)

/-- The code of `x` at scale `s`, before it becomes an integer. -/
def pre (s x : EReal) : EReal := Ideal.liftRound Ideal.roundHalfEven (x * Ideal.div ((127 : ℝ) : EReal) s)
/-- The code of `x` at scale `s`. -/
def code (s x : EReal) : ℤ := (Ideal.fptosi 8 (pre s x)).toInt

theorem big_ge (t : Arr) (b : Fin 2) (n : Fin 4096) (k : Fin 256) : max (t b n k) (-t b n k) ≤ big t (blockOf n) := by
  have e : posn (blockOf n) ⟨n.val % 128, Nat.mod_lt _ (by decide)⟩ = n := Fin.ext (by show 128 * (n.val / 128) + n.val % 128 = n.val; omega)
  have := Finset.le_sup (f := fun x : Fin 2 × Fin 128 × Fin 256 => max (t x.1 (posn (blockOf n) x.2.1) x.2.2) (-t x.1 (posn (blockOf n) x.2.1) x.2.2))
    (Finset.mem_univ (b, (⟨n.val % 128, Nat.mod_lt _ (by decide)⟩ : Fin 128), k))
  dsimp only at this
  rw [e] at this
  exact this

theorem round_bounds {r : ℝ} {z : ℤ} (h : |r| ≤ z) : |Ideal.roundHalfEven r| ≤ z := by
  have h1 := abs_le.mp h
  have hf : -z ≤ ⌊r⌋ := Int.le_floor.mpr (by push_cast; exact h1.1)
  have hf' : ⌊r⌋ ≤ z := by exact_mod_cast (Int.floor_le r).trans h1.2
  rw [abs_le]
  unfold Ideal.roundHalfEven
  by_cases e : ⌊r⌋ = z
  · have : r = z := le_antisymm h1.2 (by rw [← e]; exact Int.floor_le r)
    have h0 : r - (⌊r⌋ : ℝ) < 1 / 2 := by rw [this]; simp
    simp only [h0, if_true]
    exact ⟨hf, hf'⟩
  · have : ⌊r⌋ < z := lt_of_le_of_ne hf' e
    dsimp only
    split_ifs <;> constructor <;> omega

/-- A code is an integer of at most 127 in size, and zero where the scale is infinite. -/
theorem pre_eq {s x : EReal} (h : max x (-x) ≤ s) : ∃ z : ℤ, |z| ≤ 127 ∧ pre s x = ((z : ℝ) : EReal) ∧ (s = ⊤ → z = 0) := by
  have r0 : Ideal.roundHalfEven 0 = 0 := by
    unfold Ideal.roundHalfEven
    simp
  have l0 : Ideal.liftRound Ideal.roundHalfEven (0 : EReal) = (((0 : ℤ) : ℝ) : EReal) := by
    have : (0 : EReal) = ((0 : ℝ) : EReal) := rfl
    rw [this, Ideal.liftRound_coe, r0]
  induction s using EReal.rec with
  | bot =>
    exfalso
    have h1 := le_bot_iff.mp ((le_max_left _ _).trans h)
    have h2 := le_bot_iff.mp ((le_max_right _ _).trans h)
    rw [h1] at h2; simp at h2
  | top =>
    refine ⟨0, by norm_num, ?_, fun _ => rfl⟩
    unfold pre Ideal.div
    rw [if_neg (by simp), EReal.inv_top, mul_zero, mul_zero, l0]
  | coe s =>
    have hx1 : x ≤ (s : EReal) := (le_max_left _ _).trans h
    have hx2 : -x ≤ (s : EReal) := (le_max_right _ _).trans h
    have ht : x ≠ ⊤ := fun e => by rw [e] at hx1; exact absurd hx1 (by simp)
    have hb : x ≠ ⊥ := fun e => by rw [e] at hx2; exact absurd hx2 (by simp)
    lift x to ℝ using ⟨ht, hb⟩
    have hx1' : x ≤ s := by exact_mod_cast hx1
    have hx2' : -x ≤ s := by exact_mod_cast hx2
    by_cases hs : s = 0
    · refine ⟨0, by norm_num, ?_, fun e => absurd e (by simp)⟩
      have : x = 0 := by linarith
      unfold pre
      rw [this, EReal.coe_zero, zero_mul, l0]
    · have hsp : 0 < s := lt_of_le_of_ne (by linarith) (Ne.symm hs)
      refine ⟨Ideal.roundHalfEven (x * (127 * (1 / s))), round_bounds (z := 127) ?_, ?_, fun e => absurd e (by simp)⟩
      · have : x * (127 * (1 / s)) = 127 * (x / s) := by ring
        rw [this, abs_mul, abs_div, abs_of_pos hsp]
        have : |x| / s ≤ 1 := (div_le_one hsp).mpr (abs_le.mpr ⟨by linarith, hx1'⟩)
        have h3 : |(127 : ℝ)| = 127 := by norm_num
        rw [h3]; push_cast; linarith
      · unfold pre
        rw [Ideal.div_coe hs, ← EReal.coe_mul, ← EReal.coe_mul, Ideal.liftRound_coe]

theorem toIntClamped_int (lo hi z : ℤ) (h : lo ≤ z) (h' : z ≤ hi) : Ideal.toIntClamped lo hi ((z : ℝ) : EReal) = z := by
  rw [Ideal.toIntClamped_coe]
  simp only [Int.floor_intCast, Int.ceil_intCast, ite_self]
  omega

theorem byte_toInt (z : ℤ) (h : |z| ≤ 127) : (BitVec.ofInt 8 z).toInt = z := by
  have := abs_le.mp h
  rw [BitVec.toInt_ofInt, Int.bmod_def]; split_ifs <;> omega

theorem word_byte (z : ℤ) (h : |z| ≤ 127) : (((BitVec.ofInt 32 z).setWidth 8).signExtend 32).toInt = z := by
  have h' := abs_le.mp h
  have e : (BitVec.ofInt 32 z).setWidth 8 = BitVec.ofInt 8 z := by
    apply BitVec.eq_of_toNat_eq
    simp only [BitVec.toNat_setWidth, BitVec.toNat_ofInt]
    omega
  rw [e, BitVec.toInt_signExtend_of_le (by decide), byte_toInt z h]

theorem code_spec {s x : EReal} (h : max x (-x) ≤ s) :
    (Ideal.fptosi 8 (pre s x)).toInt = code s x ∧ (((Ideal.fptosi 32 (pre s x)).setWidth 8).signExtend 32).toInt = code s x ∧ (s = ⊤ → code s x = 0) := by
  obtain ⟨z, hz, e, h0⟩ := pre_eq h
  have h' := abs_le.mp hz
  have c8 : code s x = z := by
    unfold code Ideal.fptosi
    rw [e, toIntClamped_int _ _ _ (by norm_num; omega) (by norm_num; omega), byte_toInt z hz]
  refine ⟨rfl, ?_, fun hs => c8.trans (h0 hs)⟩
  rw [c8]
  unfold Ideal.fptosi
  rw [e, toIntClamped_int _ _ _ (by norm_num; omega) (by norm_num; omega), word_byte z hz]

/-- The scale as a real; an infinite one, whose codes are all zero, counts as zero. -/
def scl (t : Arr) (r : Fin 32) : ℝ := (big t r).toReal
/-- The code of an element. -/
def cd (t : Arr) (b : Fin 2) (n : Fin 4096) (k : Fin 256) : ℤ := code (big t (blockOf n)) (t b n k)
/-- What the code stands for. -/
def deq (t : Arr) (b : Fin 2) (n : Fin 4096) (k : Fin 256) : ℝ := cd t b n k * (scl t (blockOf n) / 127)

theorem big_ne_bot (t : Arr) (r : Fin 32) : big t r ≠ ⊥ := fun e => by
  have h := big_ge t 0 (posn r 0) 0
  have e1 : blockOf (posn r 0) = r := Fin.ext (by show (128 * r.val + 0) / 128 = r.val; omega)
  rw [e1, e] at h
  have h1 := le_bot_iff.mp ((le_max_left _ _).trans h)
  have h2 := le_bot_iff.mp ((le_max_right _ _).trans h)
  rw [h1] at h2; simp at h2

/-- An infinite scale makes every code zero. -/
theorem cd_top {t : Arr} {n : Fin 4096} (h : big t (blockOf n) = ⊤) (b : Fin 2) (k : Fin 256) : cd t b n k = 0 :=
  (code_spec (big_ge t b n k)).2.2 h

/-- The reference's dequantised element. -/
theorem deq_eq (t : Arr) (b : Fin 2) (n : Fin 4096) (k : Fin 256) :
    (((cd t b n k : ℤ) : ℝ) : EReal) * Ideal.div (big t (blockOf n)) ((127 : ℝ) : EReal) = ((deq t b n k : ℝ) : EReal) := by
  rw [Ideal.div_coe (by norm_num)]
  unfold deq scl
  by_cases h : big t (blockOf n) = ⊤
  · rw [cd_top h]; simp
  · have := EReal.coe_toReal h (big_ne_bot t _)
    rw [← this, ← EReal.coe_mul, ← EReal.coe_mul, EReal.toReal_coe]; norm_num [div_eq_mul_inv]

/-- A real times a stored scale times a factor, where the codes are multiplied in. -/
theorem scaled_code (t : Arr) (n : Fin 4096) (p f y : ℝ) (h : big t (blockOf n) = ⊤ → y = 0) :
    ((p : ℝ) : EReal) * (big t (blockOf n) * ((f : ℝ) : EReal)) * ((y : ℝ) : EReal) = ((p * (scl t (blockOf n) * f) * y : ℝ) : EReal) := by
  unfold scl
  by_cases ht : big t (blockOf n) = ⊤
  · rw [h ht]; simp
  · have := EReal.coe_toReal ht (big_ne_bot t _)
    rw [← this, ← EReal.coe_mul, ← EReal.coe_mul, ← EReal.coe_mul, EReal.toReal_coe]

/-- A column within a head. -/
def hcol (h : Fin 4) (d : Fin 64) : Fin 256 := ⟨64 * h.val + d.val, by have := h.isLt; have := d.isLt; omega⟩

/-- The real score of position `n` against position `k` in head `h`, where `q` are the rotated queries. -/
def score (K : Arr) (q : Fin 2 → Fin 4096 → Fin 256 → ℝ) (b : Fin 2) (h : Fin 4) (n k : Fin 4096) : ℝ :=
  (∑ d : Fin 64, q b n (hcol h d) * (cd K b k (hcol h d) : ℝ)) * (scl K (blockOf k) * (1 / 1016))

end Cert.Attn

end
-- ==== Proof.Ideal.Pieces.lean ====
/-
The kernel's vector computations on a device, at an index, in the words of the model: the projections, the rotation, the
scales, the codes.
-/
module

public import proofs.«01_k».proof.Proof.Ideal.Spec
public import proofs.«01_k».proof.Proof.Consts
public import proofs.«01_k».proof.Proof.Model
public import Idealize.ShloMosaic.Lib.Pointwise

@[expose] public section

set_option maxRecDepth 8192

noncomputable section

namespace Cert.KernelIdeal.Attn

open Cert.KernelIdeal Cert.KernelIdeal.Gen

open Idealize.ShloMosaic
open Idealize.ShloMosaic.TcCoe
open Cert.Attn (Arr posn blockOf rope angle partner big code cd)

/-! ## Columns and positions -/

theorem col_even (r k : Fin 256) : k0_pay17 colI (ix2 r k) = if k.val % 2 = 0 then 1#1 else 0#1 := by
  pointwise [k0_pay17]
  revert k; decide +kernel
/-- A column's pair within its head. -/
theorem col_pair (r k : Fin 256) :
    Scalar.select (IntOp.andi (k0_pay11 colI (ix2 r k)) (IntOp.cmpi CmpIPredicate.ne (k0_pay12 colI (ix2 r k)) (k0_pay13 (ix2 r k))))
      (IntOp.subi (k0_pay10 colI (ix2 r k)) 1#32) (k0_pay10 colI (ix2 r k)) = BitVec.ofNat 32 (k.val % 64 / 2) := by
  pointwise [k0_pay9, k0_pay10, k0_pay11, k0_pay12, k0_pay13]
  revert k; decide +kernel

theorem me_word (c : Dev nD) : meWord c = BitVec.ofNat 32 c.val := by
  revert c; decide +kernel

/-- Row `r` of device `c` is this position. -/
def rowPos (c : Dev nD) (r : Fin 256) : Fin 4096 := posn c ⟨r.val % 128, Nat.mod_lt _ (by decide)⟩
/-- The batch element of a row. -/
def rowB (r : Fin 256) : Fin 2 := ⟨r.val / 128, by have := r.isLt; omega⟩

theorem row_mod (r : Fin 256) :
    (Scalar.select
          (IntOp.andi
            (IntOp.xori
              (IntOp.cmpi CmpIPredicate.slt
                (IntOp.remsi ArithUnit.vector (BitVec.ofNat 32 ↑r)
                  (Scalar.select (Scalar.cmpi CmpIPredicate.eq 128#32 0#32) 1#32 128#32))
                0#32)
              (Scalar.cmpi CmpIPredicate.slt (Scalar.select (Scalar.cmpi CmpIPredicate.eq 128#32 0#32) 1#32 128#32)
                0#32))
            (IntOp.cmpi CmpIPredicate.ne
              (IntOp.remsi ArithUnit.vector (BitVec.ofNat 32 ↑r)
                (Scalar.select (Scalar.cmpi CmpIPredicate.eq 128#32 0#32) 1#32 128#32))
              0#32))
          (IntOp.addi
            (IntOp.remsi ArithUnit.vector (BitVec.ofNat 32 ↑r)
              (Scalar.select (Scalar.cmpi CmpIPredicate.eq 128#32 0#32) 1#32 128#32))
            (Scalar.select (Scalar.cmpi CmpIPredicate.eq 128#32 0#32) 1#32 128#32))
          (IntOp.remsi ArithUnit.vector (BitVec.ofNat 32 ↑r)
            (Scalar.select (Scalar.cmpi CmpIPredicate.eq 128#32 0#32) 1#32 128#32))) = BitVec.ofNat 32 (r.val % 128) := by
  revert r; decide +kernel

theorem pos_at (c : Dev nD) (r k : Fin 256) : posF (F := Ideal) c (ix2 r k) = (((rowPos c r).val : ℝ) : EReal) := by
  unfold posF
  rw [me_word]
  pointwise [k0_pay8, k0_pay7, k0_pay6, k0_pay5]
  rw [row_mod]
  have h1 : c.val < 32 := c.isLt
  have e : IntOp.addi (Scalar.muli (BitVec.ofNat 32 c.val) 128#32) (BitVec.ofNat 32 (r.val % 128)) = BitVec.ofNat 32 (128 * c.val + r.val % 128) := by
    show BitVec.ofNat 32 c.val * 128#32 + BitVec.ofNat 32 (r.val % 128) = _
    apply BitVec.eq_of_toNat_eq
    simp only [BitVec.toNat_add, BitVec.toNat_mul, BitVec.toNat_ofNat]
    omega
  rw [e]
  exact Cert.Attn.nat_word _ (by omega)

theorem angle_at (c : Dev nD) (r k : Fin 256) :
    k0_pay14 (posF (F := Ideal) c) (k0_pay10 colI) (k0_pay11 colI) (k0_pay12 colI) k0_pay13 (ix2 r k)
      = ((angle (rowPos c r).val (k.val % 64 / 2) : ℝ) : EReal) := by
  generalize hp : posF (F := Ideal) c = p
  pointwise [k0_pay14]
  rw [col_pair, Cert.Attn.nat_word _ (by omega), Cert.Attn.named_log, ← hp, pos_at, ← EReal.coe_mul, Ideal.exp_coe, ← EReal.coe_mul]
  congr 1
  unfold angle
  congr 1
  rw [Real.rpow_def_of_pos (by norm_num)]
  congr 1
  ring

theorem cos_at (c : Dev nD) (r k : Fin 256) : cosF (F := Ideal) c (ix2 r k) = ((Real.cos (angle (rowPos c r).val (k.val % 64 / 2)) : ℝ) : EReal) := by
  have : cosF (F := Ideal) c (ix2 r k) = Ideal.cos (k0_pay14 (posF (F := Ideal) c) (k0_pay10 colI) (k0_pay11 colI) (k0_pay12 colI) k0_pay13 (ix2 r k)) := rfl
  rw [this, angle_at, Ideal.cos_coe]
theorem sin_at (c : Dev nD) (r k : Fin 256) : sinF (F := Ideal) c (ix2 r k) = ((Real.sin (angle (rowPos c r).val (k.val % 64 / 2)) : ℝ) : EReal) := by
  have : sinF (F := Ideal) c (ix2 r k) = Ideal.sin (k0_pay14 (posF (F := Ideal) c) (k0_pay10 colI) (k0_pay11 colI) (k0_pay12 colI) k0_pay13 (ix2 r k)) := rfl
  rw [this, angle_at, Ideal.sin_coe]

/-! ## Device rows of an array -/

/-- The rows of `t` are device `c`'s part of `T`. -/
def Rows (t : FVec Ideal S256x256 .f32) (T : Arr) (c : Dev nD) : Prop := ∀ r k, t (ix2 r k) = T (rowB r) (rowPos c r) k

theorem prod_rows {x : Vec Ideal S2x128x512 .f32} {w : Vec Ideal S512x256 .f32} {X : Fin 2 → Fin 4096 → Fin 512 → EReal} {W : Fin 512 → Fin 256 → EReal}
    {c : Dev nD} (hx : ∀ b i e, x (ix3 b i e) = X b (posn c i) e) (hw : ∀ e k, w (ix2 e k) = W e k) : Rows (k0_pay2 x w) (Cert.Attn.proj X W) c := by
  intro r k
  pointwise [k0_pay2, k0_pay1]
  simp only [hx, hw]
  rfl

/-- The rotation of the rows. -/
abbrev turned (t : FVec Ideal S256x256 .f32) (c : Dev nD) : FVec Ideal S256x256 .f32 :=
  k0_pay22 t (cosF c) (sinF c) (k0_pay17 colI) (k0_pay19 t) (k0_pay20 t) (k0_pay21 t)

theorem turned_rows {t : FVec Ideal S256x256 .f32} {T : Arr} {c : Dev nD} (h : Rows t T c) : Rows (turned t c) (rope T) c := by
  intro r k
  unfold turned
  have hc := cos_at c r k
  have hs := sin_at c r k
  have he := col_even r k
  generalize cosF (F := Ideal) c = C at hc ⊢
  generalize sinF (F := Ideal) c = S at hs ⊢
  generalize k0_pay17 colI = e at he ⊢
  pointwise [k0_pay22, k0_pay19, k0_pay20, k0_pay21]
  rw [hc, hs, he, h r k]
  unfold rope
  have hk := k.isLt
  by_cases hp : k.val % 2 = 0
  · have h1 : k.val < 255 := by omega
    have h2 : (⟨1 + k.val, by omega⟩ : Fin 256) = partner k := by
      unfold partner; rw [dif_pos hp]; exact Fin.ext (Nat.add_comm _ _)
    rw [if_pos hp, if_pos hp, dif_pos h1, h2, h r (partner k), zero_sub]
    rfl
  · have h1 : ¬ k.val < 1 := by omega
    have h2 : (⟨k.val - 1, by omega⟩ : Fin 256) = partner k := by
      unfold partner; rw [dif_neg hp]
    rw [if_neg hp, if_neg hp, dif_neg h1, h2, h r (partner k)]
    rfl

/-! ## Scales and codes -/

/-- The codes of `p` at scale `s`. -/
def codesOf (p : FVec Ideal S256x256 .f32) (s : Ideal .f32) : IVec S2x128x256 8 :=
  shapeCast S2x128x256 (shapeCast S2x128x256 (fptosi 8 (roundeven (mulf p (broadcast S256x256 (Scalar.divf (Scalar.ofBits .f32 0x42FE0000#32) s)))))
    shapeCasts_S256x256_S2x128x256) shapeCasts_S2x128x256_S2x128x256
/-- The two scales in one row. -/
def scaleRow (a b : Ideal .f32) : FVec Ideal S1x128 .f32 :=
  shapeCast S1x128 (select (cmpi .slt (iota .tc S1x128 32 [1] iota_S1x128_d1_w32) (broadcast S1x128 64#32)) (broadcast S1x128 a) (broadcast S1x128 b))
    shapeCasts_S1x128_S1x128
/-- The largest absolute value of `p`. -/
def largestOf (p : FVec Ideal S256x256 .f32) : Ideal .f32 :=
  extractAt ![0, 0, 0] (shapeCast S1x1x1 (multiReduction .maximumf [1, 2] S1 (shapeCast S1x256x256 (absf p) shapeCasts_S256x256_S1x256x256)
    0xFF800000#32 reduces_S1x256x256_S1 (.inl rfl) rfl) shapeCasts_S1_S1x1x1) inpos_S1x1x1_p0_0_0

theorem code_at (p : FVec Ideal S256x256 .f32) (s : Ideal .f32) (i : Fin 2) (j : Fin 128) (k : Fin 256) :
    codesOf p s (ix3 i j k) = Ideal.fptosi 8 (Cert.Attn.pre s (p (ix2 (⟨i.val * 128 + j.val, by omega⟩ : Fin 256) k))) := by
  pointwise [codesOf]
  rw [Cert.Attn.lit_127]
  rfl

theorem scale_at (a b : Ideal .f32) (l : Fin 128) : scaleRow a b (ix2 (0 : Fin 1) l) = if l.val < 64 then a else b := by
  pointwise [scaleRow]
  have : IntOp.cmpi CmpIPredicate.slt (BitVec.ofNat 32 l.val) 64#32 = if l.val < 64 then 1#1 else 0#1 := by revert l; decide +kernel
  rw [this]
  split_ifs <;> rfl

theorem largest_at {p : FVec Ideal S256x256 .f32} {T : Arr} {c : Dev nD} (h : Rows p T c) : largestOf p = big T c := by
  have e : largestOf p = Finset.fold max (Ideal.ofBits FTy.f32 0xFF800000#32) (fun x : Fin 256 × Fin 256 => FloatOps.absf (p (ix2 x.1 x.2))) Finset.univ := by
    pointwise [largestOf]
  rw [e, Cert.Attn.lit_neg_inf]
  apply le_antisymm
  · refine Finset.fold_max_le _ |>.mpr ⟨bot_le, fun x _ => ?_⟩
    show max (p (ix2 x.1 x.2)) (-p (ix2 x.1 x.2)) ≤ _
    rw [h]
    exact Finset.le_sup (f := fun x : Fin 2 × Fin 128 × Fin 256 => max (T x.1 (posn c x.2.1) x.2.2) (-T x.1 (posn c x.2.1) x.2.2))
      (Finset.mem_univ (rowB x.1, (⟨x.1.val % 128, Nat.mod_lt _ (by decide)⟩ : Fin 128), x.2))
  · refine Finset.sup_le fun x _ => ?_
    refine Finset.le_fold_max _ |>.mpr (Or.inr ⟨((⟨x.1.val * 128 + x.2.1.val, by omega⟩ : Fin 256), x.2.2), Finset.mem_univ _, ?_⟩)
    show _ ≤ max (p (ix2 _ _)) (-p (ix2 _ _))
    rw [h]
    have e1 : rowB (⟨x.1.val * 128 + x.2.1.val, by omega⟩ : Fin 256) = x.1 := Fin.ext (by show (x.1.val * 128 + x.2.1.val) / 128 = _; omega)
    have e2 : rowPos c (⟨x.1.val * 128 + x.2.1.val, by omega⟩ : Fin 256) = posn c x.2.1 :=
      Fin.ext (by show 128 * c.val + (x.1.val * 128 + x.2.1.val) % 128 = 128 * c.val + x.2.1.val; omega)
    rw [e1, e2]

theorem block_posn (c : Dev nD) (i : Fin 128) : blockOf (posn c i) = c := Fin.ext (by show (128 * c.val + i.val) / 128 = c.val; omega)

theorem codes_rows {p : FVec Ideal S256x256 .f32} {T : Arr} {c : Dev nD} (h : Rows p T c) (b : Fin 2) (i : Fin 128) (k : Fin 256) :
    (codesOf p (largestOf p) (ix3 b i k)).toInt = cd T b (posn c i) k := by
  rw [code_at, largest_at h, h]
  have e1 : rowB (⟨b.val * 128 + i.val, by omega⟩ : Fin 256) = b := Fin.ext (by show (b.val * 128 + i.val) / 128 = _; omega)
  have e2 : rowPos c (⟨b.val * 128 + i.val, by omega⟩ : Fin 256) = posn c i :=
    Fin.ext (by show 128 * c.val + (b.val * 128 + i.val) % 128 = 128 * c.val + i.val; omega)
  rw [e1, e2]
  unfold cd code
  rw [block_posn]

end Cert.KernelIdeal.Attn

end
-- ==== Proof.Ideal.Gathered.lean ====
/-
What a device's heads read from its gather buffers, at an index, in the words of the model.
-/
module

public import proofs.«01_k».proof.Proof.Ideal.Pieces

@[expose] public section

set_option maxRecDepth 8192

noncomputable section

namespace Cert.KernelIdeal.Attn

open Cert.KernelIdeal Cert.KernelIdeal.Gen

open Idealize.ShloMosaic
open Idealize.ShloMosaic.TcCoe
open Cert.Attn (Arr posn blockOf rope angle partner big code cd hcol)

variable (m : (ℓ : Loc nD τ sig) → Buf (Elt Ideal) ℓ)

/-- The whole mesh's input and the weights: what device `c` stages of the input is block `c`, and the weights are every device's. -/
structure Global where
  X : Fin 2 → Fin 4096 → Fin 512 → EReal
  Wq : Fin 512 → Fin 256 → EReal
  Wk : Fin 512 → Fin 256 → EReal
  Wv : Fin 512 → Fin 256 → EReal
  Wo : Fin 256 → Fin 512 → EReal

variable (W : Global)

/-- The rotated queries, the rotated keys and the values. -/
def Global.Q : Arr := rope (Cert.Attn.proj W.X W.Wq)
def Global.K : Arr := rope (Cert.Attn.proj W.X W.Wk)
def Global.V : Arr := Cert.Attn.proj W.X W.Wv

/-- The devices' memories hold the blocks. -/
structure Holds : Prop where
  x : ∀ c b i e, stX m c (ix3 b i e) = W.X b (posn c i) e
  q : ∀ c e k, stQ m c (ix2 e k) = W.Wq e k
  k : ∀ c e k, stK m c (ix2 e k) = W.Wk e k
  v : ∀ c e k, stV m c (ix2 e k) = W.Wv e k
  o : ∀ c e k, stO m c (ix2 e k) = W.Wo e k

variable {m W}

theorem ropedQ_rows (H : Holds m W) (c : Dev nD) : Rows (ropedQ m c) W.Q c := turned_rows (prod_rows (H.x c) (H.q c))
theorem turnedK_rows (H : Holds m W) (c : Dev nD) : Rows (turned (prK m c) c) W.K c := turned_rows (prod_rows (H.x c) (H.k c))
theorem prV_rows (H : Holds m W) (c : Dev nD) : Rows (prV m c) W.V c := prod_rows (H.x c) (H.v c)

theorem ownK_at (H : Holds m W) (c : Dev nD) (b : Fin 2) (i : Fin 128) (k : Fin 256) :
    (ownK m c (ix3 b i k)).toInt = cd W.K b (posn c i) k := codes_rows (turnedK_rows H c) b i k
theorem ownV_at (H : Holds m W) (c : Dev nD) (b : Fin 2) (i : Fin 128) (k : Fin 256) :
    (ownV m c (ix3 b i k)).toInt = cd W.V b (posn c i) k := codes_rows (prV_rows H c) b i k
theorem ownS_at (H : Holds m W) (c : Dev nD) (l : Fin 128) :
    ownS m c (ix2 (0 : Fin 1) l) = if l.val < 64 then big W.K c else big W.V c := by
  have e : ownS m c = scaleRow (largestOf (turned (prK m c) c)) (largestOf (prV m c)) := rfl
  rw [e, scale_at, largest_at (turnedK_rows H c), largest_at (prV_rows H c)]

/-- Column `j` of group `g` on device `c` is this position of the whole mesh. -/
def col (c : Dev nD) (g : Fin 4) (j : Fin 1024) : Fin 4096 :=
  posn (c + slotAt g ⟨j.val / 128, by have := j.isLt; omega⟩) ⟨j.val % 128, Nat.mod_lt _ (by decide)⟩

theorem cast_at (v : IVec S1x1024x64 8) (j : Fin 1024) (d : Fin 64) :
    (sitofp .bf16 (shapeCast S1024x64 v shapeCasts_S1x1024x64_S1024x64) : FVec Ideal S1024x64 .bf16) (ix2 j d)
      = (((v (ix3 (0 : Fin 1) j d)).toInt : ℝ) : EReal) := by
  pointwise []
  rfl

theorem KV_key (H : Holds m W) (c : Dev nD) (b : Fin 2) (h g : Fin 4) (j : Fin 1024) (d : Fin 64) :
    BitVec.toInt (n := 8) (KV m c (ix3 b (⟨1024 * g.val + j.val, by omega⟩ : Fin 4096) (⟨64 * h.val + d.val, by omega⟩ : Fin 512))) = cd W.K b (col c g j) (hcol h d) := by
  have hg := g.isLt; have hj := j.isLt; have hh := h.isLt; have hd := d.isLt
  have e : (⟨1024 * g.val + j.val, by omega⟩ : Fin 4096)
      = (⟨128 * (slotAt g ⟨j.val / 128, by omega⟩).val + j.val % 128, by show 128 * (8 * g.val + j.val / 128) + j.val % 128 < 4096; omega⟩ : Fin 4096) :=
    Fin.ext (by show 1024 * g.val + j.val = 128 * (8 * g.val + j.val / 128) + j.val % 128; omega)
  rw [e]
  rw [KV_slot m c (slotAt g ⟨j.val / 128, by omega⟩) b ⟨j.val % 128, Nat.mod_lt _ (by decide)⟩ ⟨64 * h.val + d.val, by omega⟩]
  rw [dif_pos (show 64 * h.val + d.val < 256 by omega)]
  exact ownK_at H _ b _ _

theorem KV_val (H : Holds m W) (c : Dev nD) (b : Fin 2) (h g : Fin 4) (j : Fin 1024) (d : Fin 64) :
    BitVec.toInt (n := 8) (KV m c (ix3 b (⟨1024 * g.val + j.val, by omega⟩ : Fin 4096) (⟨256 + 64 * h.val + d.val, by omega⟩ : Fin 512))) = cd W.V b (col c g j) (hcol h d) := by
  have hg := g.isLt; have hj := j.isLt; have hh := h.isLt; have hd := d.isLt
  have e : (⟨1024 * g.val + j.val, by omega⟩ : Fin 4096)
      = (⟨128 * (slotAt g ⟨j.val / 128, by omega⟩).val + j.val % 128, by show 128 * (8 * g.val + j.val / 128) + j.val % 128 < 4096; omega⟩ : Fin 4096) :=
    Fin.ext (by show 1024 * g.val + j.val = 128 * (8 * g.val + j.val / 128) + j.val % 128; omega)
  rw [e]
  rw [KV_slot m c (slotAt g ⟨j.val / 128, by omega⟩) b ⟨j.val % 128, Nat.mod_lt _ (by decide)⟩ ⟨256 + 64 * h.val + d.val, by omega⟩]
  rw [dif_neg (show ¬ 256 + 64 * h.val + d.val < 256 by omega)]
  have e2 : (⟨256 + 64 * h.val + d.val - 256, by omega⟩ : Fin 256) = hcol h d := Fin.ext (by show 256 + 64 * h.val + d.val - 256 = 64 * h.val + d.val; omega)
  refine Eq.trans ?_ (ownV_at H _ b _ (hcol h d))
  rw [← e2]

theorem keys_at (H : Holds m W) (c : Dev nD) (b : Fin 2) (h g : Fin 4) (j : Fin 1024) (d : Fin 64) :
    keysF (bufs m c) b h g (ix2 j d) = (((cd W.K b (col c g j) (hcol h d) : ℤ) : ℝ) : EReal) := by
  unfold keysF
  rw [cast_at, bufs_kv, ← KV_key H]
  congr 3
  refine congrArg (KV m c) (funext fun a => Fin.ext ?_)
  fin_cases a
  · show b.val + 1 * 0 = b.val; omega
  · show 1024 * g.val + 1 * j.val = 1024 * g.val + j.val; omega
  · show 64 * h.val + 1 * d.val = 64 * h.val + d.val; omega

theorem vals_at (H : Holds m W) (c : Dev nD) (b : Fin 2) (h g : Fin 4) (j : Fin 1024) (d : Fin 64) :
    valsF (bufs m c) b h g (ix2 j d) = (((cd W.V b (col c g j) (hcol h d) : ℤ) : ℝ) : EReal) := by
  unfold valsF
  rw [cast_at, bufs_kv, ← KV_val H]
  congr 3
  refine congrArg (KV m c) (funext fun a => Fin.ext ?_)
  fin_cases a
  · show b.val + 1 * 0 = b.val; omega
  · show 1024 * g.val + 1 * j.val = 1024 * g.val + j.val; omega
  · show 256 + 64 * h.val + 1 * d.val = 256 + 64 * h.val + d.val; omega

theorem scaleRaw_at (c : Dev nD) (r : Fin 32) (l : Fin 2) :
    scaleRaw (bufs m c) r l = ownS m (c + r) (ix2 (0 : Fin 1) (⟨64 * l.val, by omega⟩ : Fin 128)) := by
  have e : scaleRaw (bufs m c) r l = SG m c (ix2 (r : Fin 32) (⟨64 * l.val, by omega⟩ : Fin 128)) := by
    unfold scaleRaw
    rw [bufs_sg]
    refine congrArg (SG m c) (funext fun a => Fin.ext ?_)
    fin_cases a
    · show r.val + 1 * 0 = r.val; omega
    · show 64 * l.val + 1 * 0 = 64 * l.val; omega
  rw [e]
  rfl

theorem scaleK_at (H : Holds m W) (c : Dev nD) (r : Fin 32) : scaleK (bufs m c) r = big W.K (c + r) * ((1 / 1016 : ℝ) : EReal) := by
  unfold scaleK
  rw [scaleRaw_at, ownS_at H, Cert.Attn.named_score]
  rfl
theorem scaleV_at (H : Holds m W) (c : Dev nD) (r : Fin 32) : scaleV (bufs m c) r = big W.V (c + r) * ((1 / 127 : ℝ) : EReal) := by
  unfold scaleV
  rw [scaleRaw_at, ownS_at H, Cert.Attn.named_value]
  rfl

theorem headQ_at (H : Holds m W) (c : Dev nD) (b : Fin 2) (h : Fin 4) (i : Fin 128) (d : Fin 64) :
    headQ (ropedQ m c) b h (ix2 i d) = W.Q b (posn c i) (hcol h d) := by
  have hq := ropedQ_rows H c
  generalize ropedQ m c = r at hq ⊢
  have key : headQ r b h (ix2 i d) = r (ix2 (⟨128 * b.val + i.val, by omega⟩ : Fin 256) (hcol h d)) := by
    fin_cases b <;> fin_cases h
    · show k0_pay28 r (ix2 i d) = _; pointwise [k0_pay28]; exact congrArg₂ (fun x y => r (ix2 x y)) (Fin.ext (by simp)) (Fin.ext (by simp [hcol]))
    · show k0_pay29 r (ix2 i d) = _; pointwise [k0_pay29]; exact congrArg₂ (fun x y => r (ix2 x y)) (Fin.ext (by simp)) (Fin.ext (by simp [hcol]))
    · show k0_pay30 r (ix2 i d) = _; pointwise [k0_pay30]; exact congrArg₂ (fun x y => r (ix2 x y)) (Fin.ext (by simp)) (Fin.ext (by simp [hcol]))
    · show k0_pay31 r (ix2 i d) = _; pointwise [k0_pay31]; exact congrArg₂ (fun x y => r (ix2 x y)) (Fin.ext (by simp)) (Fin.ext (by simp [hcol]))
    · show k0_pay32 r (ix2 i d) = _; pointwise [k0_pay32]; exact congrArg₂ (fun x y => r (ix2 x y)) (Fin.ext (by simp)) (Fin.ext (by simp [hcol]))
    · show k0_pay33 r (ix2 i d) = _; pointwise [k0_pay33]; exact congrArg₂ (fun x y => r (ix2 x y)) (Fin.ext (by simp)) (Fin.ext (by simp [hcol]))
    · show k0_pay34 r (ix2 i d) = _; pointwise [k0_pay34]; exact congrArg₂ (fun x y => r (ix2 x y)) (Fin.ext (by simp)) (Fin.ext (by simp [hcol]))
    · show k0_pay35 r (ix2 i d) = _; pointwise [k0_pay35]; exact congrArg₂ (fun x y => r (ix2 x y)) (Fin.ext (by simp)) (Fin.ext (by simp [hcol]))
  rw [key, hq]
  have e1 : rowB (⟨128 * b.val + i.val, by omega⟩ : Fin 256) = b := Fin.ext (by show (128 * b.val + i.val) / 128 = _; omega)
  have e2 : rowPos c (⟨128 * b.val + i.val, by omega⟩ : Fin 256) = posn c i :=
    Fin.ext (by show 128 * c.val + (128 * b.val + i.val) % 128 = 128 * c.val + i.val; omega)
  rw [e1, e2]

end Cert.KernelIdeal.Attn

end
-- ==== Proof.Softmax.lean ====
/-
The online softmax, over the reals: what a head's running sums are after some groups, and that their quotient is the
softmax-weighted sum whatever the maximum subtracted.
-/
module

public import Idealize.ShloMosaic.Lib.Pointwise
public import Idealize.ShloMosaic.PureOps.Ideal.Laws

@[expose] public section

noncomputable section

namespace Cert.Attn

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The larger of a real and of finitely many reals is a real. -/
theorem max_fold_real {ι : Type*} (s : Finset ι) (f : ι → ℝ) (μ : ℝ) :
    ∃ r : ℝ, max (μ : EReal) (Finset.fold max (⊥ : EReal) (fun i => (f i : EReal)) s) = (r : EReal) := by
  classical
  induction s using Finset.induction_on with
  | empty => exact ⟨μ, by simp⟩
  | insert a s h ih =>
    obtain ⟨r, hr⟩ := ih
    refine ⟨max (f a) r, ?_⟩
    rw [Finset.fold_insert h, max_left_comm, hr]
    exact (EReal.coe_strictMono.monotone.map_max).symm

/-- The largest of finitely many reals, one at least, is a real. -/
theorem fold_real {ι : Type*} (s : Finset ι) (f : ι → ℝ) (a : ι) (ha : a ∈ s) :
    ∃ r : ℝ, Finset.fold max (⊥ : EReal) (fun i => (f i : EReal)) s = (r : EReal) := by
  obtain ⟨r, hr⟩ := max_fold_real s f (f a)
  refine ⟨r, ?_⟩
  rw [← hr, max_eq_right]
  exact Finset.le_fold_max _ |>.mpr (Or.inr ⟨a, ha, le_refl _⟩)

/-- `m`, `l` and `a` are a head's running maximum, sum and weighted sum where `A` is the sum of the exponentials so far and
    `B` the weighted sum. -/
def Held (m l a : EReal) (A B : ℝ) : Prop :=
  ∃ μ : ℝ, m = (μ : EReal) ∧ l = ((A * Real.exp (-μ) : ℝ) : EReal) ∧ a = ((B * Real.exp (-μ) : ℝ) : EReal)

theorem held_start (μ : ℝ) : Held (μ : EReal) 0 0 0 0 := ⟨μ, rfl, by simp, by simp⟩

/-- One group. -/
theorem held_step {ι : Type*} [Fintype ι] {m l a : EReal} {A B : ℝ} (h : Held m l a A B) (S V : ι → ℝ) :
    Held (max m (Finset.fold max (⊥ : EReal) (fun i => (S i : EReal)) Finset.univ))
      (l * Ideal.exp (m - max m (Finset.fold max (⊥ : EReal) (fun i => (S i : EReal)) Finset.univ))
        + ∑ i, Ideal.exp ((S i : EReal) - max m (Finset.fold max (⊥ : EReal) (fun i => (S i : EReal)) Finset.univ)))
      (a * Ideal.exp (m - max m (Finset.fold max (⊥ : EReal) (fun i => (S i : EReal)) Finset.univ))
        + ∑ i, Ideal.exp ((S i : EReal) - max m (Finset.fold max (⊥ : EReal) (fun i => (S i : EReal)) Finset.univ)) * (V i : EReal))
      (A + ∑ i, Real.exp (S i)) (B + ∑ i, Real.exp (S i) * V i) := by
  obtain ⟨μ, rfl, rfl, rfl⟩ := h
  obtain ⟨ν, hν⟩ := max_fold_real Finset.univ S μ
  rw [hν]
  have e : ∀ r : ℝ, Ideal.exp ((r : EReal) - (ν : EReal)) = ((Real.exp r * Real.exp (-ν) : ℝ) : EReal) := fun r => by
    rw [← EReal.coe_sub, Ideal.exp_coe, ← Real.exp_add, sub_eq_add_neg]
  refine ⟨ν, rfl, ?_, ?_⟩
  · simp only [e, ← EReal.coe_mul, ← coe_sum, ← EReal.coe_add]
    congr 1
    rw [add_mul, Finset.sum_mul]
    congr 1
    have : Real.exp (-μ) * Real.exp μ = 1 := by rw [← Real.exp_add]; simp
    linear_combination A * Real.exp (-ν) * this
  · simp only [e, ← EReal.coe_mul, ← coe_sum, ← EReal.coe_add]
    congr 1
    rw [add_mul, Finset.sum_mul]
    have : Real.exp (-μ) * Real.exp μ = 1 := by rw [← Real.exp_add]; simp
    have h2 : ∑ i, Real.exp (S i) * Real.exp (-ν) * V i = ∑ i, Real.exp (S i) * V i * Real.exp (-ν) :=
      Finset.sum_congr rfl fun i _ => by ring
    rw [h2]
    linear_combination B * Real.exp (-ν) * this

/-- The quotient at the end. -/
theorem held_quot {m l a : EReal} {A B : ℝ} (h : Held m l a A B) (hA : 0 < A) : Ideal.div a l = ((B / A : ℝ) : EReal) := by
  obtain ⟨μ, rfl, rfl, rfl⟩ := h
  have hp := Real.exp_pos (-μ)
  rw [Ideal.div_coe (by positivity), ← EReal.coe_mul]
  congr 1
  field_simp

/-- The softmax with the row's maximum subtracted, summed against values. -/
theorem softmax_sum {ι : Type*} [Fintype ι] (S V : ι → ℝ) (i₀ : ι) :
    ∑ i, (V i : EReal) * Ideal.div (Ideal.exp ((S i : EReal) - Finset.fold max (⊥ : EReal) (fun i => (S i : EReal)) Finset.univ))
        (∑ k, Ideal.exp ((S k : EReal) - Finset.fold max (⊥ : EReal) (fun i => (S i : EReal)) Finset.univ))
      = (((∑ i, Real.exp (S i) * V i) / (∑ i, Real.exp (S i)) : ℝ) : EReal) := by
  obtain ⟨ν, hν⟩ := fold_real Finset.univ S i₀ (Finset.mem_univ _)
  rw [hν]
  have e : ∀ r : ℝ, Ideal.exp ((r : EReal) - (ν : EReal)) = ((Real.exp r * Real.exp (-ν) : ℝ) : EReal) := fun r => by
    rw [← EReal.coe_sub, Ideal.exp_coe, ← Real.exp_add, sub_eq_add_neg]
  have hp := Real.exp_pos (-ν)
  have hA : 0 < ∑ i, Real.exp (S i) := Finset.sum_pos (fun i _ => Real.exp_pos _) ⟨i₀, Finset.mem_univ _⟩
  have hA' : ∑ i, Real.exp (S i) * Real.exp (-ν) ≠ 0 := by
    rw [← Finset.sum_mul]; positivity
  simp only [e, ← coe_sum]
  simp only [Ideal.div_coe hA', ← EReal.coe_mul, ← coe_sum]
  congr 1
  rw [Finset.sum_div, ← Finset.sum_mul]
  refine Finset.sum_congr rfl fun i _ => ?_
  field_simp

end Cert.Attn

end
-- ==== Proof.Ideal.Heads.lean ====
/-
A head of the kernel at an index: the scores are the model's, the running sums are the model's sums so far, and the result
is their quotient times the output weights.
-/
module

public import proofs.«01_k».proof.Proof.Ideal.Gathered
public import proofs.«01_k».proof.Proof.Softmax

@[expose] public section

set_option maxRecDepth 8192

noncomputable section

namespace Cert.KernelIdeal.Attn

open Cert.KernelIdeal Cert.KernelIdeal.Gen

open Idealize.ShloMosaic
open Idealize.ShloMosaic.TcCoe
open Cert.Attn (Arr posn blockOf rope angle partner big code cd scl deq Held hcol score)

/-! ## The vector operations of a step, at an index -/

theorem scaled_at (w : Fin 8 → Ideal .f32) (s : FVec Ideal S128x1024 .f32) (i : Fin 128) (j : Fin 1024) :
    scaled w s (ix2 i j) = s (ix2 i j) * w ⟨j.val / 128, by have := j.isLt; omega⟩ := by
  have hj := j.isLt
  have key : ∀ (n : Fin 8) (e : Fin 1024), e.val = j.val → n.val = j.val / 128 →
      s (ix2 i e) * w n = s (ix2 i j) * w ⟨j.val / 128, by omega⟩ := fun n e he hn => by
    rw [Fin.ext he, show n = ⟨j.val / 128, by omega⟩ from Fin.ext hn]
  unfold scaled blk0 blk1 blk2 blk3 blk4 blk5 blk6 blk7
  pointwise []
  split_ifs <;> first
    | exact key 0 _ (by first | rfl | (dsimp only; omega)) (by show 0 = _; omega)
    | exact key 1 _ (by dsimp only; omega) (by show 1 = _; omega)
    | exact key 2 _ (by dsimp only; omega) (by show 2 = _; omega)
    | exact key 3 _ (by dsimp only; omega) (by show 3 = _; omega)
    | exact key 4 _ (by dsimp only; omega) (by show 4 = _; omega)
    | exact key 5 _ (by dsimp only; omega) (by show 5 = _; omega)
    | exact key 6 _ (by dsimp only; omega) (by show 6 = _; omega)
    | exact key 7 _ (by dsimp only; omega) (by show 7 = _; omega)

theorem raw_at (q : FVec Ideal S128x64 .bf16) (k : FVec Ideal S1024x64 .bf16) (i : Fin 128) (j : Fin 1024) :
    rawScores q k (ix2 i j) = ∑ d : Fin 64, q (ix2 i d) * k (ix2 j d) := by
  pointwise [rawScores]

theorem newMax_at (m : FVec Ideal S128x1 .f32) (s : FVec Ideal S128x1024 .f32) (i : Fin 128) :
    newMax m s (ix2 i (0 : Fin 1)) = max (m (ix2 i (0 : Fin 1))) (Finset.fold max (⊥ : EReal) (fun j : Fin 1024 => s (ix2 i j)) Finset.univ) := by
  have : rowMax s (ix2 i (0 : Fin 1)) = Finset.fold max (Ideal.ofBits .f32 0xFF800000#32) (fun j : Fin 1024 => s (ix2 i j)) Finset.univ := by
    pointwise [rowMax]
  rw [Cert.Attn.lit_neg_inf] at this
  rw [← this]
  rfl

theorem weights_at (m : FVec Ideal S128x1 .f32) (s : FVec Ideal S128x1024 .f32) (i : Fin 128) (j : Fin 1024) :
    weights m s (ix2 i j) = Ideal.exp (s (ix2 i j) - newMax m s (ix2 i (0 : Fin 1))) := by
  generalize hn : newMax m s = n
  unfold weights
  rw [hn]
  pointwise []

theorem newSum_at (m l : FVec Ideal S128x1 .f32) (s : FVec Ideal S128x1024 .f32) (i : Fin 128) :
    newSum m l s (ix2 i (0 : Fin 1)) = l (ix2 i (0 : Fin 1)) * Ideal.exp (m (ix2 i (0 : Fin 1)) - newMax m s (ix2 i (0 : Fin 1)))
      + ∑ j : Fin 1024, Ideal.exp (s (ix2 i j) - newMax m s (ix2 i (0 : Fin 1))) := by
  pointwise [newSum, weights, decay]

theorem newAcc_at (m : FVec Ideal S128x1 .f32) (a : FVec Ideal S128x64 .f32) (s : FVec Ideal S128x1024 .f32) (w : Fin 8 → Ideal .f32)
    (v : FVec Ideal S1024x64 .bf16) (i : Fin 128) (d : Fin 64) :
    newAcc m a s w v (ix2 i d) = a (ix2 i d) * Ideal.exp (m (ix2 i (0 : Fin 1)) - newMax m s (ix2 i (0 : Fin 1)))
      + ∑ j : Fin 1024, Ideal.exp (s (ix2 i j) - newMax m s (ix2 i (0 : Fin 1))) * w ⟨j.val / 128, by have := j.isLt; omega⟩ * v (ix2 j d) := by
  have h : newAcc m a s w v (ix2 i d) = a (ix2 i d) * Ideal.exp (m (ix2 i (0 : Fin 1)) - newMax m s (ix2 i (0 : Fin 1)))
      + ∑ j : Fin 1024, scaled w (weights m s) (ix2 i j) * v (ix2 j d) := by
    generalize hw : weights m s = p
    unfold newAcc
    rw [hw]
    pointwise [decay]
  rw [h]
  simp only [scaled_at, weights_at]

/-! ## The scores and the running sums -/

variable {m : (ℓ : Loc nD τ sig) → Buf (Elt Ideal) ℓ} {W : Global} {q : Fin 2 → Fin 4096 → Fin 256 → ℝ}

theorem col_block (c : Dev nD) (g : Fin 4) (j : Fin 1024) : blockOf (col c g j) = c + slotAt g ⟨j.val / 128, by have := j.isLt; omega⟩ :=
  block_posn _ _

theorem scores_at (H : Holds m W) (hq : ∀ b n k, W.Q b n k = (q b n k : EReal)) (c : Dev nD) (b : Fin 2) (h g : Fin 4) (i : Fin 128) (j : Fin 1024) :
    scores (bufs m c) (ropedQ m c) b h g (ix2 i j) = ((score W.K q b h (posn c i) (col c g j) : ℝ) : EReal) := by
  unfold scores
  rw [scaled_at]
  unfold raw
  rw [raw_at, scaleK_at H, ← col_block]
  simp only [headQ_at H, keys_at H, hq, ← EReal.coe_mul, ← Cert.Attn.coe_sum]
  have := Cert.Attn.scaled_code W.K (col c g j) 1 (1 / 1016) (∑ d : Fin 64, q b (posn c i) (hcol h d) * (cd W.K b (col c g j) (hcol h d) : ℝ))
    (fun ht => Finset.sum_eq_zero fun d _ => by rw [Cert.Attn.cd_top ht]; simp)
  rw [EReal.coe_one, one_mul, mul_comm] at this
  rw [this]
  congr 1
  unfold score
  ring

/-- The sum of the exponentials over the groups before `n`, and the weighted sum. -/
def sumA (S : Fin 4 → Fin 1024 → ℝ) : ℕ → ℝ
  | 0 => 0
  | n + 1 => sumA S n + ∑ j, Real.exp (S (Fin.ofNat 4 n) j)
def sumB (S V : Fin 4 → Fin 1024 → ℝ) : ℕ → ℝ
  | 0 => 0
  | n + 1 => sumB S V n + ∑ j, Real.exp (S (Fin.ofNat 4 n) j) * V (Fin.ofNat 4 n) j

theorem hst_held (H : Holds m W) (hq : ∀ b n k, W.Q b n k = (q b n k : EReal)) (c : Dev nD) (b : Fin 2) (h : Fin 4) (i : Fin 128) (d : Fin 64) (n : ℕ) :
    Held ((hst (bufs m c) (ropedQ m c) b h n).m (ix2 i (0 : Fin 1))) ((hst (bufs m c) (ropedQ m c) b h n).l (ix2 i (0 : Fin 1)))
      ((hst (bufs m c) (ropedQ m c) b h n).a (ix2 i d))
      (sumA (fun g j => score W.K q b h (posn c i) (col c g j)) n)
      (sumB (fun g j => score W.K q b h (posn c i) (col c g j)) (fun g j => deq W.V b (col c g j) (hcol h d)) n) := by
  induction n with
  | zero =>
    obtain ⟨r, hr⟩ := Cert.Attn.lit_start
    have e0 : (St.init (F := Ideal)).m (ix2 i (0 : Fin 1)) = (r : EReal) := hr
    have e1 : (St.init (F := Ideal)).l (ix2 i (0 : Fin 1)) = 0 := by
      show Ideal.ofBits .f32 0x00000000#32 = 0
      simp [Ideal.ofBits, Ideal.ieee]
    have e2 : (St.init (F := Ideal)).a (ix2 i d) = 0 := by
      show Ideal.ofBits .f32 0x00000000#32 = 0
      simp [Ideal.ofBits, Ideal.ieee]
    show Held ((St.init (F := Ideal)).m (ix2 i (0 : Fin 1))) ((St.init (F := Ideal)).l (ix2 i (0 : Fin 1))) ((St.init (F := Ideal)).a (ix2 i d)) 0 0
    rw [e0, e1, e2]
    exact Cert.Attn.held_start r
  | succ n ih =>
    obtain ⟨μ, hμ, -⟩ := id ih
    have st := Cert.Attn.held_step ih (fun j => score W.K q b h (posn c i) (col c (Fin.ofNat 4 n) j)) (fun j => deq W.V b (col c (Fin.ofNat 4 n) j) (hcol h d))
    obtain ⟨ν, hν⟩ := Cert.Attn.max_fold_real Finset.univ (fun j => score W.K q b h (posn c i) (col c (Fin.ofNat 4 n) j)) μ
    have em : (hst (bufs m c) (ropedQ m c) b h (n + 1)).m (ix2 i (0 : Fin 1))
        = max ((hst (bufs m c) (ropedQ m c) b h n).m (ix2 i (0 : Fin 1)))
            (Finset.fold max (⊥ : EReal) (fun j => ((score W.K q b h (posn c i) (col c (Fin.ofNat 4 n) j) : ℝ) : EReal)) Finset.univ) := by
      show newMax (hst (bufs m c) (ropedQ m c) b h n).m (scores (bufs m c) (ropedQ m c) b h (Fin.ofNat 4 n)) (ix2 i (0 : Fin 1)) = _
      rw [newMax_at]
      simp only [scores_at H hq]
    have em' : newMax (hst (bufs m c) (ropedQ m c) b h n).m (scores (bufs m c) (ropedQ m c) b h (Fin.ofNat 4 n)) (ix2 i (0 : Fin 1)) = _ := em
    have el : (hst (bufs m c) (ropedQ m c) b h (n + 1)).l (ix2 i (0 : Fin 1)) = _ :=
      newSum_at (hst (bufs m c) (ropedQ m c) b h n).m (hst (bufs m c) (ropedQ m c) b h n).l (scores (bufs m c) (ropedQ m c) b h (Fin.ofNat 4 n)) i
    have ea : (hst (bufs m c) (ropedQ m c) b h (n + 1)).a (ix2 i d) = _ :=
      newAcc_at (hst (bufs m c) (ropedQ m c) b h n).m (hst (bufs m c) (ropedQ m c) b h n).a (scores (bufs m c) (ropedQ m c) b h (Fin.ofNat 4 n))
        (fun j => scaleV (bufs m c) (slotAt (Fin.ofNat 4 n) j)) (valsF (bufs m c) b h (Fin.ofNat 4 n)) i d
    have ew : ∀ j : Fin 1024, Ideal.exp (((score W.K q b h (posn c i) (col c (Fin.ofNat 4 n) j) : ℝ) : EReal) - (ν : EReal))
          * scaleV (bufs m c) (slotAt (Fin.ofNat 4 n) ⟨j.val / 128, by have := j.isLt; omega⟩) * valsF (bufs m c) b h (Fin.ofNat 4 n) (ix2 j d)
        = Ideal.exp (((score W.K q b h (posn c i) (col c (Fin.ofNat 4 n) j) : ℝ) : EReal) - (ν : EReal)) * ((deq W.V b (col c (Fin.ofNat 4 n) j) (hcol h d) : ℝ) : EReal) :=
      fun j => by
        rw [scaleV_at H, vals_at H, ← col_block, ← EReal.coe_sub, Ideal.exp_coe,
          Cert.Attn.scaled_code W.V (col c (Fin.ofNat 4 n) j) _ (1 / 127) _ (fun ht => by rw [Cert.Attn.cd_top ht]; simp), ← EReal.coe_mul]
        refine congrArg (fun x : ℝ => (x : EReal)) ?_
        unfold deq
        ring
    rw [em'] at el ea
    simp only [scores_at H hq] at el ea
    rw [hμ, hν] at em el ea st
    simp only [ew] at ea
    rw [em, el, ea]
    exact st

/-! ## The result -/

theorem headOut_at (t : St Ideal) (i : Fin 128) (d : Fin 64) : headOut t (ix2 i d) = Ideal.div (t.a (ix2 i d)) (t.l (ix2 i (0 : Fin 1))) := by
  pointwise [headOut]

theorem rowOut_at (t : Fin 4 → St Ideal) (i : Fin 128) (k : Fin 256) :
    rowOut (t 0) (t 1) (t 2) (t 3) (ix2 i k)
      = headOut (t ⟨k.val / 64, by have := k.isLt; omega⟩) (ix2 i (⟨k.val % 64, Nat.mod_lt _ (by decide)⟩ : Fin 64)) := by
  have hk := k.isLt
  have key : ∀ (n : Fin 4) (e : Fin 64), e.val = k.val % 64 → n.val = k.val / 64 →
      headOut (t n) (ix2 i e) = headOut (t ⟨k.val / 64, by omega⟩) (ix2 i (⟨k.val % 64, Nat.mod_lt _ (by decide)⟩ : Fin 64)) := fun n e he hn => by
    rw [show e = ⟨k.val % 64, Nat.mod_lt _ (by decide)⟩ from Fin.ext he, show n = ⟨k.val / 64, by omega⟩ from Fin.ext hn]
  have h0 := key 0; have h1 := key 1; have h2 := key 2; have h3 := key 3
  unfold rowOut
  generalize headOut (t 0) = a0 at h0 ⊢
  generalize headOut (t 1) = a1 at h1 ⊢
  generalize headOut (t 2) = a2 at h2 ⊢
  generalize headOut (t 3) = a3 at h3 ⊢
  pointwise []
  split_ifs <;> first
    | exact h0 _ (by dsimp only; omega) (by show 0 = _; omega)
    | exact h1 _ (by dsimp only; omega) (by show 1 = _; omega)
    | exact h2 _ (by dsimp only; omega) (by show 2 = _; omega)
    | exact h3 _ (by dsimp only; omega) (by show 3 = _; omega)

theorem ctxOut_at (t : Fin 2 → Fin 4 → St Ideal) (r k : Fin 256) :
    ctxOut t (ix2 r k) = rowOut (t (rowB r) 0) (t (rowB r) 1) (t (rowB r) 2) (t (rowB r) 3) (ix2 (⟨r.val % 128, Nat.mod_lt _ (by decide)⟩ : Fin 128) k) := by
  have hr := r.isLt
  have key : ∀ (n : Fin 2) (e : Fin 128), e.val = r.val % 128 → n.val = r.val / 128 →
      rowOut (t n 0) (t n 1) (t n 2) (t n 3) (ix2 e k)
        = rowOut (t (rowB r) 0) (t (rowB r) 1) (t (rowB r) 2) (t (rowB r) 3) (ix2 (⟨r.val % 128, Nat.mod_lt _ (by decide)⟩ : Fin 128) k) := fun n e he hn => by
    rw [show e = ⟨r.val % 128, Nat.mod_lt _ (by decide)⟩ from Fin.ext he, show n = rowB r from Fin.ext hn]
  have h0 := key 0; have h1 := key 1
  unfold ctxOut
  generalize rowOut (t 0 0) (t 0 1) (t 0 2) (t 0 3) = a0 at h0 ⊢
  generalize rowOut (t 1 0) (t 1 1) (t 1 2) (t 1 3) = a1 at h1 ⊢
  pointwise []
  split_ifs <;> first
    | exact h0 _ (by dsimp only; omega) (by show 0 = _; omega)
    | exact h1 _ (by dsimp only; omega) (by show 1 = _; omega)

theorem finalOut_at (t : Fin 2 → Fin 4 → St Ideal) (wo : Vec Ideal S256x512 .f32) (b : Fin 2) (i : Fin 128) (e : Fin 512) :
    finalOut t wo (ix3 b i e) = ∑ k : Fin 256, Ideal.div ((t b ⟨k.val / 64, by have := k.isLt; omega⟩).a (ix2 i (⟨k.val % 64, Nat.mod_lt _ (by decide)⟩ : Fin 64)))
      ((t b ⟨k.val / 64, by have := k.isLt; omega⟩).l (ix2 i (0 : Fin 1))) * wo (ix2 k e) := by
  have h : finalOut t wo (ix3 b i e) = ∑ k : Fin 256, ctxOut t (ix2 (⟨b.val * 128 + i.val, by omega⟩ : Fin 256) k) * wo (ix2 k e) := by
    generalize hc : ctxOut t = C
    unfold finalOut
    rw [hc]
    pointwise []
  rw [h]
  have e1 : rowB (⟨b.val * 128 + i.val, by omega⟩ : Fin 256) = b := Fin.ext (by show (b.val * 128 + i.val) / 128 = _; omega)
  have e2 : (⟨(b.val * 128 + i.val) % 128, Nat.mod_lt _ (by decide)⟩ : Fin 128) = i := Fin.ext (by show (b.val * 128 + i.val) % 128 = _; omega)
  simp only [ctxOut_at, e1, e2, rowOut_at, headOut_at]

/-- Device `c`'s result at an index. -/
theorem kernel_at (H : Holds m W) (hq : ∀ b n k, W.Q b n k = (q b n k : EReal)) (c : Dev nD) (b : Fin 2) (i : Fin 128) (e : Fin 512) :
    finalOut (fun b h => hst (bufs m c) (ropedQ m c) b h 4) (stO m c) (ix3 b i e)
      = ∑ k : Fin 256, (((sumB (fun g j => score W.K q b ⟨k.val / 64, by have := k.isLt; omega⟩ (posn c i) (col c g j)) (fun g j => deq W.V b (col c g j) k) 4
          / sumA (fun g j => score W.K q b ⟨k.val / 64, by have := k.isLt; omega⟩ (posn c i) (col c g j)) 4 : ℝ) : EReal) * W.Wo k e) := by
  rw [finalOut_at]
  refine Finset.sum_congr rfl fun k _ => ?_
  have hk : hcol ⟨k.val / 64, by have := k.isLt; omega⟩ ⟨k.val % 64, Nat.mod_lt _ (by decide)⟩ = k :=
    Fin.ext (by show 64 * (k.val / 64) + k.val % 64 = k.val; omega)
  have held := hst_held H hq c b ⟨k.val / 64, by have := k.isLt; omega⟩ i ⟨k.val % 64, Nat.mod_lt _ (by decide)⟩ 4
  rw [hk] at held
  rw [Cert.Attn.held_quot held, H.o]
  show 0 < sumA _ 3 + _
  have pos : ∀ (S : Fin 4 → Fin 1024 → ℝ) n, 0 ≤ sumA S n := fun S n => by
    induction n with
    | zero => exact le_refl _
    | succ n ih => exact add_nonneg ih (Finset.sum_nonneg fun j _ => (Real.exp_pos _).le)
  exact add_pos_of_nonneg_of_pos (pos _ 3) (Finset.sum_pos (fun j _ => Real.exp_pos _) ⟨0, Finset.mem_univ _⟩)

end Cert.KernelIdeal.Attn

end
-- ==== Proof.Ideal.Reindex.lean ====
/-
The kernel's columns, four groups of 1024, are the 4096 positions in another order.
-/
module

public import proofs.«01_k».proof.Proof.Ideal.Heads

@[expose] public section

noncomputable section

namespace Cert.KernelIdeal.Attn

open Cert.KernelIdeal Cert.KernelIdeal.Gen
open Idealize.ShloMosaic
open Cert.Attn (posn)

theorem col_val (c : Dev nD) (g : Fin 4) (j : Fin 1024) : (col c g j).val = 128 * ((c.val + (8 * g.val + j.val / 128)) % 32) + j.val % 128 := by
  unfold col posn
  have := g.isLt; have := j.isLt
  show 128 * (c + slotAt g _).val + _ = _
  rw [Fin.val_add]
  rfl

/-- Every position is one column of one group. -/
theorem col_bijective (c : Dev nD) : Function.Bijective (fun p : Fin 4 × Fin 1024 => col c p.1 p.2) := by
  rw [Fintype.bijective_iff_injective_and_card]
  refine ⟨fun p q h => ?_, by simp⟩
  have e := congrArg Fin.val h
  dsimp only at e
  rw [col_val, col_val] at e
  obtain ⟨⟨g, hg⟩, ⟨j, hj⟩⟩ := p
  obtain ⟨⟨g', hg'⟩, ⟨j', hj'⟩⟩ := q
  have hc : c.val < 32 := c.isLt
  dsimp only at e
  have e1 : j % 128 = j' % 128 := by omega
  have e2 : (c.val + (8 * g + j / 128)) % 32 = (c.val + (8 * g' + j' / 128)) % 32 := by omega
  have e3 : 8 * g + j / 128 = 8 * g' + j' / 128 := by omega
  have e4 : g = g' := by omega
  have e5 : j = j' := by omega
  subst e4 e5
  rfl

/-- A sum over the groups and their columns is the sum over the positions. -/
theorem sum_cols (c : Dev nD) (f : Fin 4096 → ℝ) : ∑ g : Fin 4, ∑ j : Fin 1024, f (col c g j) = ∑ k, f k := by
  rw [← Fintype.sum_prod_type' (f := fun g j => f (col c g j))]
  exact Fintype.sum_bijective _ (col_bijective c) _ _ fun _ => rfl

theorem sumA_all (c : Dev nD) (f : Fin 4096 → ℝ) : sumA (fun g j => f (col c g j)) 4 = ∑ k, Real.exp (f k) := by
  rw [← sum_cols c fun k => Real.exp (f k), Fin.sum_univ_four]
  show 0 + _ + _ + _ + _ = _
  rw [zero_add]
  rfl

theorem sumB_all (c : Dev nD) (f v : Fin 4096 → ℝ) :
    sumB (fun g j => f (col c g j)) (fun g j => v (col c g j)) 4 = ∑ k, Real.exp (f k) * v k := by
  rw [← sum_cols c fun k => Real.exp (f k) * v k, Fin.sum_univ_four]
  show 0 + _ + _ + _ + _ = _
  rw [zero_add]
  rfl

end Cert.KernelIdeal.Attn

end
-- ==== Proof.Reference.Parts.lean ====
/-
The reference's value, cut into the steps a reader would name: the angles, the rotation, the quantiser, the attention.
-/
module

public import proofs.«01_k».proof.Proof.Gen.ReferenceIdeal.Run
public import Idealize.ShloMosaic.Lib.Pointwise

@[expose] public section
set_option maxRecDepth 8192
noncomputable section
namespace Cert.ReferenceIdeal.Attn
open Cert.ReferenceIdeal Cert.ReferenceIdeal.Gen Idealize.ShloMosaic Idealize.ShloMosaic.TcCoe

variable {F : FTy → Type} [FloatOps F]

/-- Position `n` times the frequency of column pair `j`. -/
def angles : FVec F S4096x32 .f32 :=
  mulf (broadcastInDim S4096x32 ![0, 1] bcast_S4096x1_S4096x32_0_1 (sitofp .f32 (broadcastInDim S4096x1 ![0] bcast_S4096_S4096x1_0 (iotaInDim S4096 32 0))))
    (broadcastInDim S4096x32 ![0, 1] bcast_S1x32_S4096x32_0_1 (broadcastInDim S1x32 ![1] bcast_S32_S1x32_1
      (Host.divf (broadcastInDim S32 ![] bcast_S_S32 (constant S_ .f32 0x3F800000#32)) (Host.powf (broadcastInDim S32 ![] bcast_S_S32 (constant S_ .f32 0x461C4000#32))
        (Host.divf (sitofp .f32 (addi (broadcastInDim S32 ![] bcast_S_S32 (constantI S_ 32 0#32)) (muli (broadcastInDim S32 ![] bcast_S_S32 (constantI S_ 32 2#32)) (iotaInDim S32 32 0))))
          (broadcastInDim S32 ![] bcast_S_S32 (constant S_ .f32 0x42800000#32)))))))

/-- A function of the angles, over all columns of all heads. -/
def table (t : FVec F S4096x32 .f32) : FVec F S2x4096x4x64 .f32 :=
  broadcastInDim S2x4096x4x64 ![0, 1, 2, 3] bcast_S1x4096x1x64_S2x4096x4x64_0_1_2_3 (broadcastInDim S1x4096x1x64 ![1, 3] bcast_S4096x64_S1x4096x1x64_1_3
    (shapeCast _ (broadcastInDim S4096x32x2 ![0, 1] bcast_S4096x32_S4096x32x2_0_1 t) shapeCasts_S4096x32x2_S4096x64))

/-- The projection by `w`. -/
def proj (x : FVec F S2x4096x512 .f32) (w : FVec F S512x256 .f32) : FVec F S2x4096x256 .f32 :=
  Host.dotGeneral dot_S2x4096x512_S512x256_S2x4096x256_2_0_01_1_n_n none x w

/-- Every pair of columns turned a quarter: the second negated in the first's place, the first in the second's. -/
def quarter (p : FVec F S2x4096x4x64 .f32) : FVec F S2x4096x4x64 .f32 :=
  shapeCast _ (concatenate S2x4096x4x32x2 4 [⟨S2x4096x4x32x1, (broadcastInDim S2x4096x4x32x1 ![0, 1, 2, 3] bcast_S2x4096x4x32_S2x4096x4x32x1_0_1_2_3
      (Host.negf (shapeCast _ (extractStridedSlice S2x4096x4x32x1 ![0, 0, 0, 0, 1] (shapeCast _ p shapeCasts_S2x4096x4x64_S2x4096x4x32x2)
        slices_S2x4096x4x32x2_S2x4096x4x32x1_0_0_0_0_1) shapeCasts_S2x4096x4x32x1_S2x4096x4x32)))⟩,
    ⟨S2x4096x4x32x1, (broadcastInDim S2x4096x4x32x1 ![0, 1, 2, 3] bcast_S2x4096x4x32_S2x4096x4x32x1_0_1_2_3
      (shapeCast _ (extractStridedSlice S2x4096x4x32x1 ![0, 0, 0, 0, 0] (shapeCast _ p shapeCasts_S2x4096x4x64_S2x4096x4x32x2)
        slices_S2x4096x4x32x2_S2x4096x4x32x1_0_0_0_0_0) shapeCasts_S2x4096x4x32x1_S2x4096x4x32))⟩]
    concatenates_S2x4096x4x32x1_S2x4096x4x32x1_S2x4096x4x32x2_d4) shapeCasts_S2x4096x4x32x2_S2x4096x4x64

/-- The rotation of a projection, its columns split into heads. -/
def rotated (p : FVec F S2x4096x256 .f32) : FVec F S2x4096x4x64 .f32 :=
  addf (mulf (shapeCast _ p shapeCasts_S2x4096x256_S2x4096x4x64) (table (Host.cos angles)))
    (mulf (quarter (shapeCast _ p shapeCasts_S2x4096x256_S2x4096x4x64)) (table (Host.sin angles)))

/-- Every block's largest absolute value. -/
def largest (t : FVec F S2x32x128x256 .f32) : FVec F S1x32x1x1 .f32 :=
  broadcastInDim S1x32x1x1 ![1] bcast_S32_S1x32x1x1_1
    (Host.reduce FloatOps.maximumf (Host.absf t) (constant S_ .f32 0xFF800000#32) reducesTo_S2x32x128x256_S32_d0_2_3 h_S_)

/-- The codes of a blocked array. -/
def codes (t : FVec F S2x32x128x256 .f32) : IVec S2x32x128x256 32 :=
  extsi 32 (trunci 8 (fptosi 32 (Host.roundeven (mulf t (broadcastInDim S2x32x128x256 ![0, 1, 2, 3] bcast_S1x32x1x1_S2x32x128x256_0_1_2_3
    (Host.divf (broadcastInDim S1x32x1x1 ![] bcast_S_S1x32x1x1 (constant S_ .f32 0x42FE0000#32)) (largest t)))))) natLt_8_32) natLt_8_32

/-- What the codes of a blocked array stand for, the columns split into heads. -/
def quantized (t : FVec F S2x32x128x256 .f32) : FVec F S2x4096x4x64 .f32 :=
  shapeCast _ (shapeCast S2x4096x256 (mulf (sitofp .f32 (codes t)) (broadcastInDim S2x32x128x256 ![0, 1, 2, 3] bcast_S1x32x1x1_S2x32x128x256_0_1_2_3
    (Host.divf (largest t) (broadcastInDim S1x32x1x1 ![] bcast_S_S1x32x1x1 (constant S_ .f32 0x42FE0000#32)))))
    shapeCasts_S2x32x128x256_S2x4096x256) shapeCasts_S2x4096x256_S2x4096x4x64

/-- The scores. -/
def scores (q k : FVec F S2x4096x4x64 .f32) : FVec F S2x4x4096x4096 .f32 :=
  mulf (Host.dotGeneral dot_S2x4096x4x64_S2x4096x4x64_S2x4x4096x4096_3_3_1_1_02_02 none q k)
    (broadcastInDim S2x4x4096x4096 ![] bcast_S_S2x4x4096x4096 (constant S_ .f32 0x3E000000#32))

/-- The exponentials of the scores less their row's largest. -/
def expd (s : FVec F S2x4x4096x4096 .f32) : FVec F S2x4x4096x4096 .f32 :=
  Host.exp (subf s (broadcastInDim S2x4x4096x4096 ![0, 1, 2, 3] bcast_S2x4x4096x1_S2x4x4096x4096_0_1_2_3 (broadcastInDim S2x4x4096x1 ![0, 1, 2] bcast_S2x4x4096_S2x4x4096x1_0_1_2
    (Host.reduce FloatOps.maximumf s (constant S_ .f32 0xFF800000#32) reducesTo_S2x4x4096x4096_S2x4x4096_d3 h_S_))))

/-- The softmax weights. -/
def soft (e : FVec F S2x4x4096x4096 .f32) : FVec F S2x4x4096x4096 .f32 :=
  Host.divf e (broadcastInDim S2x4x4096x4096 ![0, 1, 2, 3] bcast_S2x4x4096x1_S2x4x4096x4096_0_1_2_3 (broadcastInDim S2x4x4096x1 ![0, 1, 2] bcast_S2x4x4096_S2x4x4096x1_0_1_2
    (Host.reduceAdd e (constant S_ .f32 0x00000000#32) reducesTo_S2x4x4096x4096_S2x4x4096_d3 h_S_)))

/-- The context. -/
def context (w : FVec F S2x4x4096x4096 .f32) (v : FVec F S2x4096x4x64 .f32) : FVec F S2x4096x256 .f32 :=
  shapeCast _ (transpose S2x4096x4x64 [0, 3, 1, 2] (Host.dotGeneral dot_S2x4096x4x64_S2x4x4096x4096_S2x4x64x4096_1_3_3_2_02_01 none v w)
    transposes_S2x4x64x4096_S2x4096x4x64_0_3_1_2) shapeCasts_S2x4096x4x64_S2x4096x256

/-- The reference. -/
def whole (x : FVec F S2x4096x512 .f32) (wq wk wv : FVec F S512x256 .f32) (wo : FVec F S256x512 .f32) : FVec F S2x4096x512 .f32 :=
  Host.dotGeneral dot_S2x4096x256_S256x512_S2x4096x512_2_0_01_1_n_n none
    (context (soft (expd (scores (rotated (proj x wq))
      (quantized (shapeCast _ (shapeCast S2x4096x256 (rotated (proj x wk)) shapeCasts_S2x4096x4x64_S2x4096x256) shapeCasts_S2x4096x256_S2x32x128x256)))))
      (quantized (shapeCast _ (proj x wv) shapeCasts_S2x4096x256_S2x32x128x256))) wo

theorem result_eq (m : (ℓ : Loc nD τ sig) → Buf (Elt F) ℓ) (c : Dev nD) :
    Value.res_main_v118 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v118
  rfl

end Cert.ReferenceIdeal.Attn
end
-- ==== Proof.Reference.Value.lean ====
/-
The reference at an index, in the words of the model.
-/
module

public import proofs.«01_k».proof.Proof.Reference.Parts
public import proofs.«01_k».proof.Proof.Consts
public import proofs.«01_k».proof.Proof.Model
public import proofs.«01_k».proof.Proof.Softmax

@[expose] public section

set_option maxRecDepth 8192

noncomputable section

namespace Cert.ReferenceIdeal.Attn

open Cert.ReferenceIdeal Cert.ReferenceIdeal.Gen
open Idealize.ShloMosaic Idealize.ShloMosaic.TcCoe
open Cert.Attn (Arr posn blockOf rope angle partner big code cd scl deq hcol score)

/-! ## The rotation -/

theorem double_word (j : Fin 32) : IntOp.addi 0#32 (IntOp.muli 2#32 (BitVec.ofNat 32 j.val)) = BitVec.ofNat 32 (2 * j.val) := by
  revert j; decide +kernel

theorem angles_at (n : Fin 4096) (j : Fin 32) : angles (F := Ideal) (ix2 n j) = ((angle n.val j.val : ℝ) : EReal) := by
  have one : Ideal.ofBits .f32 0x3F800000#32 = ((1 : ℝ) : EReal) := by
    simp [Ideal.ofBits, Ideal.ieee]; norm_cast; norm_num
  pointwise [angles]
  rw [double_word, Cert.Attn.nat_word _ n.isLt, Cert.Attn.nat_word _ (by omega), Cert.Attn.lit_10000, Cert.Attn.lit_64,
    Ideal.div_coe (by norm_num), ← EReal.coe_mul, Ideal.pow_coe_coe, Ideal.div_coe (by exact (Real.rpow_pos_of_pos (by norm_num) _).ne')]
  rw [one_mul, ← EReal.coe_mul]
  refine congrArg (fun x : ℝ => (x : EReal)) ?_
  unfold angle
  rw [Real.rpow_neg (by norm_num), one_div]
  congr 3
  push_cast
  ring

theorem table_at (t : FVec Ideal S4096x32 .f32) (b : Fin 2) (n : Fin 4096) (h : Fin 4) (d : Fin 64) :
    table t (ix4 b n h d) = t (ix2 n (⟨d.val / 2, by omega⟩ : Fin 32)) := by
  pointwise [table]

theorem quarter_at (p : FVec Ideal S2x4096x4x64 .f32) (b : Fin 2) (n : Fin 4096) (h : Fin 4) (d : Fin 64) :
    quarter p (ix4 b n h d) = if d.val % 2 < 1 then -p (ix4 b n h (⟨d.val / 2 * 2 + 1, by omega⟩ : Fin 64)) else p (ix4 b n h (⟨d.val / 2 * 2, by omega⟩ : Fin 64)) := by
  pointwise [quarter]
  split_ifs <;> rfl

theorem split_at (p : FVec Ideal S2x4096x256 .f32) (b : Fin 2) (n : Fin 4096) (h : Fin 4) (d : Fin 64) :
    shapeCast S2x4096x4x64 p shapeCasts_S2x4096x256_S2x4096x4x64 (ix4 b n h d) = p (ix3 b n (hcol h d)) := by
  pointwise []
  exact congrArg (fun k => p (ix3 b n k)) (Fin.ext (by show h.val * 64 + d.val = 64 * h.val + d.val; omega))

theorem turn_at (u v w z : FVec Ideal S2x4096x4x64 .f32) (i : S2x4096x4x64.Idx) : addf (mulf u v) (mulf w z) i = u i * v i + w i * z i := rfl
theorem cos_of (t : FVec Ideal S4096x32 .f32) (i : S4096x32.Idx) : Host.cos t i = Ideal.cos (t i) := rfl
theorem sin_of (t : FVec Ideal S4096x32 .f32) (i : S4096x32.Idx) : Host.sin t i = Ideal.sin (t i) := rfl

theorem rotated_at {p : FVec Ideal S2x4096x256 .f32} {P : Arr} (hp : ∀ b n k, p (ix3 b n k) = P b n k) (b : Fin 2) (n : Fin 4096) (h : Fin 4) (d : Fin 64) :
    rotated p (ix4 b n h d) = rope P b n (hcol h d) := by
  unfold rotated
  rw [turn_at, table_at, table_at, cos_of, sin_of, quarter_at, split_at, split_at, split_at, angles_at, Ideal.cos_coe, Ideal.sin_coe, hp, hp, hp]
  have hh := h.isLt; have hd := d.isLt
  have ha : (hcol h d).val % 64 / 2 = d.val / 2 := by show (64 * h.val + d.val) % 64 / 2 = d.val / 2; omega
  unfold rope
  rw [ha]
  by_cases hz : d.val % 2 = 0
  · have h2 : (hcol h d).val % 2 = 0 := by show (64 * h.val + d.val) % 2 = 0; omega
    have h3 : hcol h (⟨d.val / 2 * 2 + 1, by omega⟩ : Fin 64) = partner (hcol h d) := by
      unfold partner; rw [dif_pos h2]; exact Fin.ext (by show 64 * h.val + (d.val / 2 * 2 + 1) = 64 * h.val + d.val + 1; omega)
    rw [if_pos (by omega), if_pos h2, h3]
  · have h2 : ¬ (hcol h d).val % 2 = 0 := by show ¬ (64 * h.val + d.val) % 2 = 0; omega
    have h3 : hcol h (⟨d.val / 2 * 2, by omega⟩ : Fin 64) = partner (hcol h d) := by
      unfold partner; rw [dif_neg h2]; exact Fin.ext (by show 64 * h.val + (d.val / 2 * 2) = 64 * h.val + d.val - 1; omega)
    rw [if_neg (by omega), if_neg h2, h3]

/-! ## The quantiser -/

/-- `t` is `P` in blocks of 128 positions. -/
def Blocked (t : FVec Ideal S2x32x128x256 .f32) (P : Arr) : Prop := ∀ b r i k, t (ix4 b r i k) = P b (posn r i) k

theorem largest_fold (t : FVec Ideal S2x32x128x256 .f32) (r : Fin 32) :
    largest t (ix4 (0 : Fin 1) r (0 : Fin 1) (0 : Fin 1))
      = Finset.fold max (Ideal.ofBits .f32 0xFF800000#32) (fun x => FloatOps.absf (t x)) (Finset.univ.filter fun i => reducesTo_S2x32x128x256_S32_d0_2_3.drop i = ix1 r) := by
  pointwise [largest]

theorem drop_eq (x : S2x32x128x256.Idx) (r : Fin 32) : reducesTo_S2x32x128x256_S32_d0_2_3.drop x = ix1 r ↔ x 1 = r := by
  have hv : (reducesTo_S2x32x128x256_S32_d0_2_3.drop x 0 : Nat) = x 1 := Shape.ReducesTo.drop_apply_val reducesTo_S2x32x128x256_S32_d0_2_3 x 0
  constructor
  · intro e
    rw [e] at hv
    exact Fin.ext hv.symm
  · intro e
    funext a
    fin_cases a
    exact Fin.ext (hv.trans (congrArg Fin.val e))

theorem largest_at {t : FVec Ideal S2x32x128x256 .f32} {P : Arr} (h : Blocked t P) (r : Fin 32) :
    largest t (ix4 (0 : Fin 1) r (0 : Fin 1) (0 : Fin 1)) = big P r := by
  rw [largest_fold, Cert.Attn.lit_neg_inf]
  have hx : ∀ x : S2x32x128x256.Idx, x = ix4 (x 0) (x 1) (x 2) (x 3) := fun x => by funext a; fin_cases a <;> rfl
  apply le_antisymm
  · refine Finset.fold_max_le _ |>.mpr ⟨bot_le, fun x hm => ?_⟩
    have e : x 1 = r := (drop_eq x r).mp (Finset.mem_filter.mp hm).2
    have ex : t x = P (x 0) (posn (x 1) (x 2)) (x 3) := (congrArg t (hx x)).trans (h (x 0) (x 1) (x 2) (x 3))
    show max (t x) (-t x) ≤ _
    rw [ex, e]
    exact Finset.le_sup (f := fun x : Fin 2 × Fin 128 × Fin 256 => max (P x.1 (posn r x.2.1) x.2.2) (-P x.1 (posn r x.2.1) x.2.2))
      (Finset.mem_univ ((x 0 : Fin 2), (x 2 : Fin 128), (x 3 : Fin 256)))
  · refine Finset.sup_le fun x _ => ?_
    refine Finset.le_fold_max _ |>.mpr (Or.inr ⟨ix4 x.1 r x.2.1 x.2.2, Finset.mem_filter.mpr ⟨Finset.mem_univ _, (drop_eq _ r).mpr rfl⟩, ?_⟩)
    show _ ≤ max (t (ix4 x.1 r x.2.1 x.2.2)) (-t (ix4 x.1 r x.2.1 x.2.2))
    rw [h]

theorem factor_at (s : FVec Ideal S1x32x1x1 .f32) (b : Fin 2) (r : Fin 32) (i : Fin 128) (k : Fin 256) :
    broadcastInDim S2x32x128x256 ![0, 1, 2, 3] bcast_S1x32x1x1_S2x32x128x256_0_1_2_3 s (ix4 b r i k) = s (ix4 (0 : Fin 1) r (0 : Fin 1) (0 : Fin 1)) := by
  pointwise []

theorem code_of (t s : FVec Ideal S2x32x128x256 .f32) (i : S2x32x128x256.Idx) :
    extsi 32 (trunci 8 (fptosi 32 (Host.roundeven (mulf t s))) natLt_8_32) natLt_8_32 i
      = ((Ideal.fptosi 32 (Ideal.liftRound Ideal.roundHalfEven (t i * s i))).setWidth 8).signExtend 32 := rfl
theorem over_at (s : FVec Ideal S1x32x1x1 .f32) (r : Fin 32) :
    Host.divf (broadcastInDim S1x32x1x1 ![] bcast_S_S1x32x1x1 (constant S_ .f32 0x42FE0000#32)) s (ix4 (0 : Fin 1) r (0 : Fin 1) (0 : Fin 1))
      = Ideal.div ((127 : ℝ) : EReal) (s (ix4 (0 : Fin 1) r (0 : Fin 1) (0 : Fin 1))) := by
  rw [← Cert.Attn.lit_127]
  pointwise []

theorem codes_at {t : FVec Ideal S2x32x128x256 .f32} {P : Arr} (h : Blocked t P) (b : Fin 2) (r : Fin 32) (i : Fin 128) (k : Fin 256) :
    (codes t (ix4 b r i k)).toInt = cd P b (posn r i) k := by
  have eb : blockOf (posn r i) = r := Fin.ext (by show (128 * r.val + i.val) / 128 = r.val; omega)
  have hb := Cert.Attn.big_ge P b (posn r i) k
  rw [eb] at hb
  unfold codes
  rw [code_of, factor_at, over_at, largest_at h, h]
  unfold cd
  rw [eb]
  exact (Cert.Attn.code_spec hb).2.1

theorem quantized_at {t : FVec Ideal S2x32x128x256 .f32} {P : Arr} (h : Blocked t P) (b : Fin 2) (n : Fin 4096) (hh : Fin 4) (d : Fin 64) :
    quantized t (ix4 b n hh d) = ((deq P b n (hcol hh d) : ℝ) : EReal) := by
  have hn : posn (⟨n.val / 128, by omega⟩ : Fin 32) (⟨n.val % 128, Nat.mod_lt _ (by decide)⟩ : Fin 128) = n :=
    Fin.ext (by show 128 * (n.val / 128) + n.val % 128 = n.val; omega)
  have e : quantized t (ix4 b n hh d) = FloatOps.sitofp (F := Ideal) .f32 (codes t (ix4 b (⟨n.val / 128, by omega⟩ : Fin 32) (⟨n.val % 128, Nat.mod_lt _ (by decide)⟩ : Fin 128) (hcol hh d)))
      * Ideal.div (largest t (ix4 (0 : Fin 1) (⟨n.val / 128, by omega⟩ : Fin 32) (0 : Fin 1) (0 : Fin 1))) (Ideal.ofBits .f32 0x42FE0000#32) := by
    have hk : (⟨hh.val * 64 + d.val, by omega⟩ : Fin 256) = hcol hh d := Fin.ext (by show hh.val * 64 + d.val = 64 * hh.val + d.val; omega)
    rw [← hk]
    pointwise [quantized]
  rw [e, Cert.Attn.lit_127, largest_at h]
  show ((((codes t _).toInt : ℤ) : ℝ) : EReal) * _ = _
  rw [codes_at h, hn]
  exact Cert.Attn.deq_eq P b n (hcol hh d)

/-! ## The attention -/

theorem scores_at {Q K' : FVec Ideal S2x4096x4x64 .f32} {K : Arr} {q : Fin 2 → Fin 4096 → Fin 256 → ℝ}
    (hQ : ∀ b n h d, Q (ix4 b n h d) = (q b n (hcol h d) : EReal)) (hK : ∀ b n h d, K' (ix4 b n h d) = ((deq K b n (hcol h d) : ℝ) : EReal))
    (b : Fin 2) (h : Fin 4) (n k : Fin 4096) : scores Q K' (ix4 b h n k) = ((score K q b h n k : ℝ) : EReal) := by
  have e : scores Q K' (ix4 b h n k) = (∑ x : Fin 64, Q (ix4 b n h x) * K' (ix4 b k h x)) * Ideal.ofBits .f32 0x3E000000#32 := by
    pointwise [scores]
  rw [e, Cert.Attn.lit_eighth]
  simp only [hQ, hK, ← EReal.coe_mul, ← Cert.Attn.coe_sum]
  refine congrArg (fun x : ℝ => (x : EReal)) ?_
  unfold score deq
  rw [Finset.sum_mul, Finset.sum_mul]
  refine Finset.sum_congr rfl fun d _ => ?_
  ring

theorem soft_at (s : FVec Ideal S2x4x4096x4096 .f32) (b : Fin 2) (h : Fin 4) (n k : Fin 4096) :
    soft (expd s) (ix4 b h n k) = Ideal.div (Ideal.exp (s (ix4 b h n k) - Finset.fold max (⊥ : EReal) (fun x : Fin 4096 => s (ix4 b h n x)) Finset.univ))
      (∑ x : Fin 4096, Ideal.exp (s (ix4 b h n x) - Finset.fold max (⊥ : EReal) (fun x : Fin 4096 => s (ix4 b h n x)) Finset.univ)) := by
  rw [← Cert.Attn.lit_neg_inf]
  pointwise [soft, expd]

theorem context_at (w : FVec Ideal S2x4x4096x4096 .f32) (v : FVec Ideal S2x4096x4x64 .f32) (b : Fin 2) (n : Fin 4096) (k : Fin 256) :
    context w v (ix3 b n k) = ∑ x : Fin 4096, v (ix4 b x (⟨k.val / 64, by omega⟩ : Fin 4) (⟨k.val % 64, Nat.mod_lt _ (by decide)⟩ : Fin 64))
      * w (ix4 b (⟨k.val / 64, by omega⟩ : Fin 4) n x) := by
  pointwise [context]

theorem proj_at (x : FVec Ideal S2x4096x512 .f32) (w : FVec Ideal S512x256 .f32) (b : Fin 2) (n : Fin 4096) (k : Fin 256) :
    proj x w (ix3 b n k) = Cert.Attn.proj (fun b n e => x (ix3 b n e)) (fun e k => w (ix2 e k)) b n k := by
  pointwise [proj]
  rfl

theorem blocks_at (p : FVec Ideal S2x4096x256 .f32) (b : Fin 2) (r : Fin 32) (i : Fin 128) (k : Fin 256) :
    shapeCast S2x32x128x256 p shapeCasts_S2x4096x256_S2x32x128x256 (ix4 b r i k) = p (ix3 b (posn r i) k) := by
  pointwise []
  exact congrArg (fun n => p (ix3 b n k)) (Fin.ext (by show r.val * 128 + i.val = 128 * r.val + i.val; omega))

theorem merge_at (p : FVec Ideal S2x4096x4x64 .f32) (b : Fin 2) (n : Fin 4096) (k : Fin 256) :
    shapeCast S2x4096x256 p shapeCasts_S2x4096x4x64_S2x4096x256 (ix3 b n k)
      = p (ix4 b n (⟨k.val / 64, by omega⟩ : Fin 4) (⟨k.val % 64, Nat.mod_lt _ (by decide)⟩ : Fin 64)) := by
  pointwise []

theorem out_at (x : FVec Ideal S2x4096x256 .f32) (w : FVec Ideal S256x512 .f32) (b : Fin 2) (n : Fin 4096) (e : Fin 512) :
    Host.dotGeneral dot_S2x4096x256_S256x512_S2x4096x512_2_0_01_1_n_n none x w (ix3 b n e) = ∑ k : Fin 256, x (ix3 b n k) * w (ix2 k e) := by
  pointwise []

theorem hcol_split (k : Fin 256) : hcol (⟨k.val / 64, by omega⟩ : Fin 4) (⟨k.val % 64, Nat.mod_lt _ (by decide)⟩ : Fin 64) = k :=
  Fin.ext (by show 64 * (k.val / 64) + k.val % 64 = k.val; omega)

/-- The reference's result at an index, where the rotated queries are real. -/
theorem whole_at (x : FVec Ideal S2x4096x512 .f32) (wq wk wv : FVec Ideal S512x256 .f32) (wo : FVec Ideal S256x512 .f32)
    (q : Fin 2 → Fin 4096 → Fin 256 → ℝ)
    (hq : ∀ b n k, rope (Cert.Attn.proj (fun b n e => x (ix3 b n e)) (fun e k => wq (ix2 e k))) b n k = (q b n k : EReal))
    (b : Fin 2) (n : Fin 4096) (e : Fin 512) :
    whole x wq wk wv wo (ix3 b n e) = ∑ k : Fin 256,
      (((∑ i, Real.exp (score (rope (Cert.Attn.proj (fun b n e => x (ix3 b n e)) (fun e k => wk (ix2 e k)))) q b (⟨k.val / 64, by omega⟩ : Fin 4) n i)
            * deq (Cert.Attn.proj (fun b n e => x (ix3 b n e)) (fun e k => wv (ix2 e k))) b i k)
          / (∑ i, Real.exp (score (rope (Cert.Attn.proj (fun b n e => x (ix3 b n e)) (fun e k => wk (ix2 e k)))) q b (⟨k.val / 64, by omega⟩ : Fin 4) n i)) : ℝ) : EReal)
        * wo (ix2 k e) := by
  have hK : Blocked (shapeCast S2x32x128x256 (shapeCast S2x4096x256 (rotated (proj x wk)) shapeCasts_S2x4096x4x64_S2x4096x256) shapeCasts_S2x4096x256_S2x32x128x256)
      (rope (Cert.Attn.proj (fun b n e => x (ix3 b n e)) (fun e k => wk (ix2 e k)))) := fun b r i k => by
    rw [blocks_at, merge_at, rotated_at (proj_at x wk), hcol_split]
  have hV : Blocked (shapeCast S2x32x128x256 (proj x wv) shapeCasts_S2x4096x256_S2x32x128x256)
      (Cert.Attn.proj (fun b n e => x (ix3 b n e)) (fun e k => wv (ix2 e k))) := fun b r i k => by
    rw [blocks_at, proj_at]
  have hS := scores_at (Q := rotated (proj x wq)) (q := q) (fun b n h d => by rw [rotated_at (proj_at x wq), hq]) (quantized_at hK)
  unfold whole
  rw [out_at]
  refine Finset.sum_congr rfl fun k _ => congrArg (· * wo (ix2 k e)) ?_
  rw [context_at]
  simp only [soft_at, hS, quantized_at hV, hcol_split]
  exact Cert.Attn.softmax_sum _ _ 0

end Cert.ReferenceIdeal.Attn

end
-- ==== Proof.Algebraic.lean ====
/-
The value claim: what each device's result holds after the idealized kernel's run is its block of what the reference computes.
-/
module

public import proofs.«01_k».proof.Defs
public import proofs.«01_k».proof.Proof.Finite
public import proofs.«01_k».proof.Proof.Ideal.Run
public import proofs.«01_k».proof.Proof.Ideal.Outcome
public import proofs.«01_k».proof.Proof.Ideal.Reindex
public import proofs.«01_k».proof.Proof.Reference.Value
public import Idealize.ShloMosaic.Lib.Pipeline.ValueKit

@[expose] public section

set_option maxRecDepth 8192

noncomputable section

namespace Cert.KernelIdeal.Attn

open Cert.KernelIdeal Cert.KernelIdeal.Gen
open Idealize.ShloMosaic Idealize.ShloMosaic.TcCoe Idealize.SL.Sem

section Kernel

variable (m : (ℓ : Loc nD τ sig) → Buf (Elt Ideal) ℓ) (ρ : Dev nD → PrngReg)

/-- The result's array after the run is what the body leaves. -/
theorem finalA_out (c : Dev nD) : finalA m ρ c 5 = outAt m c := by
  unfold finalA
  refine (dats m ρ 0 c).arrAt_eq_of_after_last 5 t0_0 (by decide +kernel) _ fun j => ?_
  blk_simp
  rfl

/-! What a device stages of its arguments is the arguments, at an index. -/

theorem stX_at (c : Dev nD) (b : Fin 2) (i : Fin 128) (e : Fin 512) :
    stX m c (ix3 b i e) = m ((c : Thread nD τ).loc main_arg0) (ix3 b i e) := by
  unfold stX
  refine congrArg (m ((c : Thread nD τ).loc main_arg0)) (funext fun a => Fin.ext ?_)
  fin_cases a <;> (blk_simp; exact Nat.zero_add _)
theorem stQ_at (c : Dev nD) (e : Fin 512) (k : Fin 256) : stQ m c (ix2 e k) = m ((c : Thread nD τ).loc main_arg1) (ix2 e k) := by
  unfold stQ
  refine congrArg (m ((c : Thread nD τ).loc main_arg1)) (funext fun a => Fin.ext ?_)
  fin_cases a <;> (blk_simp; exact Nat.zero_add _)
theorem stK_at (c : Dev nD) (e : Fin 512) (k : Fin 256) : stK m c (ix2 e k) = m ((c : Thread nD τ).loc main_arg2) (ix2 e k) := by
  unfold stK
  refine congrArg (m ((c : Thread nD τ).loc main_arg2)) (funext fun a => Fin.ext ?_)
  fin_cases a <;> (blk_simp; exact Nat.zero_add _)
theorem stV_at (c : Dev nD) (e : Fin 512) (k : Fin 256) : stV m c (ix2 e k) = m ((c : Thread nD τ).loc main_arg3) (ix2 e k) := by
  unfold stV
  refine congrArg (m ((c : Thread nD τ).loc main_arg3)) (funext fun a => Fin.ext ?_)
  fin_cases a <;> (blk_simp; exact Nat.zero_add _)
theorem stO_at (c : Dev nD) (k : Fin 256) (e : Fin 512) : stO m c (ix2 k e) = m ((c : Thread nD τ).loc main_arg4) (ix2 k e) := by
  unfold stO
  refine congrArg (m ((c : Thread nD τ).loc main_arg4)) (funext fun a => Fin.ext ?_)
  fin_cases a <;> (blk_simp; exact Nat.zero_add _)

end Kernel

/-- Block `c` of a whole array, at an index: the whole array at position `i` of block `c`. -/
theorem block_at (v : (⟨3, ![2, 4096, 512]⟩ : Shape).Idx → EReal) (h : Layout.Tiles ⟨3, ![2, 128, 512]⟩ ⟨3, ![2, 4096, 512]⟩ 1 32)
    (c : Dev nD) (b : Fin 2) (i : Fin 128) (e : Fin 512) :
    Layout.block ⟨3, ![2, 128, 512]⟩ ⟨3, ![2, 4096, 512]⟩ 1 32 c v h (ix3 b i e) = v (ix3 b (Cert.Attn.posn c i) e) := by
  rw [Layout.block_apply]
  refine congrArg v (funext fun a => Fin.ext ?_)
  fin_cases a
  · rfl
  · show c.val * 128 + i.val = 128 * c.val + i.val
    omega
  · rfl

/-! ## The value of the runs -/

section Value

open Cert.Attn (posn rope)

/-- The five whole arrays, as functions. -/
abbrev globalOf (x : FVec Ideal ⟨3, ![2, 4096, 512]⟩ .f32) (wq wk wv : FVec Ideal ⟨2, ![512, 256]⟩ .f32) (wo : FVec Ideal ⟨2, ![256, 512]⟩ .f32) : Global where
  X := fun b n e => x (ix3 b n e)
  Wq := fun e k => wq (ix2 e k)
  Wk := fun e k => wk (ix2 e k)
  Wv := fun e k => wv (ix2 e k)
  Wo := fun k e => wo (ix2 k e)

/-- With a real input and real query weights, the rotated queries are real. -/
theorem queries_real (W : Global) (hx : ∀ b n e, ∃ r : ℝ, W.X b n e = (r : EReal)) (hw : ∀ e k, ∃ r : ℝ, W.Wq e k = (r : EReal)) :
    ∃ q : Fin 2 → Fin 4096 → Fin 256 → ℝ, ∀ b n k, W.Q b n k = (q b n k : EReal) := by
  choose x hx using hx
  choose w hw using hw
  have hp : ∀ b n k, Cert.Attn.proj W.X W.Wq b n k = ((∑ e, x b n e * w e k : ℝ) : EReal) := fun b n k => by
    unfold Cert.Attn.proj
    simp only [hx, hw, ← EReal.coe_mul, ← Cert.Attn.coe_sum]
  have h : ∀ b n k, ∃ r : ℝ, W.Q b n k = (r : EReal) := fun b n k => by
    unfold Global.Q rope
    rw [hp, hp]
    split_ifs
    · rw [← EReal.coe_neg, ← EReal.coe_mul, ← EReal.coe_mul, ← EReal.coe_add]; exact ⟨_, rfl⟩
    · rw [← EReal.coe_mul, ← EReal.coe_mul, ← EReal.coe_add]; exact ⟨_, rfl⟩
  choose q hq using h
  exact ⟨q, hq⟩

/-- Every position lies in a block. -/
theorem posn_surj (n : Fin 4096) : ∃ r i, posn r i = n :=
  ⟨Cert.Attn.blockOf n, ⟨n.val % 128, Nat.mod_lt _ (by decide)⟩, Fin.ext (by show 128 * (n.val / 128) + n.val % 128 = n.val; omega)⟩

variable {m : (ℓ : Loc nD τ sig) → Buf (Elt Ideal) ℓ}
  {x : FVec Ideal ⟨3, ![2, 4096, 512]⟩ .f32} {wq wk wv : FVec Ideal ⟨2, ![512, 256]⟩ .f32} {wo : FVec Ideal ⟨2, ![256, 512]⟩ .f32}

/-- If the devices' memories hold the blocks of the whole arrays and the queries are real, what a device's body leaves is, at an
    index, the reference's result of the whole arrays at that device's position. -/
theorem out_at (H : Holds m (globalOf x wq wk wv wo)) (q : Fin 2 → Fin 4096 → Fin 256 → ℝ)
    (hq : ∀ b n k, (globalOf x wq wk wv wo).Q b n k = (q b n k : EReal)) (c : Dev nD) (b : Fin 2) (i : Fin 128) (e : Fin 512) :
    outAt m c (ix3 b i e) = Cert.ReferenceIdeal.Attn.whole x wq wk wv wo (ix3 b (posn c i) e) := by
  have hr := Cert.ReferenceIdeal.Attn.whole_at x wq wk wv wo q hq b (posn c i) e
  refine (congrFun (outAt_eq m c) _).trans ((kernel_at H hq c b i e).trans (Eq.trans ?_ hr.symm))
  refine Finset.sum_congr (M := EReal) rfl fun k _ => ?_
  rw [sumA_all c (fun n => Cert.Attn.score (globalOf x wq wk wv wo).K q b _ (posn c i) n),
    sumB_all c (fun n => Cert.Attn.score (globalOf x wq wk wv wo).K q b _ (posn c i) n) (fun n => Cert.Attn.deq (globalOf x wq wk wv wo).V b n k)]
  rfl

end Value

end Cert.KernelIdeal.Attn

namespace Cert.Proof.Attn

open Idealize.ShloMosaic Idealize.ShloMosaic.TcCoe Idealize.SL.Sem
open Cert.KernelIdeal.Attn

/-- The value claim: if every device's memory holds its block of the input and the weights, and the input and the query weights
    are real numbers, then after the idealized kernel's run every device's result is its block of the reference's result. -/
theorem algebraic : Cert.algebraic_KernelIdeal_ReferenceIdeal_pre_finite_queries_KernelIdeal := fun m g m' g' pre held => by
  refine ⟨_, (θ_run Cert.KernelIdeal.defs _ _).mono (fun r h c => ?_) (Cert.KernelIdeal.Attn.run_main m g),
    (θ_run Cert.ReferenceIdeal.defs _ _).mono (fun r h => h 0) (Cert.ReferenceIdeal.Value.run (F := Ideal) m' g')⟩
  refine ⟨((h.1 c 5).trans (finalA_out m g c)).trans ?_, (h.1 c 0).trans (finalA_in m g c 0 rfl), (h.1 c 1).trans (finalA_in m g c 1 rfl),
    (h.1 c 2).trans (finalA_in m g c 2 rfl), (h.1 c 3).trans (finalA_in m g c 3 rfl), (h.1 c 4).trans (finalA_in m g c 4 rfl)⟩
  rw [Cert.ReferenceIdeal.Attn.result_eq]
  have H : Holds m (globalOf (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))) :=
    { x := fun c b i e => (stX_at m c b i e).trans ((congrFun (held c).1 _).trans (block_at _ _ c b i e))
      q := fun c e k => (stQ_at m c e k).trans (congrFun (held c).2.1 _)
      k := fun c e k => (stK_at m c e k).trans (congrFun (held c).2.2.1 _)
      v := fun c e k => (stV_at m c e k).trans (congrFun (held c).2.2.2.1 _)
      o := fun c k e => (stO_at m c k e).trans (congrFun (held c).2.2.2.2 _) }
  have real := fun c => real_of_pre _ _ _ _ _ (pre c)
  obtain ⟨q, hq⟩ := queries_real _
    (fun b n e => by
      obtain ⟨c, i, rfl⟩ := posn_surj n
      obtain ⟨r, hr⟩ := (real c).1 (ix3 b i e)
      exact ⟨r, (H.x c b i e).symm.trans ((stX_at m c b i e).trans hr)⟩)
    (fun e k => by
      obtain ⟨r, hr⟩ := (real 0).2 (ix2 e k)
      exact ⟨r, (H.q 0 e k).symm.trans ((stQ_at m 0 e k).trans hr)⟩)
  funext j
  obtain ⟨b, i, e, rfl⟩ : ∃ (b : Fin 2) (i : Fin 128) (e : Fin 512), j = ix3 b i e := ⟨j 0, j 1, j 2, (ix3_eta (n0 := 2) (n1 := 128) (n2 := 512) j).symm⟩
  exact (out_at H q hq c b i e).trans (block_at _ _ c b i e).symm

end Cert.Proof.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Attn.factsK, Attn.factsR,
    Attn.frame_kernel, Attn.frame_ideal, Attn.frame_ideal_pre, Attn.frame_reference, Attn.frame_reference_pre, Attn.preserves, Attn.algebraic⟩

end Cert.Proof

end
